-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v38_0)) (v1 : (c : Dev Cert.Kernel3Ideal.nD) → Buf (Elt Ideal) ((c.tc : Thread Cert.Kernel3Ideal.nD Cert.Kernel3Ideal.τ).loc Cert.Kernel3Ideal.main_v38_1)) (v2 : (c : Dev Cert.Kernel3Ideal.nD) → Buf (Elt Ideal) ((c.tc : Thread Cert.Kernel3Ideal.nD Cert.Kernel3Ideal.τ).loc Cert.Kernel3Ideal.main_v38_2)) (v3 : (c : Dev Cert.Kernel3Ideal.nD) → Buf (Elt Ideal) ((c.tc : Thread Cert.Kernel3Ideal.nD Cert.Kernel3Ideal.τ).loc Cert.Kernel3Ideal.main_v38_3)) (v4 : (c : Dev Cert.Kernel3Ideal.nD) → Buf (Elt Ideal) ((c.tc : Thread Cert.Kernel3Ideal.nD Cert.Kernel3Ideal.τ).loc Cert.Kernel3Ideal.main_v38_4)) (v5 : (c : Dev Cert.Kernel3Ideal.nD) → Buf (Elt Ideal) ((c.tc : Thread Cert.Kernel3Ideal.nD Cert.Kernel3Ideal.τ).loc Cert.Kernel3Ideal.main_v38_5)) (v6 : (c : Dev Cert.Kernel3Ideal.nD) → Buf (Elt Ideal) ((c.tc : Thread Cert.Kernel3Ideal.nD Cert.Kernel3Ideal.τ).loc Cert.Kernel3Ideal.main_v38_6)) (v7 : (c : Dev Cert.Kernel3Ideal.nD) → Buf (Elt Ideal) ((c.tc : Thread Cert.Kernel3Ideal.nD Cert.Kernel3Ideal.τ).loc Cert.Kernel3Ideal.main_v38_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v38_0) = v0 c
          ∧ r.2.mem ((c.tc : Thread Cert.Kernel3Ideal.nD Cert.Kernel3Ideal.τ).loc Cert.Kernel3Ideal.main_v38_1) = v1 c
          ∧ r.2.mem ((c.tc : Thread Cert.Kernel3Ideal.nD Cert.Kernel3Ideal.τ).loc Cert.Kernel3Ideal.main_v38_2) = v2 c
          ∧ r.2.mem ((c.tc : Thread Cert.Kernel3Ideal.nD Cert.Kernel3Ideal.τ).loc Cert.Kernel3Ideal.main_v38_3) = v3 c
          ∧ r.2.mem ((c.tc : Thread Cert.Kernel3Ideal.nD Cert.Kernel3Ideal.τ).loc Cert.Kernel3Ideal.main_v38_4) = v4 c
          ∧ r.2.mem ((c.tc : Thread Cert.Kernel3Ideal.nD Cert.Kernel3Ideal.τ).loc Cert.Kernel3Ideal.main_v38_5) = v5 c
          ∧ r.2.mem ((c.tc : Thread Cert.Kernel3Ideal.nD Cert.Kernel3Ideal.τ).loc Cert.Kernel3Ideal.main_v38_6) = v6 c
          ∧ r.2.mem ((c.tc : Thread Cert.Kernel3Ideal.nD Cert.Kernel3Ideal.τ).loc Cert.Kernel3Ideal.main_v38_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v79) = v0 c
          ∧ r.2.mem ((c.tc : Thread Cert.Reference3Ideal.nD Cert.Reference3Ideal.τ).loc Cert.Reference3Ideal.main_v82) = v1 c
          ∧ r.2.mem ((c.tc : Thread Cert.Reference3Ideal.nD Cert.Reference3Ideal.τ).loc Cert.Reference3Ideal.main_v84) = v2 c
          ∧ r.2.mem ((c.tc : Thread Cert.Reference3Ideal.nD Cert.Reference3Ideal.τ).loc Cert.Reference3Ideal.main_v87) = v3 c
          ∧ r.2.mem ((c.tc : Thread Cert.Reference3Ideal.nD Cert.Reference3Ideal.τ).loc Cert.Reference3Ideal.main_v90) = v4 c
          ∧ r.2.mem ((c.tc : Thread Cert.Reference3Ideal.nD Cert.Reference3Ideal.τ).loc Cert.Reference3Ideal.main_v92) = v5 c
          ∧ r.2.mem ((c.tc : Thread Cert.Reference3Ideal.nD Cert.Reference3Ideal.τ).loc Cert.Reference3Ideal.main_v97) = v6 c
          ∧ r.2.mem ((c.tc : Thread Cert.Reference3Ideal.nD Cert.Reference3Ideal.τ).loc Cert.Reference3Ideal.main_v100) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v98)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v98) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v98)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v98) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite4 : Cert.Pre_finite4.Facts) (hPre_finite5 : Cert.Pre_finite5.Facts) (hPre_finite6 : Cert.Pre_finite6.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S1x16384x1024 : Shape := ⟨3, ![1, 16384, 1024]⟩
abbrev S1024x3656 : Shape := ⟨2, ![1024, 3656]⟩
abbrev S1024 : Shape := ⟨1, ![1024]⟩
abbrev S64 : Shape := ⟨1, ![64]⟩
abbrev S_ : Shape := ⟨0, ![]⟩

class Facts : Prop where
  bcast_S_S1x16384x1024 : S_.BroadcastsInDim S1x16384x1024 (![] : Fin 0 → Fin S1x16384x1024.rank)
  reducesTo_S1x16384x1024_S_d0_1_2 : S1x16384x1024.ReducesTo [0, 1, 2] S_
  h_S_ : 0 < S_.numel
  bcast_S_S1024x3656 : S_.BroadcastsInDim S1024x3656 (![] : Fin 0 → Fin S1024x3656.rank)
  reducesTo_S1024x3656_S_d0_1 : S1024x3656.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1x16384x1024 .f32) (main_arg1 : FVec F S1024x3656 .f32) (main_arg2 : FVec F S1024 .f32) (main_arg3 : FVec F S64 .f32) (main_arg4 : FVec F S64 .f32) (main_arg5 : FVec F S64 .f32) : IVec S_ 1 :=
  let main_v0 : FVec F S1x16384x1024 .f32 := Host.absf main_arg0
  let main_cst : FVec F S_ .f32 := constant S_ .f32 0x7F800000#32
  let main_v1 : FVec F S1x16384x1024 .f32 := broadcastInDim S1x16384x1024 ![] bcast_S_S1x16384x1024 main_cst
  let main_v2 : IVec S1x16384x1024 1 := cmpf .olt main_v0 main_v1
  let main_c : IVec S_ 1 := constantI S_ 1 1#1
  let main_v3 : IVec S_ 1 := (fun x v => Host.reduce IntOp.andi x v reducesTo_S1x16384x1024_S_d0_1_2 h_S_) main_v2 main_c
  let main_v4 : FVec F S1024x3656 .f32 := Host.absf main_arg1
  let main_cst_0 : FVec F S_ .f32 := constant S_ .f32 0x7F800000#32
  let main_v5 : FVec F S1024x3656 .f32 := broadcastInDim S1024x3656 ![] bcast_S_S1024x3656 main_cst_0
  let main_v6 : IVec S1024x3656 1 := cmpf .olt main_v4 main_v5
  let main_c_1 : IVec S_ 1 := constantI S_ 1 1#1
  let main_v7 : IVec S_ 1 := (fun x v => Host.reduce IntOp.andi x v reducesTo_S1024x3656_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_finite4.lean ====
abbrev S16384x2048 : Shape := ⟨2, ![16384, 2048]⟩
abbrev S2x512 : Shape := ⟨2, ![2, 512]⟩
abbrev S128 : Shape := ⟨1, ![128]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S16384x2048 .f32) (main_arg1 : FVec F S2x512 .f32) (main_arg2 : FVec F S128 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2x512 .f32 := Host.absf main_arg1
  let main_cst_0 : FVec F S_ .f32 := constant S_ .f32 0x7F800000#32
  let main_v5 : FVec F S2x512 .f32 := broadcastInDim S2x512 ![] bcast_S_S2x512 main_cst_0
  let main_v6 : IVec S2x512 1 := cmpf .olt main_v4 main_v5
  let main_c_1 : IVec S_ 1 := constantI S_ 1 1#1
  let main_v7 : IVec S_ 1 := (fun x v => Host.reduce IntOp.andi x v reducesTo_S2x512_S_d0_1 h_S_) main_v6 main_c_1
  let main_v8 : IVec S_ 1 := andi main_v3 main_v7
  main_v8
-- ==== Pre_finite5.lean ====
abbrev S1x256x1024 : Shape := ⟨3, ![1, 256, 1024]⟩
abbrev S1024x512 : Shape := ⟨2, ![1024, 512]⟩
abbrev S1024 : Shape := ⟨1, ![1024]⟩
abbrev S64 : Shape := ⟨1, ![64]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1x256x1024 .f32) (main_arg1 : FVec F S1024x512 .f32) (main_arg2 : FVec F S1024 .f32) (main_arg3 : FVec F S64 .f32) : IVec S_ 1 :=
  let main_v0 : FVec F S1x256x1024 .f32 := Host.absf main_arg0
  let main_cst : FVec F S_ .f32 := constant S_ .f32 0x7F800000#32
  let main_v1 : FVec F S1x256x1024 .f32 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_finite6.lean ====
abbrev S16384x2048 : Shape := ⟨2, ![16384, 2048]⟩
abbrev S2x512 : Shape := ⟨2, ![2, 512]⟩
abbrev S128 : Shape := ⟨1, ![128]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) (main_arg1 : FVec F S2x512 .f32) (main_arg2 : FVec F S128 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S256x16384 : Shape := ⟨2, ![256, 16384]⟩
abbrev S512x16384 : Shape := ⟨2, ![512, 16384]⟩
abbrev S8x16384 : Shape := ⟨2, ![8, 16384]⟩
abbrev S16384x64 : Shape := ⟨2, ![16384, 64]⟩
abbrev S16384x256 : Shape := ⟨2, ![16384, 256]⟩
abbrev S256x256 : Shape := ⟨2, ![256, 256]⟩
abbrev S128x128 : Shape := ⟨2, ![128, 128]⟩
abbrev S16384x512 : Shape := ⟨2, ![16384, 512]⟩
abbrev S256x128 : Shape := ⟨2, ![256, 128]⟩
abbrev S512x128 : Shape := ⟨2, ![512, 128]⟩
abbrev S8x128 : Shape := ⟨2, ![8, 128]⟩
abbrev S128x512 : Shape := ⟨2, ![128, 512]⟩
abbrev S16384x128 : Shape := ⟨2, ![16384, 128]⟩
abbrev S80x32x8x128 : Shape := ⟨4, ![80, 32, 8, 128]⟩
abbrev S80x8x128 : Shape := ⟨3, ![80, 8, 128]⟩
abbrev S4x64x256 : Shape := ⟨3, ![4, 64, 256]⟩
abbrev S2x128x256 : Shape := ⟨3, ![2, 128, 256]⟩
abbrev S4x2048x128 : Shape := ⟨3, ![4, 2048, 128]⟩
abbrev S4x64x128 : Shape := ⟨3, ![4, 64, 128]⟩
abbrev S64x128 : Shape := ⟨2, ![64, 128]⟩
abbrev S64x256 : Shape := ⟨2, ![64, 256]⟩
abbrev S1x64x256 : Shape := ⟨3, ![1, 64, 256]⟩
abbrev S128x256 : Shape := ⟨2, ![128, 256]⟩
abbrev S1x128x256 : Shape := ⟨3, ![1, 128, 256]⟩
abbrev S128x64 : Shape := ⟨2, ![128, 64]⟩
abbrev S1x128 : Shape := ⟨2, ![1, 128]⟩
abbrev S1x1x8x128 : Shape := ⟨4, ![1, 1, 8, 128]⟩
abbrev S1x8x128 : Shape := ⟨3, ![1, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S4x128 : Shape := ⟨2, ![4, 128]⟩
abbrev S1x256x128 : Shape := ⟨3, ![1, 256, 128]⟩
abbrev S32x8x128 : Shape := ⟨3, ![32, 8, 128]⟩
abbrev S1x64x128 : Shape := ⟨3, ![1, 64, 128]⟩

abbrev nBuf : Space → Nat
  | .hbm => 11
  | .vmem => 23
  | .smem => 0
  | _ => 0

abbrev bufTy : (tb : Table) → Fin (tcTables nBuf tb) → BufTy
  | .hbm, ⟨0, _⟩ => ⟨S256x16384, .bf16⟩
  | .hbm, ⟨1, _⟩ => ⟨S512x16384, .bf16⟩
  | .hbm, ⟨2, _⟩ => ⟨S8x16384, .f32⟩
  | .hbm, ⟨3, _⟩ => ⟨S256x16384, .bf16⟩
  | .hbm, ⟨4, _⟩ => ⟨S16384x64, .bf16⟩
  | .hbm, ⟨5, _⟩ => ⟨S16384x256, .bf16⟩
  | .hbm, ⟨6, _⟩ => ⟨S256x16384, .bf16⟩
  | .hbm, ⟨7, _⟩ => ⟨S256x256, .bf16⟩
  | .hbm, ⟨8, _⟩ => ⟨S256x256, .bf16⟩
  | .hbm, ⟨9, _⟩ => ⟨S128x128, .bf16⟩
  | .hbm, ⟨10, _⟩ => ⟨S16384x512, .bf16⟩
  | .local _ .vmem, ⟨0, _⟩ => ⟨S256x128, .bf16⟩
  | .local _ .vmem, ⟨1, _⟩ => ⟨S256x128, .bf16⟩
  | .local _ .vmem, ⟨2, _⟩ => ⟨S512x128, .bf16⟩
  | .local _ .vmem, ⟨3, _⟩ => ⟨S512x128, .bf16⟩
  | .local _ .vmem, ⟨4, _⟩ => ⟨S8x128, .f32⟩
  | .local _ .vmem, ⟨5, _⟩ => ⟨S8x128, .f32⟩
  | .local _ .vmem, ⟨6, _⟩ => ⟨S256x128, .bf16⟩
  | .local _ .vmem, ⟨7, _⟩ => ⟨S256x128, .bf16⟩
  | .local _ .vmem, ⟨8, _⟩ => ⟨S16384x64, .bf16⟩
  | .local _ .vmem, ⟨9, _⟩ => ⟨S16384x256, .bf16⟩
  | .local _ .vmem, ⟨10, _⟩ => ⟨S256x16384, .bf16⟩
  | .local _ .vmem, ⟨11, _⟩ => ⟨S256x256, .bf16⟩
  | .local _ .vmem, ⟨12, _⟩ => ⟨S256x256, .bf16⟩
  | .local _ .vmem, ⟨13, _⟩ => ⟨S128x128, .bf16⟩
  | .local _ .vmem, ⟨14, _⟩ => ⟨S128x512, .bf16⟩
  | .local _ .vmem, ⟨15, _⟩ => ⟨S128x512, .bf16⟩
  | .local _ .vmem, ⟨16, _⟩ => ⟨S16384x128, .i32⟩
  | .local _ .vmem, ⟨17, _⟩ => ⟨S80x32x8x128, .i32⟩
  | .local _ .vmem, ⟨18, _⟩ => ⟨S80x8x128, .i32⟩
  | .local _ .vmem, ⟨19, _⟩ => ⟨S4x64x256, .bf16⟩
  | .local _ .vmem, ⟨20, _⟩ => ⟨S2x128x256, .bf16⟩
  | .local _ .vmem, ⟨21, _⟩ => ⟨S4x2048x128, .f32⟩
  | .local _ .vmem, ⟨22, _⟩ => ⟨S4x64x128, .f32⟩
  | _, _ => ⟨S256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [BitOps F]

abbrev grid0 : Pipeline.Grid := ⟨1, ![128], ![false]⟩

@[reducible] def k0_t1_loop (i : grid0.Coords) : Scf.Loop 32 :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_55 : BitVec 32 := 1#32
  ⟨c0_i32_53, v95, c1_i32_55⟩
def k0_mult1 (i : grid0.Coords) (k0_t1 : Fin (k0_t1_loop i).trips) : BitVec 32 :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let c0_i32_947 : BitVec 32 := 0#32
  let v2450 : BitVec 32 := Scalar.addi v2449 c0_i32_947
  let c256_i32_948 : BitVec 32 := 256#32
  let v2451 : BitVec 32 := Scalar.muli v2450 c256_i32_948
  let c0_i32_949 : BitVec 32 := 0#32
  let v2452 : BitVec 32 := Scalar.addi v2451 c0_i32_949
  v2452
def k0_off1 (i : grid0.Coords) (k0_t1 : Fin (k0_t1_loop i).trips) (c0_i32_947 : BitVec 32) (c0_i32_949 : BitVec 32) : Fin 2 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let c256_i32_948 : BitVec 32 := 256#32
  let v2451 : BitVec 32 := Scalar.muli v2450 c256_i32_948
  let v2452 : BitVec 32 := Scalar.addi v2451 c0_i32_949
  let v2453 : BitVec 32 := v2452
  let v2454 : Index := Scalar.indexCast v2453
  let c0_950 : Index := 0#32
  ![v2454.toNat, 0]
def k0_off2 (i : grid0.Coords) (k0_t1 : Fin (k0_t1_loop i).trips) (c0_i32_947 : BitVec 32) (c0_i32_949 : BitVec 32) : Fin 2 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let c256_i32_948 : BitVec 32 := 256#32
  let v2451 : BitVec 32 := Scalar.muli v2450 c256_i32_948
  let v2452 : BitVec 32 := Scalar.addi v2451 c0_i32_949
  let v2453 : BitVec 32 := v2452
  let v2531 : Index := Scalar.indexCast v2453
  let c0_978 : Index := 0#32
  ![v2531.toNat, 0]
def k0_mult2 (i : grid0.Coords) (k0_t1 : Fin (k0_t1_loop i).trips) : BitVec 32 :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let c0_i32_947 : BitVec 32 := 0#32
  let v2450 : BitVec 32 := Scalar.addi v2449 c0_i32_947
  let c256_i32_979 : BitVec 32 := 256#32
  let v2551 : BitVec 32 := Scalar.muli v2450 c256_i32_979
  let c128_i32_980 : BitVec 32 := 128#32
  let v2552 : BitVec 32 := Scalar.addi v2551 c128_i32_980
  v2552
def k0_off3 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3372 : Index := Scalar.indexCast v2450
  let c0_1251 : Index := 0#32
  let c0_1252 : Index := 0#32
  let c0_1253 : Index := 0#32
  ![v3372.toNat, 0, 0, 0]
def k0_off4 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3376 : Index := Scalar.indexCast v2450
  let c1_1254 : Index := 1#32
  let c0_1255 : Index := 0#32
  let c0_1256 : Index := 0#32
  ![v3376.toNat, 1, 0, 0]
def k0_off5 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3380 : Index := Scalar.indexCast v2450
  let c2_1257 : Index := 2#32
  let c0_1258 : Index := 0#32
  let c0_1259 : Index := 0#32
  ![v3380.toNat, 2, 0, 0]
def k0_off6 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3384 : Index := Scalar.indexCast v2450
  let c3_1260 : Index := 3#32
  let c0_1261 : Index := 0#32
  let c0_1262 : Index := 0#32
  ![v3384.toNat, 3, 0, 0]
def k0_off7 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3388 : Index := Scalar.indexCast v2450
  let c4_1263 : Index := 4#32
  let c0_1264 : Index := 0#32
  let c0_1265 : Index := 0#32
  ![v3388.toNat, 4, 0, 0]
def k0_off8 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3392 : Index := Scalar.indexCast v2450
  let c5_1266 : Index := 5#32
  let c0_1267 : Index := 0#32
  let c0_1268 : Index := 0#32
  ![v3392.toNat, 5, 0, 0]
def k0_off9 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3396 : Index := Scalar.indexCast v2450
  let c6_1269 : Index := 6#32
  let c0_1270 : Index := 0#32
  let c0_1271 : Index := 0#32
  ![v3396.toNat, 6, 0, 0]
def k0_off10 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3400 : Index := Scalar.indexCast v2450
  let c7_1272 : Index := 7#32
  let c0_1273 : Index := 0#32
  let c0_1274 : Index := 0#32
  ![v3400.toNat, 7, 0, 0]
def k0_off11 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3404 : Index := Scalar.indexCast v2450
  let c8_1275 : Index := 8#32
  let c0_1276 : Index := 0#32
  let c0_1277 : Index := 0#32
  ![v3404.toNat, 8, 0, 0]
def k0_off12 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3408 : Index := Scalar.indexCast v2450
  let c9_1278 : Index := 9#32
  let c0_1279 : Index := 0#32
  let c0_1280 : Index := 0#32
  ![v3408.toNat, 9, 0, 0]
def k0_off13 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3412 : Index := Scalar.indexCast v2450
  let c10_1281 : Index := 10#32
  let c0_1282 : Index := 0#32
  let c0_1283 : Index := 0#32
  ![v3412.toNat, 10, 0, 0]
def k0_off14 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3416 : Index := Scalar.indexCast v2450
  let c11_1284 : Index := 11#32
  let c0_1285 : Index := 0#32
  let c0_1286 : Index := 0#32
  ![v3416.toNat, 11, 0, 0]
def k0_off15 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3420 : Index := Scalar.indexCast v2450
  let c12_1287 : Index := 12#32
  let c0_1288 : Index := 0#32
  let c0_1289 : Index := 0#32
  ![v3420.toNat, 12, 0, 0]
def k0_off16 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3424 : Index := Scalar.indexCast v2450
  let c13_1290 : Index := 13#32
  let c0_1291 : Index := 0#32
  let c0_1292 : Index := 0#32
  ![v3424.toNat, 13, 0, 0]
def k0_off17 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3428 : Index := Scalar.indexCast v2450
  let c14_1293 : Index := 14#32
  let c0_1294 : Index := 0#32
  let c0_1295 : Index := 0#32
  ![v3428.toNat, 14, 0, 0]
def k0_off18 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3432 : Index := Scalar.indexCast v2450
  let c15_1296 : Index := 15#32
  let c0_1297 : Index := 0#32
  let c0_1298 : Index := 0#32
  ![v3432.toNat, 15, 0, 0]
def k0_off19 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3436 : Index := Scalar.indexCast v2450
  let c16_1299 : Index := 16#32
  let c0_1300 : Index := 0#32
  let c0_1301 : Index := 0#32
  ![v3436.toNat, 16, 0, 0]
def k0_off20 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3440 : Index := Scalar.indexCast v2450
  let c17_1302 : Index := 17#32
  let c0_1303 : Index := 0#32
  let c0_1304 : Index := 0#32
  ![v3440.toNat, 17, 0, 0]
def k0_off21 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3444 : Index := Scalar.indexCast v2450
  let c18_1305 : Index := 18#32
  let c0_1306 : Index := 0#32
  let c0_1307 : Index := 0#32
  ![v3444.toNat, 18, 0, 0]
def k0_off22 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3448 : Index := Scalar.indexCast v2450
  let c19_1308 : Index := 19#32
  let c0_1309 : Index := 0#32
  let c0_1310 : Index := 0#32
  ![v3448.toNat, 19, 0, 0]
def k0_off23 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3452 : Index := Scalar.indexCast v2450
  let c20_1311 : Index := 20#32
  let c0_1312 : Index := 0#32
  let c0_1313 : Index := 0#32
  ![v3452.toNat, 20, 0, 0]
def k0_off24 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3456 : Index := Scalar.indexCast v2450
  let c21_1314 : Index := 21#32
  let c0_1315 : Index := 0#32
  let c0_1316 : Index := 0#32
  ![v3456.toNat, 21, 0, 0]
def k0_off25 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3460 : Index := Scalar.indexCast v2450
  let c22_1317 : Index := 22#32
  let c0_1318 : Index := 0#32
  let c0_1319 : Index := 0#32
  ![v3460.toNat, 22, 0, 0]
def k0_off26 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3464 : Index := Scalar.indexCast v2450
  let c23_1320 : Index := 23#32
  let c0_1321 : Index := 0#32
  let c0_1322 : Index := 0#32
  ![v3464.toNat, 23, 0, 0]
def k0_off27 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3468 : Index := Scalar.indexCast v2450
  let c24_1323 : Index := 24#32
  let c0_1324 : Index := 0#32
  let c0_1325 : Index := 0#32
  ![v3468.toNat, 24, 0, 0]
def k0_off28 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3472 : Index := Scalar.indexCast v2450
  let c25_1326 : Index := 25#32
  let c0_1327 : Index := 0#32
  let c0_1328 : Index := 0#32
  ![v3472.toNat, 25, 0, 0]
def k0_off29 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3476 : Index := Scalar.indexCast v2450
  let c26_1329 : Index := 26#32
  let c0_1330 : Index := 0#32
  let c0_1331 : Index := 0#32
  ![v3476.toNat, 26, 0, 0]
def k0_off30 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3480 : Index := Scalar.indexCast v2450
  let c27_1332 : Index := 27#32
  let c0_1333 : Index := 0#32
  let c0_1334 : Index := 0#32
  ![v3480.toNat, 27, 0, 0]
def k0_off31 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3484 : Index := Scalar.indexCast v2450
  let c28_1335 : Index := 28#32
  let c0_1336 : Index := 0#32
  let c0_1337 : Index := 0#32
  ![v3484.toNat, 28, 0, 0]
def k0_off32 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3488 : Index := Scalar.indexCast v2450
  let c29_1338 : Index := 29#32
  let c0_1339 : Index := 0#32
  let c0_1340 : Index := 0#32
  ![v3488.toNat, 29, 0, 0]
def k0_off33 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3492 : Index := Scalar.indexCast v2450
  let c30_1341 : Index := 30#32
  let c0_1342 : Index := 0#32
  let c0_1343 : Index := 0#32
  ![v3492.toNat, 30, 0, 0]
def k0_off34 (i : grid0.Coords) (k0_t1 : Fin (k0_t1_loop i).trips) (c0_i32_947 : BitVec 32) : Fin 4 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3496 : Index := Scalar.indexCast v2450
  let c31_1344 : Index := 31#32
  let c0_1345 : Index := 0#32
  let c0_1346 : Index := 0#32
  ![v3496.toNat, 31, 0, 0]
def k0_off35 (i : grid0.Coords) (k0_t1 : Fin (k0_t1_loop i).trips) (c0_i32_947 : BitVec 32) : Fin 3 → Nat :=
  let c0_i32_53 : BitVec 32 := 0#32
  let c1_i32_55 : BitVec 32 := 1#32
  let arg19 : BitVec 32 := Scf.iv c0_i32_53 c1_i32_55 k0_t1
  let c2_i32_946 : BitVec 32 := 2#32
  let v2449 : BitVec 32 := Scalar.muli arg19 c2_i32_946
  let v2450 : BitVec 32 := Scalar.addi v2449 c0_i32_947
  let v3501 : Index := Scalar.indexCast v2450
  let c0_1348 : Index := 0#32
  let c0_1349 : Index := 0#32
  ![v3501.toNat, 0, 0]
def k0_mult3 (i : grid0.Coords) (k0_t1 : Fin (k0_t1_loop i).trips) : BitVec 32 :=
  let c0_i32_53 : BitVec 32 := 0#32
  let c1_i32_55 : BitVec 32 := 1#32
  let arg19 : BitVec 32 := Scf.iv c0_i32_53 c1_i32_55 k0_t1
  let c2_i32_1350 : BitVec 32 := 2#32
  let v3505 : BitVec 32 := Scalar.muli arg19 c2_i32_1350
  let c1_i32_1351 : BitVec 32 := 1#32
  let v3506 : BitVec 32 := Scalar.addi v3505 c1_i32_1351
  let c256_i32_1352 : BitVec 32 := 256#32
  let v3507 : BitVec 32 := Scalar.muli v3506 c256_i32_1352
  let c0_i32_1353 : BitVec 32 := 0#32
  let v3508 : BitVec 32 := Scalar.addi v3507 c0_i32_1353
  v3508
def k0_mult4 (i : grid0.Coords) (k0_t1 : Fin (k0_t1_loop i).trips) : BitVec 32 :=
  let c0_i32_53 : BitVec 32 := 0#32
  let c1_i32_55 : BitVec 32 := 1#32
  let arg19 : BitVec 32 := Scf.iv c0_i32_53 c1_i32_55 k0_t1
  let c2_i32_1350 : BitVec 32 := 2#32
  let v3505 : BitVec 32 := Scalar.muli arg19 c2_i32_1350
  let c1_i32_1351 : BitVec 32 := 1#32
  let v3506 : BitVec 32 := Scalar.addi v3505 c1_i32_1351
  let c256_i32_1383 : BitVec 32 := 256#32
  let v3607 : BitVec 32 := Scalar.muli v3506 c256_i32_1383
  let c128_i32_1384 : BitVec 32 := 128#32
  let v3608 : BitVec 32 := Scalar.addi v3607 c128_i32_1384
  v3608
@[reducible] def k0_t2_loop (i : grid0.Coords) : Scf.Loop 32 :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let v92 : BitVec 32 := Scalar.addi c0_i32_53 v91
  let c1_i32_56 : BitVec 32 := 1#32
  ⟨v95, v92, c1_i32_56⟩
def k0_mult5 (i : grid0.Coords) (k0_t2 : Fin (k0_t2_loop i).trips) : BitVec 32 :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let c0_i32_947 : BitVec 32 := 0#32
  let v2450 : BitVec 32 := Scalar.addi v2449 c0_i32_947
  let c256_i32_948 : BitVec 32 := 256#32
  let v2451 : BitVec 32 := Scalar.muli v2450 c256_i32_948
  let c0_i32_949 : BitVec 32 := 0#32
  let v2452 : BitVec 32 := Scalar.addi v2451 c0_i32_949
  v2452
def k0_off36 (i : grid0.Coords) (k0_t2 : Fin (k0_t2_loop i).trips) (c0_i32_947 : BitVec 32) (c0_i32_949 : BitVec 32) : Fin 2 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let c256_i32_948 : BitVec 32 := 256#32
  let v2451 : BitVec 32 := Scalar.muli v2450 c256_i32_948
  let v2452 : BitVec 32 := Scalar.addi v2451 c0_i32_949
  let v2453 : BitVec 32 := v2452
  let v2454 : Index := Scalar.indexCast v2453
  let c0_950 : Index := 0#32
  ![v2454.toNat, 0]
def k0_off37 (i : grid0.Coords) (k0_t2 : Fin (k0_t2_loop i).trips) (c0_i32_947 : BitVec 32) (c0_i32_949 : BitVec 32) : Fin 2 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let c256_i32_948 : BitVec 32 := 256#32
  let v2451 : BitVec 32 := Scalar.muli v2450 c256_i32_948
  let v2452 : BitVec 32 := Scalar.addi v2451 c0_i32_949
  let v2453 : BitVec 32 := v2452
  let v2531 : Index := Scalar.indexCast v2453
  let c0_978 : Index := 0#32
  ![v2531.toNat, 0]
def k0_mult6 (i : grid0.Coords) (k0_t2 : Fin (k0_t2_loop i).trips) : BitVec 32 :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let c0_i32_947 : BitVec 32 := 0#32
  let v2450 : BitVec 32 := Scalar.addi v2449 c0_i32_947
  let c256_i32_979 : BitVec 32 := 256#32
  let v2551 : BitVec 32 := Scalar.muli v2450 c256_i32_979
  let c128_i32_980 : BitVec 32 := 128#32
  let v2552 : BitVec 32 := Scalar.addi v2551 c128_i32_980
  v2552
def k0_off38 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3372 : Index := Scalar.indexCast v2450
  let c0_1251 : Index := 0#32
  let c0_1252 : Index := 0#32
  let c0_1253 : Index := 0#32
  ![v3372.toNat, 0, 0, 0]
def k0_off39 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3376 : Index := Scalar.indexCast v2450
  let c1_1254 : Index := 1#32
  let c0_1255 : Index := 0#32
  let c0_1256 : Index := 0#32
  ![v3376.toNat, 1, 0, 0]
def k0_off40 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3380 : Index := Scalar.indexCast v2450
  let c2_1257 : Index := 2#32
  let c0_1258 : Index := 0#32
  let c0_1259 : Index := 0#32
  ![v3380.toNat, 2, 0, 0]
def k0_off41 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3384 : Index := Scalar.indexCast v2450
  let c3_1260 : Index := 3#32
  let c0_1261 : Index := 0#32
  let c0_1262 : Index := 0#32
  ![v3384.toNat, 3, 0, 0]
def k0_off42 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3388 : Index := Scalar.indexCast v2450
  let c4_1263 : Index := 4#32
  let c0_1264 : Index := 0#32
  let c0_1265 : Index := 0#32
  ![v3388.toNat, 4, 0, 0]
def k0_off43 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3392 : Index := Scalar.indexCast v2450
  let c5_1266 : Index := 5#32
  let c0_1267 : Index := 0#32
  let c0_1268 : Index := 0#32
  ![v3392.toNat, 5, 0, 0]
def k0_off44 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3396 : Index := Scalar.indexCast v2450
  let c6_1269 : Index := 6#32
  let c0_1270 : Index := 0#32
  let c0_1271 : Index := 0#32
  ![v3396.toNat, 6, 0, 0]
def k0_off45 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3400 : Index := Scalar.indexCast v2450
  let c7_1272 : Index := 7#32
  let c0_1273 : Index := 0#32
  let c0_1274 : Index := 0#32
  ![v3400.toNat, 7, 0, 0]
def k0_off46 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3404 : Index := Scalar.indexCast v2450
  let c8_1275 : Index := 8#32
  let c0_1276 : Index := 0#32
  let c0_1277 : Index := 0#32
  ![v3404.toNat, 8, 0, 0]
def k0_off47 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3408 : Index := Scalar.indexCast v2450
  let c9_1278 : Index := 9#32
  let c0_1279 : Index := 0#32
  let c0_1280 : Index := 0#32
  ![v3408.toNat, 9, 0, 0]
def k0_off48 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3412 : Index := Scalar.indexCast v2450
  let c10_1281 : Index := 10#32
  let c0_1282 : Index := 0#32
  let c0_1283 : Index := 0#32
  ![v3412.toNat, 10, 0, 0]
def k0_off49 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3416 : Index := Scalar.indexCast v2450
  let c11_1284 : Index := 11#32
  let c0_1285 : Index := 0#32
  let c0_1286 : Index := 0#32
  ![v3416.toNat, 11, 0, 0]
def k0_off50 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3420 : Index := Scalar.indexCast v2450
  let c12_1287 : Index := 12#32
  let c0_1288 : Index := 0#32
  let c0_1289 : Index := 0#32
  ![v3420.toNat, 12, 0, 0]
def k0_off51 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3424 : Index := Scalar.indexCast v2450
  let c13_1290 : Index := 13#32
  let c0_1291 : Index := 0#32
  let c0_1292 : Index := 0#32
  ![v3424.toNat, 13, 0, 0]
def k0_off52 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3428 : Index := Scalar.indexCast v2450
  let c14_1293 : Index := 14#32
  let c0_1294 : Index := 0#32
  let c0_1295 : Index := 0#32
  ![v3428.toNat, 14, 0, 0]
def k0_off53 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3432 : Index := Scalar.indexCast v2450
  let c15_1296 : Index := 15#32
  let c0_1297 : Index := 0#32
  let c0_1298 : Index := 0#32
  ![v3432.toNat, 15, 0, 0]
def k0_off54 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3436 : Index := Scalar.indexCast v2450
  let c16_1299 : Index := 16#32
  let c0_1300 : Index := 0#32
  let c0_1301 : Index := 0#32
  ![v3436.toNat, 16, 0, 0]
def k0_off55 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3440 : Index := Scalar.indexCast v2450
  let c17_1302 : Index := 17#32
  let c0_1303 : Index := 0#32
  let c0_1304 : Index := 0#32
  ![v3440.toNat, 17, 0, 0]
def k0_off56 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3444 : Index := Scalar.indexCast v2450
  let c18_1305 : Index := 18#32
  let c0_1306 : Index := 0#32
  let c0_1307 : Index := 0#32
  ![v3444.toNat, 18, 0, 0]
def k0_off57 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3448 : Index := Scalar.indexCast v2450
  let c19_1308 : Index := 19#32
  let c0_1309 : Index := 0#32
  let c0_1310 : Index := 0#32
  ![v3448.toNat, 19, 0, 0]
def k0_off58 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3452 : Index := Scalar.indexCast v2450
  let c20_1311 : Index := 20#32
  let c0_1312 : Index := 0#32
  let c0_1313 : Index := 0#32
  ![v3452.toNat, 20, 0, 0]
def k0_off59 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3456 : Index := Scalar.indexCast v2450
  let c21_1314 : Index := 21#32
  let c0_1315 : Index := 0#32
  let c0_1316 : Index := 0#32
  ![v3456.toNat, 21, 0, 0]
def k0_off60 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3460 : Index := Scalar.indexCast v2450
  let c22_1317 : Index := 22#32
  let c0_1318 : Index := 0#32
  let c0_1319 : Index := 0#32
  ![v3460.toNat, 22, 0, 0]
def k0_off61 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3464 : Index := Scalar.indexCast v2450
  let c23_1320 : Index := 23#32
  let c0_1321 : Index := 0#32
  let c0_1322 : Index := 0#32
  ![v3464.toNat, 23, 0, 0]
def k0_off62 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3468 : Index := Scalar.indexCast v2450
  let c24_1323 : Index := 24#32
  let c0_1324 : Index := 0#32
  let c0_1325 : Index := 0#32
  ![v3468.toNat, 24, 0, 0]
def k0_off63 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3472 : Index := Scalar.indexCast v2450
  let c25_1326 : Index := 25#32
  let c0_1327 : Index := 0#32
  let c0_1328 : Index := 0#32
  ![v3472.toNat, 25, 0, 0]
def k0_off64 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3476 : Index := Scalar.indexCast v2450
  let c26_1329 : Index := 26#32
  let c0_1330 : Index := 0#32
  let c0_1331 : Index := 0#32
  ![v3476.toNat, 26, 0, 0]
def k0_off65 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3480 : Index := Scalar.indexCast v2450
  let c27_1332 : Index := 27#32
  let c0_1333 : Index := 0#32
  let c0_1334 : Index := 0#32
  ![v3480.toNat, 27, 0, 0]
def k0_off66 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3484 : Index := Scalar.indexCast v2450
  let c28_1335 : Index := 28#32
  let c0_1336 : Index := 0#32
  let c0_1337 : Index := 0#32
  ![v3484.toNat, 28, 0, 0]
def k0_off67 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3488 : Index := Scalar.indexCast v2450
  let c29_1338 : Index := 29#32
  let c0_1339 : Index := 0#32
  let c0_1340 : Index := 0#32
  ![v3488.toNat, 29, 0, 0]
def k0_off68 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3492 : Index := Scalar.indexCast v2450
  let c30_1341 : Index := 30#32
  let c0_1342 : Index := 0#32
  let c0_1343 : Index := 0#32
  ![v3492.toNat, 30, 0, 0]
def k0_off69 (i : grid0.Coords) (k0_t2 : Fin (k0_t2_loop i).trips) (c0_i32_947 : BitVec 32) : Fin 4 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3496 : Index := Scalar.indexCast v2450
  let c31_1344 : Index := 31#32
  let c0_1345 : Index := 0#32
  let c0_1346 : Index := 0#32
  ![v3496.toNat, 31, 0, 0]
def k0_off70 (i : grid0.Coords) (k0_t2 : Fin (k0_t2_loop i).trips) (c0_i32_947 : BitVec 32) : Fin 3 → Nat :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_946 : BitVec 32 := 2#32
  let v2449 : BitVec 32 := Scalar.muli arg19 c2_i32_946
  let v2450 : BitVec 32 := Scalar.addi v2449 c0_i32_947
  let v3501 : Index := Scalar.indexCast v2450
  let c0_1348 : Index := 0#32
  let c0_1349 : Index := 0#32
  ![v3501.toNat, 0, 0]
def k0_mult7 (i : grid0.Coords) (k0_t2 : Fin (k0_t2_loop i).trips) : BitVec 32 :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_1350 : BitVec 32 := 2#32
  let v3505 : BitVec 32 := Scalar.muli arg19 c2_i32_1350
  let c1_i32_1351 : BitVec 32 := 1#32
  let v3506 : BitVec 32 := Scalar.addi v3505 c1_i32_1351
  let c256_i32_1352 : BitVec 32 := 256#32
  let v3507 : BitVec 32 := Scalar.muli v3506 c256_i32_1352
  let c0_i32_1353 : BitVec 32 := 0#32
  let v3508 : BitVec 32 := Scalar.addi v3507 c0_i32_1353
  v3508
def k0_mult8 (i : grid0.Coords) (k0_t2 : Fin (k0_t2_loop i).trips) : BitVec 32 :=
  let c0_i32_53 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_51 : BitVec 32 := 1#32
  let v90 : BitVec 32 := Scalar.subi v21 c1_i32_51
  let v91 : BitVec 32 := Scalar.subi v90 c0_i32_53
  let c1_i32_54 : BitVec 32 := 1#32
  let v93 : BitVec 32 := Scalar.divsi v91 c1_i32_54
  let v94 : BitVec 32 := Scalar.muli v93 c1_i32_54
  let v95 : BitVec 32 := Scalar.addi c0_i32_53 v94
  let c1_i32_56 : BitVec 32 := 1#32
  let arg19 : BitVec 32 := Scf.iv v95 c1_i32_56 k0_t2
  let c2_i32_1350 : BitVec 32 := 2#32
  let v3505 : BitVec 32 := Scalar.muli arg19 c2_i32_1350
  let c1_i32_1351 : BitVec 32 := 1#32
  let v3506 : BitVec 32 := Scalar.addi v3505 c1_i32_1351
  let c256_i32_1383 : BitVec 32 := 256#32
  let v3607 : BitVec 32 := Scalar.muli v3506 c256_i32_1383
  let c128_i32_1384 : BitVec 32 := 128#32
  let v3608 : BitVec 32 := Scalar.addi v3607 c128_i32_1384
  v3608
def k0_mult9 (i : grid0.Coords) : BitVec 32 :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let c0_i32_59 : BitVec 32 := 0#32
  let v98 : BitVec 32 := Scalar.addi v97 c0_i32_59
  let c256_i32 : BitVec 32 := 256#32
  let v99 : BitVec 32 := Scalar.muli v98 c256_i32
  let c0_i32_60 : BitVec 32 := 0#32
  let v100 : BitVec 32 := Scalar.addi v99 c0_i32_60
  v100
def k0_off71 (i : grid0.Coords) (c0_i32_59 : BitVec 32) (c0_i32_60 : BitVec 32) : Fin 2 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let c256_i32 : BitVec 32 := 256#32
  let v99 : BitVec 32 := Scalar.muli v98 c256_i32
  let v100 : BitVec 32 := Scalar.addi v99 c0_i32_60
  let v101 : BitVec 32 := v100
  let v102 : Index := Scalar.indexCast v101
  let c0_61 : Index := 0#32
  ![v102.toNat, 0]
def k0_off72 (i : grid0.Coords) (c0_i32_59 : BitVec 32) (c0_i32_60 : BitVec 32) : Fin 2 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let c256_i32 : BitVec 32 := 256#32
  let v99 : BitVec 32 := Scalar.muli v98 c256_i32
  let v100 : BitVec 32 := Scalar.addi v99 c0_i32_60
  let v101 : BitVec 32 := v100
  let v184 : Index := Scalar.indexCast v101
  let c0_87 : Index := 0#32
  ![v184.toNat, 0]
def k0_mult10 (i : grid0.Coords) : BitVec 32 :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let c0_i32_59 : BitVec 32 := 0#32
  let v98 : BitVec 32 := Scalar.addi v97 c0_i32_59
  let c256_i32_88 : BitVec 32 := 256#32
  let v204 : BitVec 32 := Scalar.muli v98 c256_i32_88
  let c128_i32_89 : BitVec 32 := 128#32
  let v205 : BitVec 32 := Scalar.addi v204 c128_i32_89
  v205
def k0_off73 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1030 : Index := Scalar.indexCast v98
  let c0_354 : Index := 0#32
  let c0_355 : Index := 0#32
  let c0_356 : Index := 0#32
  ![v1030.toNat, 0, 0, 0]
def k0_off74 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1034 : Index := Scalar.indexCast v98
  let c1_357 : Index := 1#32
  let c0_358 : Index := 0#32
  let c0_359 : Index := 0#32
  ![v1034.toNat, 1, 0, 0]
def k0_off75 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1038 : Index := Scalar.indexCast v98
  let c2_360 : Index := 2#32
  let c0_361 : Index := 0#32
  let c0_362 : Index := 0#32
  ![v1038.toNat, 2, 0, 0]
def k0_off76 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1042 : Index := Scalar.indexCast v98
  let c3_363 : Index := 3#32
  let c0_364 : Index := 0#32
  let c0_365 : Index := 0#32
  ![v1042.toNat, 3, 0, 0]
def k0_off77 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1046 : Index := Scalar.indexCast v98
  let c4 : Index := 4#32
  let c0_366 : Index := 0#32
  let c0_367 : Index := 0#32
  ![v1046.toNat, 4, 0, 0]
def k0_off78 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1050 : Index := Scalar.indexCast v98
  let c5 : Index := 5#32
  let c0_368 : Index := 0#32
  let c0_369 : Index := 0#32
  ![v1050.toNat, 5, 0, 0]
def k0_off79 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1054 : Index := Scalar.indexCast v98
  let c6 : Index := 6#32
  let c0_370 : Index := 0#32
  let c0_371 : Index := 0#32
  ![v1054.toNat, 6, 0, 0]
def k0_off80 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1058 : Index := Scalar.indexCast v98
  let c7 : Index := 7#32
  let c0_372 : Index := 0#32
  let c0_373 : Index := 0#32
  ![v1058.toNat, 7, 0, 0]
def k0_off81 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1062 : Index := Scalar.indexCast v98
  let c8 : Index := 8#32
  let c0_374 : Index := 0#32
  let c0_375 : Index := 0#32
  ![v1062.toNat, 8, 0, 0]
def k0_off82 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1066 : Index := Scalar.indexCast v98
  let c9 : Index := 9#32
  let c0_376 : Index := 0#32
  let c0_377 : Index := 0#32
  ![v1066.toNat, 9, 0, 0]
def k0_off83 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1070 : Index := Scalar.indexCast v98
  let c10 : Index := 10#32
  let c0_378 : Index := 0#32
  let c0_379 : Index := 0#32
  ![v1070.toNat, 10, 0, 0]
def k0_off84 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1074 : Index := Scalar.indexCast v98
  let c11 : Index := 11#32
  let c0_380 : Index := 0#32
  let c0_381 : Index := 0#32
  ![v1074.toNat, 11, 0, 0]
def k0_off85 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1078 : Index := Scalar.indexCast v98
  let c12 : Index := 12#32
  let c0_382 : Index := 0#32
  let c0_383 : Index := 0#32
  ![v1078.toNat, 12, 0, 0]
def k0_off86 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1082 : Index := Scalar.indexCast v98
  let c13 : Index := 13#32
  let c0_384 : Index := 0#32
  let c0_385 : Index := 0#32
  ![v1082.toNat, 13, 0, 0]
def k0_off87 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1086 : Index := Scalar.indexCast v98
  let c14 : Index := 14#32
  let c0_386 : Index := 0#32
  let c0_387 : Index := 0#32
  ![v1086.toNat, 14, 0, 0]
def k0_off88 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1090 : Index := Scalar.indexCast v98
  let c15 : Index := 15#32
  let c0_388 : Index := 0#32
  let c0_389 : Index := 0#32
  ![v1090.toNat, 15, 0, 0]
def k0_off89 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1094 : Index := Scalar.indexCast v98
  let c16 : Index := 16#32
  let c0_390 : Index := 0#32
  let c0_391 : Index := 0#32
  ![v1094.toNat, 16, 0, 0]
def k0_off90 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1098 : Index := Scalar.indexCast v98
  let c17 : Index := 17#32
  let c0_392 : Index := 0#32
  let c0_393 : Index := 0#32
  ![v1098.toNat, 17, 0, 0]
def k0_off91 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1102 : Index := Scalar.indexCast v98
  let c18 : Index := 18#32
  let c0_394 : Index := 0#32
  let c0_395 : Index := 0#32
  ![v1102.toNat, 18, 0, 0]
def k0_off92 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1106 : Index := Scalar.indexCast v98
  let c19 : Index := 19#32
  let c0_396 : Index := 0#32
  let c0_397 : Index := 0#32
  ![v1106.toNat, 19, 0, 0]
def k0_off93 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1110 : Index := Scalar.indexCast v98
  let c20 : Index := 20#32
  let c0_398 : Index := 0#32
  let c0_399 : Index := 0#32
  ![v1110.toNat, 20, 0, 0]
def k0_off94 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1114 : Index := Scalar.indexCast v98
  let c21 : Index := 21#32
  let c0_400 : Index := 0#32
  let c0_401 : Index := 0#32
  ![v1114.toNat, 21, 0, 0]
def k0_off95 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1118 : Index := Scalar.indexCast v98
  let c22 : Index := 22#32
  let c0_402 : Index := 0#32
  let c0_403 : Index := 0#32
  ![v1118.toNat, 22, 0, 0]
def k0_off96 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1122 : Index := Scalar.indexCast v98
  let c23 : Index := 23#32
  let c0_404 : Index := 0#32
  let c0_405 : Index := 0#32
  ![v1122.toNat, 23, 0, 0]
def k0_off97 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1126 : Index := Scalar.indexCast v98
  let c24 : Index := 24#32
  let c0_406 : Index := 0#32
  let c0_407 : Index := 0#32
  ![v1126.toNat, 24, 0, 0]
def k0_off98 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1130 : Index := Scalar.indexCast v98
  let c25 : Index := 25#32
  let c0_408 : Index := 0#32
  let c0_409 : Index := 0#32
  ![v1130.toNat, 25, 0, 0]
def k0_off99 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1134 : Index := Scalar.indexCast v98
  let c26 : Index := 26#32
  let c0_410 : Index := 0#32
  let c0_411 : Index := 0#32
  ![v1134.toNat, 26, 0, 0]
def k0_off100 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1138 : Index := Scalar.indexCast v98
  let c27 : Index := 27#32
  let c0_412 : Index := 0#32
  let c0_413 : Index := 0#32
  ![v1138.toNat, 27, 0, 0]
def k0_off101 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1142 : Index := Scalar.indexCast v98
  let c28 : Index := 28#32
  let c0_414 : Index := 0#32
  let c0_415 : Index := 0#32
  ![v1142.toNat, 28, 0, 0]
def k0_off102 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1146 : Index := Scalar.indexCast v98
  let c29 : Index := 29#32
  let c0_416 : Index := 0#32
  let c0_417 : Index := 0#32
  ![v1146.toNat, 29, 0, 0]
def k0_off103 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1150 : Index := Scalar.indexCast v98
  let c30 : Index := 30#32
  let c0_418 : Index := 0#32
  let c0_419 : Index := 0#32
  ![v1150.toNat, 30, 0, 0]
def k0_off104 (i : grid0.Coords) (c0_i32_59 : BitVec 32) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1154 : Index := Scalar.indexCast v98
  let c31 : Index := 31#32
  let c0_420 : Index := 0#32
  let c0_421 : Index := 0#32
  ![v1154.toNat, 31, 0, 0]
def k0_off105 (i : grid0.Coords) (c0_i32_59 : BitVec 32) : Fin 3 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_57 : BitVec 32 := 1#32
  let v96 : BitVec 32 := Scalar.subi v21 c1_i32_57
  let c2_i32_58 : BitVec 32 := 2#32
  let v97 : BitVec 32 := Scalar.muli v96 c2_i32_58
  let v98 : BitVec 32 := Scalar.addi v97 c0_i32_59
  let v1159 : Index := Scalar.indexCast v98
  let c0_422 : Index := 0#32
  let c0_423 : Index := 0#32
  ![v1159.toNat, 0, 0]
def k0_mult11 (i : grid0.Coords) : BitVec 32 :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_424 : BitVec 32 := 1#32
  let v1163 : BitVec 32 := Scalar.subi v21 c1_i32_424
  let c2_i32_425 : BitVec 32 := 2#32
  let v1164 : BitVec 32 := Scalar.muli v1163 c2_i32_425
  let c1_i32_426 : BitVec 32 := 1#32
  let v1165 : BitVec 32 := Scalar.addi v1164 c1_i32_426
  let c256_i32_427 : BitVec 32 := 256#32
  let v1166 : BitVec 32 := Scalar.muli v1165 c256_i32_427
  let c0_i32_428 : BitVec 32 := 0#32
  let v1167 : BitVec 32 := Scalar.addi v1166 c0_i32_428
  v1167
def k0_mult12 (i : grid0.Coords) : BitVec 32 :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c1_i32_424 : BitVec 32 := 1#32
  let v1163 : BitVec 32 := Scalar.subi v21 c1_i32_424
  let c2_i32_425 : BitVec 32 := 2#32
  let v1164 : BitVec 32 := Scalar.muli v1163 c2_i32_425
  let c1_i32_426 : BitVec 32 := 1#32
  let v1165 : BitVec 32 := Scalar.addi v1164 c1_i32_426
  let c256_i32_459 : BitVec 32 := 256#32
  let v1271 : BitVec 32 := Scalar.muli v1165 c256_i32_459
  let c128_i32_460 : BitVec 32 := 128#32
  let v1272 : BitVec 32 := Scalar.addi v1271 c128_i32_460
  v1272
@[reducible] def k0_t3_loop (i : grid0.Coords) : Scf.Loop 32 :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_834 : BitVec 32 := 1#32
  ⟨v22, v2235, c1_i32_834⟩
def k0_off106 (i : grid0.Coords) (k0_t3 : Fin (k0_t3_loop i).trips) : Fin 3 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2450 : Index := Scalar.indexCast arg19
  let c0_947 : Index := 0#32
  let c0_948 : Index := 0#32
  ![v2450.toNat, 0, 0]
def k0_off107 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2455 : Index := Scalar.indexCast arg19
  let c0_950 : Index := 0#32
  let c0_951 : Index := 0#32
  let c0_952 : Index := 0#32
  ![v2455.toNat, 0, 0, 0]
def k0_off108 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2460 : Index := Scalar.indexCast arg19
  let c1_954 : Index := 1#32
  let c0_955 : Index := 0#32
  let c0_956 : Index := 0#32
  ![v2460.toNat, 1, 0, 0]
def k0_off109 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2465 : Index := Scalar.indexCast arg19
  let c2_958 : Index := 2#32
  let c0_959 : Index := 0#32
  let c0_960 : Index := 0#32
  ![v2465.toNat, 2, 0, 0]
def k0_off110 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2470 : Index := Scalar.indexCast arg19
  let c3_962 : Index := 3#32
  let c0_963 : Index := 0#32
  let c0_964 : Index := 0#32
  ![v2470.toNat, 3, 0, 0]
def k0_off111 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2475 : Index := Scalar.indexCast arg19
  let c4_966 : Index := 4#32
  let c0_967 : Index := 0#32
  let c0_968 : Index := 0#32
  ![v2475.toNat, 4, 0, 0]
def k0_off112 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2480 : Index := Scalar.indexCast arg19
  let c5_970 : Index := 5#32
  let c0_971 : Index := 0#32
  let c0_972 : Index := 0#32
  ![v2480.toNat, 5, 0, 0]
def k0_off113 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2485 : Index := Scalar.indexCast arg19
  let c6_974 : Index := 6#32
  let c0_975 : Index := 0#32
  let c0_976 : Index := 0#32
  ![v2485.toNat, 6, 0, 0]
def k0_off114 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2490 : Index := Scalar.indexCast arg19
  let c7_978 : Index := 7#32
  let c0_979 : Index := 0#32
  let c0_980 : Index := 0#32
  ![v2490.toNat, 7, 0, 0]
def k0_off115 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2495 : Index := Scalar.indexCast arg19
  let c8_982 : Index := 8#32
  let c0_983 : Index := 0#32
  let c0_984 : Index := 0#32
  ![v2495.toNat, 8, 0, 0]
def k0_off116 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2500 : Index := Scalar.indexCast arg19
  let c9_986 : Index := 9#32
  let c0_987 : Index := 0#32
  let c0_988 : Index := 0#32
  ![v2500.toNat, 9, 0, 0]
def k0_off117 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2505 : Index := Scalar.indexCast arg19
  let c10_990 : Index := 10#32
  let c0_991 : Index := 0#32
  let c0_992 : Index := 0#32
  ![v2505.toNat, 10, 0, 0]
def k0_off118 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2510 : Index := Scalar.indexCast arg19
  let c11_994 : Index := 11#32
  let c0_995 : Index := 0#32
  let c0_996 : Index := 0#32
  ![v2510.toNat, 11, 0, 0]
def k0_off119 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2515 : Index := Scalar.indexCast arg19
  let c12_998 : Index := 12#32
  let c0_999 : Index := 0#32
  let c0_1000 : Index := 0#32
  ![v2515.toNat, 12, 0, 0]
def k0_off120 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2520 : Index := Scalar.indexCast arg19
  let c13_1002 : Index := 13#32
  let c0_1003 : Index := 0#32
  let c0_1004 : Index := 0#32
  ![v2520.toNat, 13, 0, 0]
def k0_off121 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2525 : Index := Scalar.indexCast arg19
  let c14_1006 : Index := 14#32
  let c0_1007 : Index := 0#32
  let c0_1008 : Index := 0#32
  ![v2525.toNat, 14, 0, 0]
def k0_off122 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2530 : Index := Scalar.indexCast arg19
  let c15_1010 : Index := 15#32
  let c0_1011 : Index := 0#32
  let c0_1012 : Index := 0#32
  ![v2530.toNat, 15, 0, 0]
def k0_off123 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2535 : Index := Scalar.indexCast arg19
  let c16_1014 : Index := 16#32
  let c0_1015 : Index := 0#32
  let c0_1016 : Index := 0#32
  ![v2535.toNat, 16, 0, 0]
def k0_off124 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2540 : Index := Scalar.indexCast arg19
  let c17_1018 : Index := 17#32
  let c0_1019 : Index := 0#32
  let c0_1020 : Index := 0#32
  ![v2540.toNat, 17, 0, 0]
def k0_off125 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2545 : Index := Scalar.indexCast arg19
  let c18_1022 : Index := 18#32
  let c0_1023 : Index := 0#32
  let c0_1024 : Index := 0#32
  ![v2545.toNat, 18, 0, 0]
def k0_off126 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2550 : Index := Scalar.indexCast arg19
  let c19_1026 : Index := 19#32
  let c0_1027 : Index := 0#32
  let c0_1028 : Index := 0#32
  ![v2550.toNat, 19, 0, 0]
def k0_off127 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2555 : Index := Scalar.indexCast arg19
  let c20_1030 : Index := 20#32
  let c0_1031 : Index := 0#32
  let c0_1032 : Index := 0#32
  ![v2555.toNat, 20, 0, 0]
def k0_off128 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2560 : Index := Scalar.indexCast arg19
  let c21_1034 : Index := 21#32
  let c0_1035 : Index := 0#32
  let c0_1036 : Index := 0#32
  ![v2560.toNat, 21, 0, 0]
def k0_off129 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2565 : Index := Scalar.indexCast arg19
  let c22_1038 : Index := 22#32
  let c0_1039 : Index := 0#32
  let c0_1040 : Index := 0#32
  ![v2565.toNat, 22, 0, 0]
def k0_off130 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2570 : Index := Scalar.indexCast arg19
  let c23_1042 : Index := 23#32
  let c0_1043 : Index := 0#32
  let c0_1044 : Index := 0#32
  ![v2570.toNat, 23, 0, 0]
def k0_off131 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2575 : Index := Scalar.indexCast arg19
  let c24_1046 : Index := 24#32
  let c0_1047 : Index := 0#32
  let c0_1048 : Index := 0#32
  ![v2575.toNat, 24, 0, 0]
def k0_off132 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2580 : Index := Scalar.indexCast arg19
  let c25_1050 : Index := 25#32
  let c0_1051 : Index := 0#32
  let c0_1052 : Index := 0#32
  ![v2580.toNat, 25, 0, 0]
def k0_off133 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2585 : Index := Scalar.indexCast arg19
  let c26_1054 : Index := 26#32
  let c0_1055 : Index := 0#32
  let c0_1056 : Index := 0#32
  ![v2585.toNat, 26, 0, 0]
def k0_off134 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2590 : Index := Scalar.indexCast arg19
  let c27_1058 : Index := 27#32
  let c0_1059 : Index := 0#32
  let c0_1060 : Index := 0#32
  ![v2590.toNat, 27, 0, 0]
def k0_off135 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2595 : Index := Scalar.indexCast arg19
  let c28_1062 : Index := 28#32
  let c0_1063 : Index := 0#32
  let c0_1064 : Index := 0#32
  ![v2595.toNat, 28, 0, 0]
def k0_off136 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2600 : Index := Scalar.indexCast arg19
  let c29_1066 : Index := 29#32
  let c0_1067 : Index := 0#32
  let c0_1068 : Index := 0#32
  ![v2600.toNat, 29, 0, 0]
def k0_off137 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2605 : Index := Scalar.indexCast arg19
  let c30_1070 : Index := 30#32
  let c0_1071 : Index := 0#32
  let c0_1072 : Index := 0#32
  ![v2605.toNat, 30, 0, 0]
def k0_off138 (i : grid0.Coords) (k0_t3 : Fin (k0_t3_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c1_i32_834 : BitVec 32 := 1#32
  let arg19 : BitVec 32 := Scf.iv v22 c1_i32_834 k0_t3
  let v2610 : Index := Scalar.indexCast arg19
  let c31_1074 : Index := 31#32
  let c0_1075 : Index := 0#32
  let c0_1076 : Index := 0#32
  ![v2610.toNat, 31, 0, 0]
@[reducible] def k0_t4_loop (i : grid0.Coords) : Scf.Loop 32 :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let v2232 : BitVec 32 := Scalar.addi v22 v2231
  let c1_i32_835 : BitVec 32 := 1#32
  ⟨v2235, v2232, c1_i32_835⟩
def k0_off139 (i : grid0.Coords) (k0_t4 : Fin (k0_t4_loop i).trips) : Fin 3 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2450 : Index := Scalar.indexCast arg19
  let c0_947 : Index := 0#32
  let c0_948 : Index := 0#32
  ![v2450.toNat, 0, 0]
def k0_off140 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2455 : Index := Scalar.indexCast arg19
  let c0_950 : Index := 0#32
  let c0_951 : Index := 0#32
  let c0_952 : Index := 0#32
  ![v2455.toNat, 0, 0, 0]
def k0_off141 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2460 : Index := Scalar.indexCast arg19
  let c1_954 : Index := 1#32
  let c0_955 : Index := 0#32
  let c0_956 : Index := 0#32
  ![v2460.toNat, 1, 0, 0]
def k0_off142 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2465 : Index := Scalar.indexCast arg19
  let c2_958 : Index := 2#32
  let c0_959 : Index := 0#32
  let c0_960 : Index := 0#32
  ![v2465.toNat, 2, 0, 0]
def k0_off143 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2470 : Index := Scalar.indexCast arg19
  let c3_962 : Index := 3#32
  let c0_963 : Index := 0#32
  let c0_964 : Index := 0#32
  ![v2470.toNat, 3, 0, 0]
def k0_off144 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2475 : Index := Scalar.indexCast arg19
  let c4_966 : Index := 4#32
  let c0_967 : Index := 0#32
  let c0_968 : Index := 0#32
  ![v2475.toNat, 4, 0, 0]
def k0_off145 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2480 : Index := Scalar.indexCast arg19
  let c5_970 : Index := 5#32
  let c0_971 : Index := 0#32
  let c0_972 : Index := 0#32
  ![v2480.toNat, 5, 0, 0]
def k0_off146 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2485 : Index := Scalar.indexCast arg19
  let c6_974 : Index := 6#32
  let c0_975 : Index := 0#32
  let c0_976 : Index := 0#32
  ![v2485.toNat, 6, 0, 0]
def k0_off147 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2490 : Index := Scalar.indexCast arg19
  let c7_978 : Index := 7#32
  let c0_979 : Index := 0#32
  let c0_980 : Index := 0#32
  ![v2490.toNat, 7, 0, 0]
def k0_off148 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2495 : Index := Scalar.indexCast arg19
  let c8_982 : Index := 8#32
  let c0_983 : Index := 0#32
  let c0_984 : Index := 0#32
  ![v2495.toNat, 8, 0, 0]
def k0_off149 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2500 : Index := Scalar.indexCast arg19
  let c9_986 : Index := 9#32
  let c0_987 : Index := 0#32
  let c0_988 : Index := 0#32
  ![v2500.toNat, 9, 0, 0]
def k0_off150 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2505 : Index := Scalar.indexCast arg19
  let c10_990 : Index := 10#32
  let c0_991 : Index := 0#32
  let c0_992 : Index := 0#32
  ![v2505.toNat, 10, 0, 0]
def k0_off151 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2510 : Index := Scalar.indexCast arg19
  let c11_994 : Index := 11#32
  let c0_995 : Index := 0#32
  let c0_996 : Index := 0#32
  ![v2510.toNat, 11, 0, 0]
def k0_off152 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2515 : Index := Scalar.indexCast arg19
  let c12_998 : Index := 12#32
  let c0_999 : Index := 0#32
  let c0_1000 : Index := 0#32
  ![v2515.toNat, 12, 0, 0]
def k0_off153 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2520 : Index := Scalar.indexCast arg19
  let c13_1002 : Index := 13#32
  let c0_1003 : Index := 0#32
  let c0_1004 : Index := 0#32
  ![v2520.toNat, 13, 0, 0]
def k0_off154 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2525 : Index := Scalar.indexCast arg19
  let c14_1006 : Index := 14#32
  let c0_1007 : Index := 0#32
  let c0_1008 : Index := 0#32
  ![v2525.toNat, 14, 0, 0]
def k0_off155 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2530 : Index := Scalar.indexCast arg19
  let c15_1010 : Index := 15#32
  let c0_1011 : Index := 0#32
  let c0_1012 : Index := 0#32
  ![v2530.toNat, 15, 0, 0]
def k0_off156 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2535 : Index := Scalar.indexCast arg19
  let c16_1014 : Index := 16#32
  let c0_1015 : Index := 0#32
  let c0_1016 : Index := 0#32
  ![v2535.toNat, 16, 0, 0]
def k0_off157 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2540 : Index := Scalar.indexCast arg19
  let c17_1018 : Index := 17#32
  let c0_1019 : Index := 0#32
  let c0_1020 : Index := 0#32
  ![v2540.toNat, 17, 0, 0]
def k0_off158 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2545 : Index := Scalar.indexCast arg19
  let c18_1022 : Index := 18#32
  let c0_1023 : Index := 0#32
  let c0_1024 : Index := 0#32
  ![v2545.toNat, 18, 0, 0]
def k0_off159 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2550 : Index := Scalar.indexCast arg19
  let c19_1026 : Index := 19#32
  let c0_1027 : Index := 0#32
  let c0_1028 : Index := 0#32
  ![v2550.toNat, 19, 0, 0]
def k0_off160 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2555 : Index := Scalar.indexCast arg19
  let c20_1030 : Index := 20#32
  let c0_1031 : Index := 0#32
  let c0_1032 : Index := 0#32
  ![v2555.toNat, 20, 0, 0]
def k0_off161 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2560 : Index := Scalar.indexCast arg19
  let c21_1034 : Index := 21#32
  let c0_1035 : Index := 0#32
  let c0_1036 : Index := 0#32
  ![v2560.toNat, 21, 0, 0]
def k0_off162 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2565 : Index := Scalar.indexCast arg19
  let c22_1038 : Index := 22#32
  let c0_1039 : Index := 0#32
  let c0_1040 : Index := 0#32
  ![v2565.toNat, 22, 0, 0]
def k0_off163 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2570 : Index := Scalar.indexCast arg19
  let c23_1042 : Index := 23#32
  let c0_1043 : Index := 0#32
  let c0_1044 : Index := 0#32
  ![v2570.toNat, 23, 0, 0]
def k0_off164 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2575 : Index := Scalar.indexCast arg19
  let c24_1046 : Index := 24#32
  let c0_1047 : Index := 0#32
  let c0_1048 : Index := 0#32
  ![v2575.toNat, 24, 0, 0]
def k0_off165 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2580 : Index := Scalar.indexCast arg19
  let c25_1050 : Index := 25#32
  let c0_1051 : Index := 0#32
  let c0_1052 : Index := 0#32
  ![v2580.toNat, 25, 0, 0]
def k0_off166 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2585 : Index := Scalar.indexCast arg19
  let c26_1054 : Index := 26#32
  let c0_1055 : Index := 0#32
  let c0_1056 : Index := 0#32
  ![v2585.toNat, 26, 0, 0]
def k0_off167 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2590 : Index := Scalar.indexCast arg19
  let c27_1058 : Index := 27#32
  let c0_1059 : Index := 0#32
  let c0_1060 : Index := 0#32
  ![v2590.toNat, 27, 0, 0]
def k0_off168 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2595 : Index := Scalar.indexCast arg19
  let c28_1062 : Index := 28#32
  let c0_1063 : Index := 0#32
  let c0_1064 : Index := 0#32
  ![v2595.toNat, 28, 0, 0]
def k0_off169 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2600 : Index := Scalar.indexCast arg19
  let c29_1066 : Index := 29#32
  let c0_1067 : Index := 0#32
  let c0_1068 : Index := 0#32
  ![v2600.toNat, 29, 0, 0]
def k0_off170 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2605 : Index := Scalar.indexCast arg19
  let c30_1070 : Index := 30#32
  let c0_1071 : Index := 0#32
  let c0_1072 : Index := 0#32
  ![v2605.toNat, 30, 0, 0]
def k0_off171 (i : grid0.Coords) (k0_t4 : Fin (k0_t4_loop i).trips) : Fin 4 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let c16_i32_831 : BitVec 32 := 16#32
  let v2230 : BitVec 32 := Scalar.muli v41 c16_i32_831
  let v2231 : BitVec 32 := Scalar.subi v2230 v22
  let c1_i32_833 : BitVec 32 := 1#32
  let v2233 : BitVec 32 := Scalar.divsi v2231 c1_i32_833
  let v2234 : BitVec 32 := Scalar.muli v2233 c1_i32_833
  let v2235 : BitVec 32 := Scalar.addi v22 v2234
  let c1_i32_835 : BitVec 32 := 1#32
  let arg19 : BitVec 32 := Scf.iv v2235 c1_i32_835 k0_t4
  let v2610 : Index := Scalar.indexCast arg19
  let c31_1074 : Index := 31#32
  let c0_1075 : Index := 0#32
  let c0_1076 : Index := 0#32
  ![v2610.toNat, 31, 0, 0]
@[reducible] def k0_t5_loop (i : grid0.Coords) : Scf.Loop 32 :=
  let c0_i32_838 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2238 : BitVec 32 := Scalar.subi v41 c0_i32_838
  let c1_i32_839 : BitVec 32 := 1#32
  let v2240 : BitVec 32 := Scalar.divsi v2238 c1_i32_839
  let v2241 : BitVec 32 := Scalar.muli v2240 c1_i32_839
  let v2242 : BitVec 32 := Scalar.addi c0_i32_838 v2241
  let c1_i32_840 : BitVec 32 := 1#32
  ⟨c0_i32_838, v2242, c1_i32_840⟩
def k0_off172 (i : grid0.Coords) (k0_t5 : Fin (k0_t5_loop i).trips) (c0_i32_947 : BitVec 32) : Fin 3 → Nat :=
  let c0_i32_838 : BitVec 32 := 0#32
  let c1_i32_840 : BitVec 32 := 1#32
  let arg19 : BitVec 32 := Scf.iv c0_i32_838 c1_i32_840 k0_t5
  let c16_i32_946 : BitVec 32 := 16#32
  let v2449 : BitVec 32 := Scalar.muli arg19 c16_i32_946
  let v2450 : BitVec 32 := Scalar.addi v2449 c0_i32_947
  let v2451 : Index := Scalar.indexCast v2450
  let c0_948 : Index := 0#32
  let c0_949 : Index := 0#32
  ![v2451.toNat, 0, 0]
def k0_off173 (i : grid0.Coords) (k0_t5 : Fin (k0_t5_loop i).trips) (c0_i32_947 : BitVec 32) : Fin 4 → Nat :=
  let c0_i32_838 : BitVec 32 := 0#32
  let c1_i32_840 : BitVec 32 := 1#32
  let arg19 : BitVec 32 := Scf.iv c0_i32_838 c1_i32_840 k0_t5
  let c16_i32_946 : BitVec 32 := 16#32
  let v2449 : BitVec 32 := Scalar.muli arg19 c16_i32_946
  let v2450 : BitVec 32 := Scalar.addi v2449 c0_i32_947
  let v2454 : Index := Scalar.indexCast v2450
  let c0_950 : Index := 0#32
  let c0_951 : Index := 0#32
  let c0_952 : Index := 0#32
  ![v2454.toNat, 0, 0, 0]
@[reducible] def k0_t6_loop (i : grid0.Coords) : Scf.Loop 32 :=
  let c0_i32_838 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2238 : BitVec 32 := Scalar.subi v41 c0_i32_838
  let c1_i32_839 : BitVec 32 := 1#32
  let v2240 : BitVec 32 := Scalar.divsi v2238 c1_i32_839
  let v2241 : BitVec 32 := Scalar.muli v2240 c1_i32_839
  let v2242 : BitVec 32 := Scalar.addi c0_i32_838 v2241
  let v2239 : BitVec 32 := Scalar.addi c0_i32_838 v2238
  let c1_i32_841 : BitVec 32 := 1#32
  ⟨v2242, v2239, c1_i32_841⟩
def k0_off174 (i : grid0.Coords) (k0_t6 : Fin (k0_t6_loop i).trips) (c0_i32_947 : BitVec 32) : Fin 3 → Nat :=
  let c0_i32_838 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2238 : BitVec 32 := Scalar.subi v41 c0_i32_838
  let c1_i32_839 : BitVec 32 := 1#32
  let v2240 : BitVec 32 := Scalar.divsi v2238 c1_i32_839
  let v2241 : BitVec 32 := Scalar.muli v2240 c1_i32_839
  let v2242 : BitVec 32 := Scalar.addi c0_i32_838 v2241
  let c1_i32_841 : BitVec 32 := 1#32
  let arg19 : BitVec 32 := Scf.iv v2242 c1_i32_841 k0_t6
  let c16_i32_946 : BitVec 32 := 16#32
  let v2449 : BitVec 32 := Scalar.muli arg19 c16_i32_946
  let v2450 : BitVec 32 := Scalar.addi v2449 c0_i32_947
  let v2451 : Index := Scalar.indexCast v2450
  let c0_948 : Index := 0#32
  let c0_949 : Index := 0#32
  ![v2451.toNat, 0, 0]
def k0_off175 (i : grid0.Coords) (k0_t6 : Fin (k0_t6_loop i).trips) (c0_i32_947 : BitVec 32) : Fin 4 → Nat :=
  let c0_i32_838 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2238 : BitVec 32 := Scalar.subi v41 c0_i32_838
  let c1_i32_839 : BitVec 32 := 1#32
  let v2240 : BitVec 32 := Scalar.divsi v2238 c1_i32_839
  let v2241 : BitVec 32 := Scalar.muli v2240 c1_i32_839
  let v2242 : BitVec 32 := Scalar.addi c0_i32_838 v2241
  let c1_i32_841 : BitVec 32 := 1#32
  let arg19 : BitVec 32 := Scf.iv v2242 c1_i32_841 k0_t6
  let c16_i32_946 : BitVec 32 := 16#32
  let v2449 : BitVec 32 := Scalar.muli arg19 c16_i32_946
  let v2450 : BitVec 32 := Scalar.addi v2449 c0_i32_947
  let v2454 : Index := Scalar.indexCast v2450
  let c0_950 : Index := 0#32
  let c0_951 : Index := 0#32
  let c0_952 : Index := 0#32
  ![v2454.toNat, 0, 0, 0]
@[reducible] def k0_t7_loop : Scf.Loop 32 :=
  let c1_i32_849 : BitVec 32 := 1#32
  let c31_i32_850 : BitVec 32 := 31#32
  let v2264 : BitVec 32 := Scalar.addi c1_i32_849 c31_i32_850
  let c1_i32_851 : BitVec 32 := 1#32
  ⟨c1_i32_849, v2264, c1_i32_851⟩
@[reducible] def k0_t8_loop (i : grid0.Coords) : Scf.Loop 32 :=
  let c0_i32_947 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2452 : BitVec 32 := Scalar.subi v41 c0_i32_947
  let c1_i32_948 : BitVec 32 := 1#32
  let v2454 : BitVec 32 := Scalar.divsi v2452 c1_i32_948
  let v2455 : BitVec 32 := Scalar.muli v2454 c1_i32_948
  let v2456 : BitVec 32 := Scalar.addi c0_i32_947 v2455
  let c1_i32_949 : BitVec 32 := 1#32
  ⟨c0_i32_947, v2456, c1_i32_949⟩
def k0_off176 (i : grid0.Coords) (k0_t8 : Fin (k0_t8_loop i).trips) (c0_i32_958 : BitVec 32) : Fin 3 → Nat :=
  let c0_i32_947 : BitVec 32 := 0#32
  let c1_i32_949 : BitVec 32 := 1#32
  let arg23 : BitVec 32 := Scf.iv c0_i32_947 c1_i32_949 k0_t8
  let c16_i32_957 : BitVec 32 := 16#32
  let v2478 : BitVec 32 := Scalar.muli arg23 c16_i32_957
  let v2479 : BitVec 32 := Scalar.addi v2478 c0_i32_958
  let v2480 : Index := Scalar.indexCast v2479
  let c0_959 : Index := 0#32
  let c0_960 : Index := 0#32
  ![v2480.toNat, 0, 0]
def k0_off177 (i : grid0.Coords) (k0_t7 : Fin k0_t7_loop.trips) (k0_t8 : Fin (k0_t8_loop i).trips) (c0_i32_958 : BitVec 32) : Fin 4 → Nat :=
  let c0_i32_947 : BitVec 32 := 0#32
  let c1_i32_949 : BitVec 32 := 1#32
  let arg23 : BitVec 32 := Scf.iv c0_i32_947 c1_i32_949 k0_t8
  let c16_i32_957 : BitVec 32 := 16#32
  let v2478 : BitVec 32 := Scalar.muli arg23 c16_i32_957
  let v2479 : BitVec 32 := Scalar.addi v2478 c0_i32_958
  let v2484 : Index := Scalar.indexCast v2479
  let c1_i32_849 : BitVec 32 := 1#32
  let c1_i32_851 : BitVec 32 := 1#32
  let arg19 : BitVec 32 := Scf.iv c1_i32_849 c1_i32_851 k0_t7
  let c1_i32_961 : BitVec 32 := 1#32
  let v2483 : BitVec 32 := Scalar.subi arg19 c1_i32_961
  let v2485 : Index := Scalar.indexCast v2483
  let c0_962 : Index := 0#32
  let c0_963 : Index := 0#32
  ![v2484.toNat, v2485.toNat, 0, 0]
def k0_off178 (i : grid0.Coords) (k0_t7 : Fin k0_t7_loop.trips) (k0_t8 : Fin (k0_t8_loop i).trips) (c0_i32_958 : BitVec 32) : Fin 4 → Nat :=
  let c0_i32_947 : BitVec 32 := 0#32
  let c1_i32_949 : BitVec 32 := 1#32
  let arg23 : BitVec 32 := Scf.iv c0_i32_947 c1_i32_949 k0_t8
  let c16_i32_957 : BitVec 32 := 16#32
  let v2478 : BitVec 32 := Scalar.muli arg23 c16_i32_957
  let v2479 : BitVec 32 := Scalar.addi v2478 c0_i32_958
  let v2495 : Index := Scalar.indexCast v2479
  let c1_i32_849 : BitVec 32 := 1#32
  let c1_i32_851 : BitVec 32 := 1#32
  let arg19 : BitVec 32 := Scf.iv c1_i32_849 c1_i32_851 k0_t7
  let v2496 : Index := Scalar.indexCast arg19
  let c0_967 : Index := 0#32
  let c0_968 : Index := 0#32
  ![v2495.toNat, v2496.toNat, 0, 0]
@[reducible] def k0_t9_loop (i : grid0.Coords) : Scf.Loop 32 :=
  let c0_i32_947 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2452 : BitVec 32 := Scalar.subi v41 c0_i32_947
  let c1_i32_948 : BitVec 32 := 1#32
  let v2454 : BitVec 32 := Scalar.divsi v2452 c1_i32_948
  let v2455 : BitVec 32 := Scalar.muli v2454 c1_i32_948
  let v2456 : BitVec 32 := Scalar.addi c0_i32_947 v2455
  let v2453 : BitVec 32 := Scalar.addi c0_i32_947 v2452
  let c1_i32_950 : BitVec 32 := 1#32
  ⟨v2456, v2453, c1_i32_950⟩
def k0_off179 (i : grid0.Coords) (k0_t9 : Fin (k0_t9_loop i).trips) (c0_i32_958 : BitVec 32) : Fin 3 → Nat :=
  let c0_i32_947 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2452 : BitVec 32 := Scalar.subi v41 c0_i32_947
  let c1_i32_948 : BitVec 32 := 1#32
  let v2454 : BitVec 32 := Scalar.divsi v2452 c1_i32_948
  let v2455 : BitVec 32 := Scalar.muli v2454 c1_i32_948
  let v2456 : BitVec 32 := Scalar.addi c0_i32_947 v2455
  let c1_i32_950 : BitVec 32 := 1#32
  let arg23 : BitVec 32 := Scf.iv v2456 c1_i32_950 k0_t9
  let c16_i32_957 : BitVec 32 := 16#32
  let v2478 : BitVec 32 := Scalar.muli arg23 c16_i32_957
  let v2479 : BitVec 32 := Scalar.addi v2478 c0_i32_958
  let v2480 : Index := Scalar.indexCast v2479
  let c0_959 : Index := 0#32
  let c0_960 : Index := 0#32
  ![v2480.toNat, 0, 0]
def k0_off180 (i : grid0.Coords) (k0_t7 : Fin k0_t7_loop.trips) (k0_t9 : Fin (k0_t9_loop i).trips) (c0_i32_958 : BitVec 32) : Fin 4 → Nat :=
  let c0_i32_947 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2452 : BitVec 32 := Scalar.subi v41 c0_i32_947
  let c1_i32_948 : BitVec 32 := 1#32
  let v2454 : BitVec 32 := Scalar.divsi v2452 c1_i32_948
  let v2455 : BitVec 32 := Scalar.muli v2454 c1_i32_948
  let v2456 : BitVec 32 := Scalar.addi c0_i32_947 v2455
  let c1_i32_950 : BitVec 32 := 1#32
  let arg23 : BitVec 32 := Scf.iv v2456 c1_i32_950 k0_t9
  let c16_i32_957 : BitVec 32 := 16#32
  let v2478 : BitVec 32 := Scalar.muli arg23 c16_i32_957
  let v2479 : BitVec 32 := Scalar.addi v2478 c0_i32_958
  let v2484 : Index := Scalar.indexCast v2479
  let c1_i32_849 : BitVec 32 := 1#32
  let c1_i32_851 : BitVec 32 := 1#32
  let arg19 : BitVec 32 := Scf.iv c1_i32_849 c1_i32_851 k0_t7
  let c1_i32_961 : BitVec 32 := 1#32
  let v2483 : BitVec 32 := Scalar.subi arg19 c1_i32_961
  let v2485 : Index := Scalar.indexCast v2483
  let c0_962 : Index := 0#32
  let c0_963 : Index := 0#32
  ![v2484.toNat, v2485.toNat, 0, 0]
def k0_off181 (i : grid0.Coords) (k0_t7 : Fin k0_t7_loop.trips) (k0_t9 : Fin (k0_t9_loop i).trips) (c0_i32_958 : BitVec 32) : Fin 4 → Nat :=
  let c0_i32_947 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2452 : BitVec 32 := Scalar.subi v41 c0_i32_947
  let c1_i32_948 : BitVec 32 := 1#32
  let v2454 : BitVec 32 := Scalar.divsi v2452 c1_i32_948
  let v2455 : BitVec 32 := Scalar.muli v2454 c1_i32_948
  let v2456 : BitVec 32 := Scalar.addi c0_i32_947 v2455
  let c1_i32_950 : BitVec 32 := 1#32
  let arg23 : BitVec 32 := Scf.iv v2456 c1_i32_950 k0_t9
  let c16_i32_957 : BitVec 32 := 16#32
  let v2478 : BitVec 32 := Scalar.muli arg23 c16_i32_957
  let v2479 : BitVec 32 := Scalar.addi v2478 c0_i32_958
  let v2495 : Index := Scalar.indexCast v2479
  let c1_i32_849 : BitVec 32 := 1#32
  let c1_i32_851 : BitVec 32 := 1#32
  let arg19 : BitVec 32 := Scf.iv c1_i32_849 c1_i32_851 k0_t7
  let v2496 : Index := Scalar.indexCast arg19
  let c0_967 : Index := 0#32
  let c0_968 : Index := 0#32
  ![v2495.toNat, v2496.toNat, 0, 0]
@[reducible] def k0_t10_loop (i : grid0.Coords) : Scf.Loop 32 :=
  let c0_i32_854 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2269 : BitVec 32 := Scalar.subi v41 c0_i32_854
  let c1_i32_855 : BitVec 32 := 1#32
  let v2271 : BitVec 32 := Scalar.divsi v2269 c1_i32_855
  let v2272 : BitVec 32 := Scalar.muli v2271 c1_i32_855
  let v2273 : BitVec 32 := Scalar.addi c0_i32_854 v2272
  let c1_i32_856 : BitVec 32 := 1#32
  ⟨c0_i32_854, v2273, c1_i32_856⟩
def k0_off182 (i : grid0.Coords) (k0_t10 : Fin (k0_t10_loop i).trips) (c0_i32_947 : BitVec 32) : Fin 3 → Nat :=
  let c0_i32_854 : BitVec 32 := 0#32
  let c1_i32_856 : BitVec 32 := 1#32
  let arg19 : BitVec 32 := Scf.iv c0_i32_854 c1_i32_856 k0_t10
  let c16_i32_946 : BitVec 32 := 16#32
  let v2449 : BitVec 32 := Scalar.muli arg19 c16_i32_946
  let v2450 : BitVec 32 := Scalar.addi v2449 c0_i32_947
  let v2451 : Index := Scalar.indexCast v2450
  let c0_948 : Index := 0#32
  let c0_949 : Index := 0#32
  ![v2451.toNat, 0, 0]
def k0_off183 (i : grid0.Coords) (k0_t10 : Fin (k0_t10_loop i).trips) (c0_i32_947 : BitVec 32) : Fin 4 → Nat :=
  let c0_i32_854 : BitVec 32 := 0#32
  let c1_i32_856 : BitVec 32 := 1#32
  let arg19 : BitVec 32 := Scf.iv c0_i32_854 c1_i32_856 k0_t10
  let c16_i32_946 : BitVec 32 := 16#32
  let v2449 : BitVec 32 := Scalar.muli arg19 c16_i32_946
  let v2450 : BitVec 32 := Scalar.addi v2449 c0_i32_947
  let v2454 : Index := Scalar.indexCast v2450
  let c31_950 : Index := 31#32
  let c0_951 : Index := 0#32
  let c0_952 : Index := 0#32
  ![v2454.toNat, 31, 0, 0]
@[reducible] def k0_t11_loop (i : grid0.Coords) : Scf.Loop 32 :=
  let c0_i32_854 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2269 : BitVec 32 := Scalar.subi v41 c0_i32_854
  let c1_i32_855 : BitVec 32 := 1#32
  let v2271 : BitVec 32 := Scalar.divsi v2269 c1_i32_855
  let v2272 : BitVec 32 := Scalar.muli v2271 c1_i32_855
  let v2273 : BitVec 32 := Scalar.addi c0_i32_854 v2272
  let v2270 : BitVec 32 := Scalar.addi c0_i32_854 v2269
  let c1_i32_857 : BitVec 32 := 1#32
  ⟨v2273, v2270, c1_i32_857⟩
def k0_off184 (i : grid0.Coords) (k0_t11 : Fin (k0_t11_loop i).trips) (c0_i32_947 : BitVec 32) : Fin 3 → Nat :=
  let c0_i32_854 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2269 : BitVec 32 := Scalar.subi v41 c0_i32_854
  let c1_i32_855 : BitVec 32 := 1#32
  let v2271 : BitVec 32 := Scalar.divsi v2269 c1_i32_855
  let v2272 : BitVec 32 := Scalar.muli v2271 c1_i32_855
  let v2273 : BitVec 32 := Scalar.addi c0_i32_854 v2272
  let c1_i32_857 : BitVec 32 := 1#32
  let arg19 : BitVec 32 := Scf.iv v2273 c1_i32_857 k0_t11
  let c16_i32_946 : BitVec 32 := 16#32
  let v2449 : BitVec 32 := Scalar.muli arg19 c16_i32_946
  let v2450 : BitVec 32 := Scalar.addi v2449 c0_i32_947
  let v2451 : Index := Scalar.indexCast v2450
  let c0_948 : Index := 0#32
  let c0_949 : Index := 0#32
  ![v2451.toNat, 0, 0]
def k0_off185 (i : grid0.Coords) (k0_t11 : Fin (k0_t11_loop i).trips) (c0_i32_947 : BitVec 32) : Fin 4 → Nat :=
  let c0_i32_854 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c2_i32 : BitVec 32 := 2#32
  let v22 : BitVec 32 := Scalar.muli v21 c2_i32
  let c16_i32 : BitVec 32 := 16#32
  let v23 : BitVec 32 := Scalar.addi v22 c16_i32
  let c1_i32_8 : BitVec 32 := 1#32
  let v24 : BitVec 32 := Scalar.subi v23 c1_i32_8
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c16_i32_9 : BitVec 32 := 16#32
  let c0_i32_12 : BitVec 32 := 0#32
  let v31 : BitVec 1 := Scalar.cmpi .sgt c16_i32_9 c0_i32_12
  let v32 : BitVec 32 := Scalar.extui v31
  let c0_i32_13 : BitVec 32 := 0#32
  let v33 : BitVec 1 := Scalar.cmpi .slt c16_i32_9 c0_i32_13
  let v34 : BitVec 32 := Scalar.extui v33
  let v35 : BitVec 32 := Scalar.subi v32 v34
  let v36 : BitVec 1 := Scalar.cmpi .ne v30 v35
  let v37 : BitVec 32 := Scalar.remsi v24 c16_i32_9
  let c0_i32_14 : BitVec 32 := 0#32
  let v38 : BitVec 1 := Scalar.cmpi .ne v37 c0_i32_14
  let v39 : BitVec 1 := Scalar.andi v36 v38
  let v25 : BitVec 32 := Scalar.divsi v24 c16_i32_9
  let c1_i32_15 : BitVec 32 := 1#32
  let v40 : BitVec 32 := Scalar.subi v25 c1_i32_15
  let v41 : BitVec 32 := Scalar.select v39 v40 v25
  let v2269 : BitVec 32 := Scalar.subi v41 c0_i32_854
  let c1_i32_855 : BitVec 32 := 1#32
  let v2271 : BitVec 32 := Scalar.divsi v2269 c1_i32_855
  let v2272 : BitVec 32 := Scalar.muli v2271 c1_i32_855
  let v2273 : BitVec 32 := Scalar.addi c0_i32_854 v2272
  let c1_i32_857 : BitVec 32 := 1#32
  let arg19 : BitVec 32 := Scf.iv v2273 c1_i32_857 k0_t11
  let c16_i32_946 : BitVec 32 := 16#32
  let v2449 : BitVec 32 := Scalar.muli arg19 c16_i32_946
  let v2450 : BitVec 32 := Scalar.addi v2449 c0_i32_947
  let v2454 : Index := Scalar.indexCast v2450
  let c31_950 : Index := 31#32
  let c0_951 : Index := 0#32
  let c0_952 : Index := 0#32
  ![v2454.toNat, 31, 0, 0]
@[reducible] def k0_t12_loop (i : grid0.Coords) : Scf.Loop 32 :=
  let c0_i32_946 : BitVec 32 := 0#32
  let arg0 : BitVec 32 := BitVec.ofNat 32 (i 0).val
  let c1_i32 : BitVec 32 := 1#32
  let v0 : BitVec 32 := Scalar.addi arg0 c1_i32
  let v2449 : BitVec 32 := Scalar.subi v0 c0_i32_946
  let c1_i32_947 : BitVec 32 := 1#32
  let v2451 : BitVec 32 := Scalar.divsi v2449 c1_i32_947
  let v2452 : BitVec 32 := Scalar.muli v2451 c1_i32_947
  let v2453 : BitVec 32 := Scalar.addi c0_i32_946 v2452
  let c1_i32_948 : BitVec 32 := 1#32
  ⟨c0_i32_946, v2453, c1_i32_948⟩
def k0_mult13 (i : grid0.Coords) (k0_t12 : Fin (k0_t12_loop i).trips) : BitVec 32 :=
  let c0_i32_946 : BitVec 32 := 0#32
  let c1_i32_948 : BitVec 32 := 1#32
  let arg19 : BitVec 32 := Scf.iv c0_i32_946 c1_i32_948 k0_t12
  let c128_i32_950 : BitVec 32 := 128#32
  let v2456 : BitVec 32 := Scalar.muli arg19 c128_i32_950
  v2456
def k0_off186 (i : grid0.Coords) (k0_t12 : Fin (k0_t12_loop i).trips) : Fin 2 → Nat :=
  let c0_i32_946 : BitVec 32 := 0#32
  let c1_i32_948 : BitVec 32 := 1#32
  let arg19 : BitVec 32 := Scf.iv c0_i32_946 c1_i32_948 k0_t12
  let c128_i32_950 : BitVec 32 := 128#32
  let v2456 : BitVec 32 := Scalar.muli arg19 c128_i32_950
  let v2457 : BitVec 32 := v2456
  let v2458 : Index := Scalar.indexCast v2457
  let c0_951 : Index := 0#32
  ![v2458.toNat, 0]
@[reducible] def k0_t13_loop (i : grid0.Coords) : Scf.Loop 32 :=
  let c0_i32_946 : BitVec 32 := 0#32
  let arg0 : BitVec 32 := BitVec.ofNat 32 (i 0).val
  let c1_i32 : BitVec 32 := 1#32
  let v0 : BitVec 32 := Scalar.addi arg0 c1_i32
  let v2449 : BitVec 32 := Scalar.subi v0 c0_i32_946
  let c1_i32_947 : BitVec 32 := 1#32
  let v2451 : BitVec 32 := Scalar.divsi v2449 c1_i32_947
  let v2452 : BitVec 32 := Scalar.muli v2451 c1_i32_947
  let v2453 : BitVec 32 := Scalar.addi c0_i32_946 v2452
  let v2450 : BitVec 32 := Scalar.addi c0_i32_946 v2449
  let c1_i32_949 : BitVec 32 := 1#32
  ⟨v2453, v2450, c1_i32_949⟩
def k0_mult14 (i : grid0.Coords) (k0_t13 : Fin (k0_t13_loop i).trips) : BitVec 32 :=
  let c0_i32_946 : BitVec 32 := 0#32
  let arg0 : BitVec 32 := BitVec.ofNat 32 (i 0).val
  let c1_i32 : BitVec 32 := 1#32
  let v0 : BitVec 32 := Scalar.addi arg0 c1_i32
  let v2449 : BitVec 32 := Scalar.subi v0 c0_i32_946
  let c1_i32_947 : BitVec 32 := 1#32
  let v2451 : BitVec 32 := Scalar.divsi v2449 c1_i32_947
  let v2452 : BitVec 32 := Scalar.muli v2451 c1_i32_947
  let v2453 : BitVec 32 := Scalar.addi c0_i32_946 v2452
  let c1_i32_949 : BitVec 32 := 1#32
  let arg19 : BitVec 32 := Scf.iv v2453 c1_i32_949 k0_t13
  let c128_i32_950 : BitVec 32 := 128#32
  let v2456 : BitVec 32 := Scalar.muli arg19 c128_i32_950
  v2456
def k0_off187 (i : grid0.Coords) (k0_t13 : Fin (k0_t13_loop i).trips) : Fin 2 → Nat :=
  let c0_i32_946 : BitVec 32 := 0#32
  let arg0 : BitVec 32 := BitVec.ofNat 32 (i 0).val
  let c1_i32 : BitVec 32 := 1#32
  let v0 : BitVec 32 := Scalar.addi arg0 c1_i32
  let v2449 : BitVec 32 := Scalar.subi v0 c0_i32_946
  let c1_i32_947 : BitVec 32 := 1#32
  let v2451 : BitVec 32 := Scalar.divsi v2449 c1_i32_947
  let v2452 : BitVec 32 := Scalar.muli v2451 c1_i32_947
  let v2453 : BitVec 32 := Scalar.addi c0_i32_946 v2452
  let c1_i32_949 : BitVec 32 := 1#32
  let arg19 : BitVec 32 := Scf.iv v2453 c1_i32_949 k0_t13
  let c128_i32_950 : BitVec 32 := 128#32
  let v2456 : BitVec 32 := Scalar.muli arg19 c128_i32_950
  let v2457 : BitVec 32 := v2456
  let v2458 : Index := Scalar.indexCast v2457
  let c0_951 : Index := 0#32
  ![v2458.toNat, 0]
def k0_cond2 (i : grid0.Coords) : BitVec 1 :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c1024_i32_880 : BitVec 32 := 1024#32
  let v2323 : BitVec 32 := Scalar.muli v2322 c1024_i32_880
  let c512_i32_881 : BitVec 32 := 512#32
  let v2324 : BitVec 32 := Scalar.muli v21 c512_i32_881
  let v2325 : BitVec 1 := Scalar.cmpi .sgt v2323 v2324
  let v2326 : BitVec 32 := Scalar.extui v2325
  let c0_i32_882 : BitVec 32 := 0#32
  let v2327 : BitVec 1 := Scalar.cmpi .ne v2326 c0_i32_882
  v2327

def k0_mult15 (i : grid0.Coords) : BitVec 32 :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_947 : BitVec 32 := 512#32
  let v2450 : BitVec 32 := Scalar.muli v21 c512_i32_947
  v2450
def k0_off188 (i : grid0.Coords) : Fin 2 → Nat :=
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_947 : BitVec 32 := 512#32
  let v2450 : BitVec 32 := Scalar.muli v21 c512_i32_947
  let v2451 : BitVec 32 := v2450
  let v2452 : Index := Scalar.indexCast v2451
  let c0_948 : Index := 0#32
  ![v2452.toNat, 0]
@[reducible] def k0_t14_loop (i : grid0.Coords) : Scf.Loop 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_896 : BitVec 32 := 1#32
  ⟨c0_i32_894, v2353, c1_i32_896⟩
@[reducible] def k0_t15_loop (i : grid0.Coords) (k0_t14 : Fin (k0_t14_loop i).trips) : Scf.Loop 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_951 : BitVec 32 := 1#32
  ⟨c0_i32_949, v2458, c1_i32_951⟩
def k0_mult16 (i : grid0.Coords) (k0_t14 : Fin (k0_t14_loop i).trips) (k0_t15 : Fin (k0_t15_loop i k0_t14).trips) : BitVec 32 :=
  let c0_i32_949 : BitVec 32 := 0#32
  let c1_i32_951 : BitVec 32 := 1#32
  let arg22 : BitVec 32 := Scf.iv c0_i32_949 c1_i32_951 k0_t15
  let c1024_i32_991 : BitVec 32 := 1024#32
  let v2529 : BitVec 32 := Scalar.muli arg22 c1024_i32_991
  let c0_i32_992 : BitVec 32 := 0#32
  let v2530 : BitVec 32 := Scalar.addi v2529 c0_i32_992
  v2530
def k0_mult17 (i : grid0.Coords) (k0_t14 : Fin (k0_t14_loop i).trips) (k0_t15 : Fin (k0_t15_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t15
  let c1024_i32_991 : BitVec 32 := 1024#32
  let v2529 : BitVec 32 := Scalar.muli arg22 c1024_i32_991
  let c0_i32_992 : BitVec 32 := 0#32
  let v2530 : BitVec 32 := Scalar.addi v2529 c0_i32_992
  let v2531 : BitVec 32 := v2530
  let v2532 : BitVec 32 := Scalar.addi v2452 v2531
  v2532
def k0_off189 (i : grid0.Coords) (k0_t14 : Fin (k0_t14_loop i).trips) (k0_t15 : Fin (k0_t15_loop i k0_t14).trips) (c0_i32_992 : BitVec 32) : Fin 2 → Nat :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t15
  let c1024_i32_991 : BitVec 32 := 1024#32
  let v2529 : BitVec 32 := Scalar.muli arg22 c1024_i32_991
  let v2530 : BitVec 32 := Scalar.addi v2529 c0_i32_992
  let v2531 : BitVec 32 := v2530
  let v2532 : BitVec 32 := Scalar.addi v2452 v2531
  let v2533 : BitVec 32 := v2532
  let v2534 : Index := Scalar.indexCast v2533
  let c0_993 : Index := 0#32
  ![v2534.toNat, 0]
def k0_off190 (i : grid0.Coords) (k0_t14 : Fin (k0_t14_loop i).trips) (k0_t15 : Fin (k0_t15_loop i k0_t14).trips) (c0_i32_992 : BitVec 32) : Fin 2 → Nat :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t15
  let c1024_i32_991 : BitVec 32 := 1024#32
  let v2529 : BitVec 32 := Scalar.muli arg22 c1024_i32_991
  let v2530 : BitVec 32 := Scalar.addi v2529 c0_i32_992
  let v2531 : BitVec 32 := v2530
  let v2532 : BitVec 32 := Scalar.addi v2452 v2531
  let v2533 : BitVec 32 := v2532
  let v2538 : Index := Scalar.indexCast v2533
  let c0_994 : Index := 0#32
  ![v2538.toNat, 0]
def k0_off191 (i : grid0.Coords) (k0_t14 : Fin (k0_t14_loop i).trips) (k0_t15 : Fin (k0_t15_loop i k0_t14).trips) (c0_i32_992 : BitVec 32) : Fin 3 → Nat :=
  let c0_1000 : Index := 0#32
  let c0_i32_949 : BitVec 32 := 0#32
  let c1_i32_951 : BitVec 32 := 1#32
  let arg22 : BitVec 32 := Scf.iv c0_i32_949 c1_i32_951 k0_t15
  let c1024_i32_991 : BitVec 32 := 1024#32
  let v2529 : BitVec 32 := Scalar.muli arg22 c1024_i32_991
  let v2530 : BitVec 32 := Scalar.addi v2529 c0_i32_992
  let v2531 : BitVec 32 := v2530
  let v2547 : Index := Scalar.indexCast v2531
  let c0_1001 : Index := 0#32
  ![0, v2547.toNat, 0]
def k0_off192 (i : grid0.Coords) (k0_t14 : Fin (k0_t14_loop i).trips) (k0_t15 : Fin (k0_t15_loop i k0_t14).trips) (c0_i32_992 : BitVec 32) : Fin 3 → Nat :=
  let c1_1004 : Index := 1#32
  let c0_i32_949 : BitVec 32 := 0#32
  let c1_i32_951 : BitVec 32 := 1#32
  let arg22 : BitVec 32 := Scf.iv c0_i32_949 c1_i32_951 k0_t15
  let c1024_i32_991 : BitVec 32 := 1024#32
  let v2529 : BitVec 32 := Scalar.muli arg22 c1024_i32_991
  let v2530 : BitVec 32 := Scalar.addi v2529 c0_i32_992
  let v2531 : BitVec 32 := v2530
  let v2557 : Index := Scalar.indexCast v2531
  let c0_1005 : Index := 0#32
  ![1, v2557.toNat, 0]
def k0_off193 (i : grid0.Coords) (k0_t14 : Fin (k0_t14_loop i).trips) (k0_t15 : Fin (k0_t15_loop i k0_t14).trips) (c0_i32_992 : BitVec 32) : Fin 3 → Nat :=
  let c2_1012 : Index := 2#32
  let c0_i32_949 : BitVec 32 := 0#32
  let c1_i32_951 : BitVec 32 := 1#32
  let arg22 : BitVec 32 := Scf.iv c0_i32_949 c1_i32_951 k0_t15
  let c1024_i32_991 : BitVec 32 := 1024#32
  let v2529 : BitVec 32 := Scalar.muli arg22 c1024_i32_991
  let v2530 : BitVec 32 := Scalar.addi v2529 c0_i32_992
  let v2531 : BitVec 32 := v2530
  let v2571 : Index := Scalar.indexCast v2531
  let c0_1013 : Index := 0#32
  ![2, v2571.toNat, 0]
def k0_off194 (i : grid0.Coords) (k0_t14 : Fin (k0_t14_loop i).trips) (k0_t15 : Fin (k0_t15_loop i k0_t14).trips) (c0_i32_992 : BitVec 32) : Fin 3 → Nat :=
  let c3_1016 : Index := 3#32
  let c0_i32_949 : BitVec 32 := 0#32
  let c1_i32_951 : BitVec 32 := 1#32
  let arg22 : BitVec 32 := Scf.iv c0_i32_949 c1_i32_951 k0_t15
  let c1024_i32_991 : BitVec 32 := 1024#32
  let v2529 : BitVec 32 := Scalar.muli arg22 c1024_i32_991
  let v2530 : BitVec 32 := Scalar.addi v2529 c0_i32_992
  let v2531 : BitVec 32 := v2530
  let v2581 : Index := Scalar.indexCast v2531
  let c0_1017 : Index := 0#32
  ![3, v2581.toNat, 0]
def k0_mult18 (i : grid0.Coords) (k0_t14 : Fin (k0_t14_loop i).trips) (k0_t15 : Fin (k0_t15_loop i k0_t14).trips) : BitVec 32 :=
  let c0_i32_949 : BitVec 32 := 0#32
  let c1_i32_951 : BitVec 32 := 1#32
  let arg22 : BitVec 32 := Scf.iv c0_i32_949 c1_i32_951 k0_t15
  let c1024_i32_1019 : BitVec 32 := 1024#32
  let v2588 : BitVec 32 := Scalar.muli arg22 c1024_i32_1019
  let c256_i32_1020 : BitVec 32 := 256#32
  let v2589 : BitVec 32 := Scalar.addi v2588 c256_i32_1020
  v2589
def k0_mult19 (i : grid0.Coords) (k0_t14 : Fin (k0_t14_loop i).trips) (k0_t15 : Fin (k0_t15_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t15
  let c1024_i32_1019 : BitVec 32 := 1024#32
  let v2588 : BitVec 32 := Scalar.muli arg22 c1024_i32_1019
  let c256_i32_1020 : BitVec 32 := 256#32
  let v2589 : BitVec 32 := Scalar.addi v2588 c256_i32_1020
  let v2590 : BitVec 32 := v2589
  let v2591 : BitVec 32 := Scalar.addi v2452 v2590
  v2591
def k0_mult20 (i : grid0.Coords) (k0_t14 : Fin (k0_t14_loop i).trips) (k0_t15 : Fin (k0_t15_loop i k0_t14).trips) : BitVec 32 :=
  let c0_i32_949 : BitVec 32 := 0#32
  let c1_i32_951 : BitVec 32 := 1#32
  let arg22 : BitVec 32 := Scf.iv c0_i32_949 c1_i32_951 k0_t15
  let c1024_i32_1047 : BitVec 32 := 1024#32
  let v2647 : BitVec 32 := Scalar.muli arg22 c1024_i32_1047
  let c512_i32_1048 : BitVec 32 := 512#32
  let v2648 : BitVec 32 := Scalar.addi v2647 c512_i32_1048
  v2648
def k0_mult21 (i : grid0.Coords) (k0_t14 : Fin (k0_t14_loop i).trips) (k0_t15 : Fin (k0_t15_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t15
  let c1024_i32_1047 : BitVec 32 := 1024#32
  let v2647 : BitVec 32 := Scalar.muli arg22 c1024_i32_1047
  let c512_i32_1048 : BitVec 32 := 512#32
  let v2648 : BitVec 32 := Scalar.addi v2647 c512_i32_1048
  let v2649 : BitVec 32 := v2648
  let v2650 : BitVec 32 := Scalar.addi v2452 v2649
  v2650
def k0_mult22 (i : grid0.Coords) (k0_t14 : Fin (k0_t14_loop i).trips) (k0_t15 : Fin (k0_t15_loop i k0_t14).trips) : BitVec 32 :=
  let c0_i32_949 : BitVec 32 := 0#32
  let c1_i32_951 : BitVec 32 := 1#32
  let arg22 : BitVec 32 := Scf.iv c0_i32_949 c1_i32_951 k0_t15
  let c1024_i32_1075 : BitVec 32 := 1024#32
  let v2706 : BitVec 32 := Scalar.muli arg22 c1024_i32_1075
  let c768_i32 : BitVec 32 := 768#32
  let v2707 : BitVec 32 := Scalar.addi v2706 c768_i32
  v2707
def k0_mult23 (i : grid0.Coords) (k0_t14 : Fin (k0_t14_loop i).trips) (k0_t15 : Fin (k0_t15_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t15
  let c1024_i32_1075 : BitVec 32 := 1024#32
  let v2706 : BitVec 32 := Scalar.muli arg22 c1024_i32_1075
  let c768_i32 : BitVec 32 := 768#32
  let v2707 : BitVec 32 := Scalar.addi v2706 c768_i32
  let v2708 : BitVec 32 := v2707
  let v2709 : BitVec 32 := Scalar.addi v2452 v2708
  v2709
@[reducible] def k0_t16_loop (i : grid0.Coords) (k0_t14 : Fin (k0_t14_loop i).trips) : Scf.Loop 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let v2455 : BitVec 32 := Scalar.addi c0_i32_949 v2454
  let c1_i32_952 : BitVec 32 := 1#32
  ⟨v2458, v2455, c1_i32_952⟩
def k0_mult24 (i : grid0.Coords) (k0_t14 : Fin (k0_t14_loop i).trips) (k0_t16 : Fin (k0_t16_loop i k0_t14).trips) : BitVec 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_991 : BitVec 32 := 1024#32
  let v2529 : BitVec 32 := Scalar.muli arg22 c1024_i32_991
  let c0_i32_992 : BitVec 32 := 0#32
  let v2530 : BitVec 32 := Scalar.addi v2529 c0_i32_992
  v2530
def k0_mult25 (i : grid0.Coords) (k0_t14 : Fin (k0_t14_loop i).trips) (k0_t16 : Fin (k0_t16_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_991 : BitVec 32 := 1024#32
  let v2529 : BitVec 32 := Scalar.muli arg22 c1024_i32_991
  let c0_i32_992 : BitVec 32 := 0#32
  let v2530 : BitVec 32 := Scalar.addi v2529 c0_i32_992
  let v2531 : BitVec 32 := v2530
  let v2532 : BitVec 32 := Scalar.addi v2452 v2531
  v2532
def k0_off195 (i : grid0.Coords) (k0_t14 : Fin (k0_t14_loop i).trips) (k0_t16 : Fin (k0_t16_loop i k0_t14).trips) (c0_i32_992 : BitVec 32) : Fin 2 → Nat :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_991 : BitVec 32 := 1024#32
  let v2529 : BitVec 32 := Scalar.muli arg22 c1024_i32_991
  let v2530 : BitVec 32 := Scalar.addi v2529 c0_i32_992
  let v2531 : BitVec 32 := v2530
  let v2532 : BitVec 32 := Scalar.addi v2452 v2531
  let v2533 : BitVec 32 := v2532
  let v2534 : Index := Scalar.indexCast v2533
  let c0_993 : Index := 0#32
  ![v2534.toNat, 0]
def k0_off196 (i : grid0.Coords) (k0_t14 : Fin (k0_t14_loop i).trips) (k0_t16 : Fin (k0_t16_loop i k0_t14).trips) (c0_i32_992 : BitVec 32) : Fin 2 → Nat :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_991 : BitVec 32 := 1024#32
  let v2529 : BitVec 32 := Scalar.muli arg22 c1024_i32_991
  let v2530 : BitVec 32 := Scalar.addi v2529 c0_i32_992
  let v2531 : BitVec 32 := v2530
  let v2532 : BitVec 32 := Scalar.addi v2452 v2531
  let v2533 : BitVec 32 := v2532
  let v2538 : Index := Scalar.indexCast v2533
  let c0_994 : Index := 0#32
  ![v2538.toNat, 0]
def k0_off197 (i : grid0.Coords) (k0_t14 : Fin (k0_t14_loop i).trips) (k0_t16 : Fin (k0_t16_loop i k0_t14).trips) (c0_i32_992 : BitVec 32) : Fin 3 → Nat :=
  let c0_1000 : Index := 0#32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_991 : BitVec 32 := 1024#32
  let v2529 : BitVec 32 := Scalar.muli arg22 c1024_i32_991
  let v2530 : BitVec 32 := Scalar.addi v2529 c0_i32_992
  let v2531 : BitVec 32 := v2530
  let v2547 : Index := Scalar.indexCast v2531
  let c0_1001 : Index := 0#32
  ![0, v2547.toNat, 0]
def k0_off198 (i : grid0.Coords) (k0_t14 : Fin (k0_t14_loop i).trips) (k0_t16 : Fin (k0_t16_loop i k0_t14).trips) (c0_i32_992 : BitVec 32) : Fin 3 → Nat :=
  let c1_1004 : Index := 1#32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_991 : BitVec 32 := 1024#32
  let v2529 : BitVec 32 := Scalar.muli arg22 c1024_i32_991
  let v2530 : BitVec 32 := Scalar.addi v2529 c0_i32_992
  let v2531 : BitVec 32 := v2530
  let v2557 : Index := Scalar.indexCast v2531
  let c0_1005 : Index := 0#32
  ![1, v2557.toNat, 0]
def k0_off199 (i : grid0.Coords) (k0_t14 : Fin (k0_t14_loop i).trips) (k0_t16 : Fin (k0_t16_loop i k0_t14).trips) (c0_i32_992 : BitVec 32) : Fin 3 → Nat :=
  let c2_1012 : Index := 2#32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_991 : BitVec 32 := 1024#32
  let v2529 : BitVec 32 := Scalar.muli arg22 c1024_i32_991
  let v2530 : BitVec 32 := Scalar.addi v2529 c0_i32_992
  let v2531 : BitVec 32 := v2530
  let v2571 : Index := Scalar.indexCast v2531
  let c0_1013 : Index := 0#32
  ![2, v2571.toNat, 0]
def k0_off200 (i : grid0.Coords) (k0_t14 : Fin (k0_t14_loop i).trips) (k0_t16 : Fin (k0_t16_loop i k0_t14).trips) (c0_i32_992 : BitVec 32) : Fin 3 → Nat :=
  let c3_1016 : Index := 3#32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_991 : BitVec 32 := 1024#32
  let v2529 : BitVec 32 := Scalar.muli arg22 c1024_i32_991
  let v2530 : BitVec 32 := Scalar.addi v2529 c0_i32_992
  let v2531 : BitVec 32 := v2530
  let v2581 : Index := Scalar.indexCast v2531
  let c0_1017 : Index := 0#32
  ![3, v2581.toNat, 0]
def k0_mult26 (i : grid0.Coords) (k0_t14 : Fin (k0_t14_loop i).trips) (k0_t16 : Fin (k0_t16_loop i k0_t14).trips) : BitVec 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_1019 : BitVec 32 := 1024#32
  let v2588 : BitVec 32 := Scalar.muli arg22 c1024_i32_1019
  let c256_i32_1020 : BitVec 32 := 256#32
  let v2589 : BitVec 32 := Scalar.addi v2588 c256_i32_1020
  v2589
def k0_mult27 (i : grid0.Coords) (k0_t14 : Fin (k0_t14_loop i).trips) (k0_t16 : Fin (k0_t16_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_1019 : BitVec 32 := 1024#32
  let v2588 : BitVec 32 := Scalar.muli arg22 c1024_i32_1019
  let c256_i32_1020 : BitVec 32 := 256#32
  let v2589 : BitVec 32 := Scalar.addi v2588 c256_i32_1020
  let v2590 : BitVec 32 := v2589
  let v2591 : BitVec 32 := Scalar.addi v2452 v2590
  v2591
def k0_mult28 (i : grid0.Coords) (k0_t14 : Fin (k0_t14_loop i).trips) (k0_t16 : Fin (k0_t16_loop i k0_t14).trips) : BitVec 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_1047 : BitVec 32 := 1024#32
  let v2647 : BitVec 32 := Scalar.muli arg22 c1024_i32_1047
  let c512_i32_1048 : BitVec 32 := 512#32
  let v2648 : BitVec 32 := Scalar.addi v2647 c512_i32_1048
  v2648
def k0_mult29 (i : grid0.Coords) (k0_t14 : Fin (k0_t14_loop i).trips) (k0_t16 : Fin (k0_t16_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_1047 : BitVec 32 := 1024#32
  let v2647 : BitVec 32 := Scalar.muli arg22 c1024_i32_1047
  let c512_i32_1048 : BitVec 32 := 512#32
  let v2648 : BitVec 32 := Scalar.addi v2647 c512_i32_1048
  let v2649 : BitVec 32 := v2648
  let v2650 : BitVec 32 := Scalar.addi v2452 v2649
  v2650
def k0_mult30 (i : grid0.Coords) (k0_t14 : Fin (k0_t14_loop i).trips) (k0_t16 : Fin (k0_t16_loop i k0_t14).trips) : BitVec 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_1075 : BitVec 32 := 1024#32
  let v2706 : BitVec 32 := Scalar.muli arg22 c1024_i32_1075
  let c768_i32 : BitVec 32 := 768#32
  let v2707 : BitVec 32 := Scalar.addi v2706 c768_i32
  v2707
def k0_mult31 (i : grid0.Coords) (k0_t14 : Fin (k0_t14_loop i).trips) (k0_t16 : Fin (k0_t16_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t16
  let c1024_i32_1075 : BitVec 32 := 1024#32
  let v2706 : BitVec 32 := Scalar.muli arg22 c1024_i32_1075
  let c768_i32 : BitVec 32 := 768#32
  let v2707 : BitVec 32 := Scalar.addi v2706 c768_i32
  let v2708 : BitVec 32 := v2707
  let v2709 : BitVec 32 := Scalar.addi v2452 v2708
  v2709
@[reducible] def k0_t17_loop (i : grid0.Coords) (k0_t14 : Fin (k0_t14_loop i).trips) : Scf.Loop 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_961 : BitVec 32 := 1#32
  ⟨c0_i32_959, v2479, c1_i32_961⟩
def k0_mult32 (i : grid0.Coords) (k0_t14 : Fin (k0_t14_loop i).trips) (k0_t17 : Fin (k0_t17_loop i k0_t14).trips) : BitVec 32 :=
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  v2529
def k0_mult33 (i : grid0.Coords) (k0_t14 : Fin (k0_t14_loop i).trips) (k0_t17 : Fin (k0_t17_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2531 : BitVec 32 := Scalar.addi v2452 v2530
  v2531
def k0_mult34 (i : grid0.Coords) (k0_t14 : Fin (k0_t14_loop i).trips) (k0_t17 : Fin (k0_t17_loop i k0_t14).trips) : BitVec 32 :=
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let c0_i32_992 : BitVec 32 := 0#32
  let v2533 : BitVec 32 := Scalar.addi v2530 c0_i32_992
  v2533
def k0_mult35 (i : grid0.Coords) (k0_t14 : Fin (k0_t14_loop i).trips) (k0_t17 : Fin (k0_t17_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c0_i32_993 : BitVec 32 := 0#32
  let v2535 : BitVec 32 := Scalar.addi v2532 c0_i32_993
  v2535
def k0_off201 (i : grid0.Coords) (k0_t14 : Fin (k0_t14_loop i).trips) (k0_t17 : Fin (k0_t17_loop i k0_t14).trips) (c0_i32_992 : BitVec 32) : Fin 3 → Nat :=
  let c0_994 : Index := 0#32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2537 : Index := Scalar.indexCast v2534
  let c0_995 : Index := 0#32
  ![0, v2537.toNat, 0]
def k0_off202 (i : grid0.Coords) (k0_t14 : Fin (k0_t14_loop i).trips) (k0_t17 : Fin (k0_t17_loop i k0_t14).trips) (c0_i32_993 : BitVec 32) : Fin 2 → Nat :=
  let c0_997 : Index := 0#32
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2547 : Index := Scalar.indexCast v2536
  ![0, v2547.toNat]
def k0_off203 (i : grid0.Coords) (k0_t14 : Fin (k0_t14_loop i).trips) (k0_t17 : Fin (k0_t17_loop i k0_t14).trips) (c0_i32_992 : BitVec 32) : Fin 3 → Nat :=
  let c1_999 : Index := 1#32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2552 : Index := Scalar.indexCast v2534
  let c0_1000 : Index := 0#32
  ![1, v2552.toNat, 0]
def k0_off204 (i : grid0.Coords) (k0_t14 : Fin (k0_t14_loop i).trips) (k0_t17 : Fin (k0_t17_loop i k0_t14).trips) (c0_i32_993 : BitVec 32) : Fin 2 → Nat :=
  let c64_1002 : Index := 64#32
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2562 : Index := Scalar.indexCast v2536
  ![64, v2562.toNat]
def k0_off205 (i : grid0.Coords) (k0_t14 : Fin (k0_t14_loop i).trips) (k0_t17 : Fin (k0_t17_loop i k0_t14).trips) (c0_i32_992 : BitVec 32) : Fin 3 → Nat :=
  let c2_1004 : Index := 2#32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2567 : Index := Scalar.indexCast v2534
  let c0_1005 : Index := 0#32
  ![2, v2567.toNat, 0]
def k0_off206 (i : grid0.Coords) (k0_t14 : Fin (k0_t14_loop i).trips) (k0_t17 : Fin (k0_t17_loop i k0_t14).trips) (c0_i32_993 : BitVec 32) : Fin 2 → Nat :=
  let c128_1007 : Index := 128#32
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2577 : Index := Scalar.indexCast v2536
  ![128, v2577.toNat]
def k0_off207 (i : grid0.Coords) (k0_t14 : Fin (k0_t14_loop i).trips) (k0_t17 : Fin (k0_t17_loop i k0_t14).trips) (c0_i32_992 : BitVec 32) : Fin 3 → Nat :=
  let c3_1009 : Index := 3#32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2582 : Index := Scalar.indexCast v2534
  let c0_1010 : Index := 0#32
  ![3, v2582.toNat, 0]
def k0_off208 (i : grid0.Coords) (k0_t14 : Fin (k0_t14_loop i).trips) (k0_t17 : Fin (k0_t17_loop i k0_t14).trips) (c0_i32_993 : BitVec 32) : Fin 2 → Nat :=
  let c192_1012 : Index := 192#32
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2592 : Index := Scalar.indexCast v2536
  ![192, v2592.toNat]
def k0_mult36 (i : grid0.Coords) (k0_t14 : Fin (k0_t14_loop i).trips) (k0_t17 : Fin (k0_t17_loop i k0_t14).trips) : BitVec 32 :=
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let c256_i32_1014 : BitVec 32 := 256#32
  let v2597 : BitVec 32 := Scalar.addi v2530 c256_i32_1014
  v2597
def k0_mult37 (i : grid0.Coords) (k0_t14 : Fin (k0_t14_loop i).trips) (k0_t17 : Fin (k0_t17_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c256_i32_1015 : BitVec 32 := 256#32
  let v2599 : BitVec 32 := Scalar.addi v2532 c256_i32_1015
  v2599
def k0_mult38 (i : grid0.Coords) (k0_t14 : Fin (k0_t14_loop i).trips) (k0_t17 : Fin (k0_t17_loop i k0_t14).trips) : BitVec 32 :=
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let c512_i32_1036 : BitVec 32 := 512#32
  let v2661 : BitVec 32 := Scalar.addi v2530 c512_i32_1036
  v2661
def k0_mult39 (i : grid0.Coords) (k0_t14 : Fin (k0_t14_loop i).trips) (k0_t17 : Fin (k0_t17_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c512_i32_1037 : BitVec 32 := 512#32
  let v2663 : BitVec 32 := Scalar.addi v2532 c512_i32_1037
  v2663
def k0_mult40 (i : grid0.Coords) (k0_t14 : Fin (k0_t14_loop i).trips) (k0_t17 : Fin (k0_t17_loop i k0_t14).trips) : BitVec 32 :=
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let c768_i32 : BitVec 32 := 768#32
  let v2725 : BitVec 32 := Scalar.addi v2530 c768_i32
  v2725
def k0_mult41 (i : grid0.Coords) (k0_t14 : Fin (k0_t14_loop i).trips) (k0_t17 : Fin (k0_t17_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t17
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c768_i32_1058 : BitVec 32 := 768#32
  let v2727 : BitVec 32 := Scalar.addi v2532 c768_i32_1058
  v2727
@[reducible] def k0_t18_loop (i : grid0.Coords) (k0_t14 : Fin (k0_t14_loop i).trips) : Scf.Loop 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let v2476 : BitVec 32 := Scalar.addi c0_i32_959 v2475
  let c1_i32_962 : BitVec 32 := 1#32
  ⟨v2479, v2476, c1_i32_962⟩
def k0_mult42 (i : grid0.Coords) (k0_t14 : Fin (k0_t14_loop i).trips) (k0_t18 : Fin (k0_t18_loop i k0_t14).trips) : BitVec 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  v2529
def k0_mult43 (i : grid0.Coords) (k0_t14 : Fin (k0_t14_loop i).trips) (k0_t18 : Fin (k0_t18_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2531 : BitVec 32 := Scalar.addi v2452 v2530
  v2531
def k0_mult44 (i : grid0.Coords) (k0_t14 : Fin (k0_t14_loop i).trips) (k0_t18 : Fin (k0_t18_loop i k0_t14).trips) : BitVec 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let c0_i32_992 : BitVec 32 := 0#32
  let v2533 : BitVec 32 := Scalar.addi v2530 c0_i32_992
  v2533
def k0_mult45 (i : grid0.Coords) (k0_t14 : Fin (k0_t14_loop i).trips) (k0_t18 : Fin (k0_t18_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c0_i32_993 : BitVec 32 := 0#32
  let v2535 : BitVec 32 := Scalar.addi v2532 c0_i32_993
  v2535
def k0_off209 (i : grid0.Coords) (k0_t14 : Fin (k0_t14_loop i).trips) (k0_t18 : Fin (k0_t18_loop i k0_t14).trips) (c0_i32_992 : BitVec 32) : Fin 3 → Nat :=
  let c0_994 : Index := 0#32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2537 : Index := Scalar.indexCast v2534
  let c0_995 : Index := 0#32
  ![0, v2537.toNat, 0]
def k0_off210 (i : grid0.Coords) (k0_t14 : Fin (k0_t14_loop i).trips) (k0_t18 : Fin (k0_t18_loop i k0_t14).trips) (c0_i32_993 : BitVec 32) : Fin 2 → Nat :=
  let c0_997 : Index := 0#32
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2547 : Index := Scalar.indexCast v2536
  ![0, v2547.toNat]
def k0_off211 (i : grid0.Coords) (k0_t14 : Fin (k0_t14_loop i).trips) (k0_t18 : Fin (k0_t18_loop i k0_t14).trips) (c0_i32_992 : BitVec 32) : Fin 3 → Nat :=
  let c1_999 : Index := 1#32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2552 : Index := Scalar.indexCast v2534
  let c0_1000 : Index := 0#32
  ![1, v2552.toNat, 0]
def k0_off212 (i : grid0.Coords) (k0_t14 : Fin (k0_t14_loop i).trips) (k0_t18 : Fin (k0_t18_loop i k0_t14).trips) (c0_i32_993 : BitVec 32) : Fin 2 → Nat :=
  let c64_1002 : Index := 64#32
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2562 : Index := Scalar.indexCast v2536
  ![64, v2562.toNat]
def k0_off213 (i : grid0.Coords) (k0_t14 : Fin (k0_t14_loop i).trips) (k0_t18 : Fin (k0_t18_loop i k0_t14).trips) (c0_i32_992 : BitVec 32) : Fin 3 → Nat :=
  let c2_1004 : Index := 2#32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2567 : Index := Scalar.indexCast v2534
  let c0_1005 : Index := 0#32
  ![2, v2567.toNat, 0]
def k0_off214 (i : grid0.Coords) (k0_t14 : Fin (k0_t14_loop i).trips) (k0_t18 : Fin (k0_t18_loop i k0_t14).trips) (c0_i32_993 : BitVec 32) : Fin 2 → Nat :=
  let c128_1007 : Index := 128#32
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2577 : Index := Scalar.indexCast v2536
  ![128, v2577.toNat]
def k0_off215 (i : grid0.Coords) (k0_t14 : Fin (k0_t14_loop i).trips) (k0_t18 : Fin (k0_t18_loop i k0_t14).trips) (c0_i32_992 : BitVec 32) : Fin 3 → Nat :=
  let c3_1009 : Index := 3#32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2582 : Index := Scalar.indexCast v2534
  let c0_1010 : Index := 0#32
  ![3, v2582.toNat, 0]
def k0_off216 (i : grid0.Coords) (k0_t14 : Fin (k0_t14_loop i).trips) (k0_t18 : Fin (k0_t18_loop i k0_t14).trips) (c0_i32_993 : BitVec 32) : Fin 2 → Nat :=
  let c192_1012 : Index := 192#32
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2592 : Index := Scalar.indexCast v2536
  ![192, v2592.toNat]
def k0_mult46 (i : grid0.Coords) (k0_t14 : Fin (k0_t14_loop i).trips) (k0_t18 : Fin (k0_t18_loop i k0_t14).trips) : BitVec 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let c256_i32_1014 : BitVec 32 := 256#32
  let v2597 : BitVec 32 := Scalar.addi v2530 c256_i32_1014
  v2597
def k0_mult47 (i : grid0.Coords) (k0_t14 : Fin (k0_t14_loop i).trips) (k0_t18 : Fin (k0_t18_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c256_i32_1015 : BitVec 32 := 256#32
  let v2599 : BitVec 32 := Scalar.addi v2532 c256_i32_1015
  v2599
def k0_mult48 (i : grid0.Coords) (k0_t14 : Fin (k0_t14_loop i).trips) (k0_t18 : Fin (k0_t18_loop i k0_t14).trips) : BitVec 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let c512_i32_1036 : BitVec 32 := 512#32
  let v2661 : BitVec 32 := Scalar.addi v2530 c512_i32_1036
  v2661
def k0_mult49 (i : grid0.Coords) (k0_t14 : Fin (k0_t14_loop i).trips) (k0_t18 : Fin (k0_t18_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c512_i32_1037 : BitVec 32 := 512#32
  let v2663 : BitVec 32 := Scalar.addi v2532 c512_i32_1037
  v2663
def k0_mult50 (i : grid0.Coords) (k0_t14 : Fin (k0_t14_loop i).trips) (k0_t18 : Fin (k0_t18_loop i k0_t14).trips) : BitVec 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c1_i32_896 : BitVec 32 := 1#32
  let arg19 : BitVec 32 := Scf.iv c0_i32_894 c1_i32_896 k0_t14
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let c768_i32 : BitVec 32 := 768#32
  let v2725 : BitVec 32 := Scalar.addi v2530 c768_i32
  v2725
def k0_mult51 (i : grid0.Coords) (k0_t14 : Fin (k0_t14_loop i).trips) (k0_t18 : Fin (k0_t18_loop i k0_t14).trips) : BitVec 32 :=
  let c0_i32_894 : BitVec 32 := 0#32
  let c1_i32_896 : BitVec 32 := 1#32
  let arg19 : BitVec 32 := Scf.iv c0_i32_894 c1_i32_896 k0_t14
  let c2048_i32 : BitVec 32 := 2048#32
  let v2452 : BitVec 32 := Scalar.muli arg19 c2048_i32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t18
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c768_i32_1058 : BitVec 32 := 768#32
  let v2727 : BitVec 32 := Scalar.addi v2532 c768_i32_1058
  v2727
@[reducible] def k0_t19_loop (i : grid0.Coords) : Scf.Loop 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let v2350 : BitVec 32 := Scalar.addi c0_i32_894 v2349
  let c1_i32_897 : BitVec 32 := 1#32
  ⟨v2353, v2350, c1_i32_897⟩
@[reducible] def k0_t20_loop (i : grid0.Coords) (k0_t19 : Fin (k0_t19_loop i).trips) : Scf.Loop 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_951 : BitVec 32 := 1#32
  ⟨c0_i32_949, v2458, c1_i32_951⟩
def k0_mult52 (i : grid0.Coords) (k0_t19 : Fin (k0_t19_loop i).trips) (k0_t20 : Fin (k0_t20_loop i k0_t19).trips) : BitVec 32 :=
  let c0_i32_949 : BitVec 32 := 0#32
  let c1_i32_951 : BitVec 32 := 1#32
  let arg22 : BitVec 32 := Scf.iv c0_i32_949 c1_i32_951 k0_t20
  let c1024_i32_991 : BitVec 32 := 1024#32
  let v2529 : BitVec 32 := Scalar.muli arg22 c1024_i32_991
  let c0_i32_992 : BitVec 32 := 0#32
  let v2530 : BitVec 32 := Scalar.addi v2529 c0_i32_992
  v2530
def k0_mult53 (i : grid0.Coords) (k0_t19 : Fin (k0_t19_loop i).trips) (k0_t20 : Fin (k0_t20_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t20
  let c1024_i32_991 : BitVec 32 := 1024#32
  let v2529 : BitVec 32 := Scalar.muli arg22 c1024_i32_991
  let c0_i32_992 : BitVec 32 := 0#32
  let v2530 : BitVec 32 := Scalar.addi v2529 c0_i32_992
  let v2531 : BitVec 32 := v2530
  let v2532 : BitVec 32 := Scalar.addi v2452 v2531
  v2532
def k0_off217 (i : grid0.Coords) (k0_t19 : Fin (k0_t19_loop i).trips) (k0_t20 : Fin (k0_t20_loop i k0_t19).trips) (c0_i32_992 : BitVec 32) : Fin 2 → Nat :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t20
  let c1024_i32_991 : BitVec 32 := 1024#32
  let v2529 : BitVec 32 := Scalar.muli arg22 c1024_i32_991
  let v2530 : BitVec 32 := Scalar.addi v2529 c0_i32_992
  let v2531 : BitVec 32 := v2530
  let v2532 : BitVec 32 := Scalar.addi v2452 v2531
  let v2533 : BitVec 32 := v2532
  let v2534 : Index := Scalar.indexCast v2533
  let c0_993 : Index := 0#32
  ![v2534.toNat, 0]
def k0_off218 (i : grid0.Coords) (k0_t19 : Fin (k0_t19_loop i).trips) (k0_t20 : Fin (k0_t20_loop i k0_t19).trips) (c0_i32_992 : BitVec 32) : Fin 2 → Nat :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t20
  let c1024_i32_991 : BitVec 32 := 1024#32
  let v2529 : BitVec 32 := Scalar.muli arg22 c1024_i32_991
  let v2530 : BitVec 32 := Scalar.addi v2529 c0_i32_992
  let v2531 : BitVec 32 := v2530
  let v2532 : BitVec 32 := Scalar.addi v2452 v2531
  let v2533 : BitVec 32 := v2532
  let v2538 : Index := Scalar.indexCast v2533
  let c0_994 : Index := 0#32
  ![v2538.toNat, 0]
def k0_off219 (i : grid0.Coords) (k0_t19 : Fin (k0_t19_loop i).trips) (k0_t20 : Fin (k0_t20_loop i k0_t19).trips) (c0_i32_992 : BitVec 32) : Fin 3 → Nat :=
  let c0_1000 : Index := 0#32
  let c0_i32_949 : BitVec 32 := 0#32
  let c1_i32_951 : BitVec 32 := 1#32
  let arg22 : BitVec 32 := Scf.iv c0_i32_949 c1_i32_951 k0_t20
  let c1024_i32_991 : BitVec 32 := 1024#32
  let v2529 : BitVec 32 := Scalar.muli arg22 c1024_i32_991
  let v2530 : BitVec 32 := Scalar.addi v2529 c0_i32_992
  let v2531 : BitVec 32 := v2530
  let v2547 : Index := Scalar.indexCast v2531
  let c0_1001 : Index := 0#32
  ![0, v2547.toNat, 0]
def k0_off220 (i : grid0.Coords) (k0_t19 : Fin (k0_t19_loop i).trips) (k0_t20 : Fin (k0_t20_loop i k0_t19).trips) (c0_i32_992 : BitVec 32) : Fin 3 → Nat :=
  let c1_1004 : Index := 1#32
  let c0_i32_949 : BitVec 32 := 0#32
  let c1_i32_951 : BitVec 32 := 1#32
  let arg22 : BitVec 32 := Scf.iv c0_i32_949 c1_i32_951 k0_t20
  let c1024_i32_991 : BitVec 32 := 1024#32
  let v2529 : BitVec 32 := Scalar.muli arg22 c1024_i32_991
  let v2530 : BitVec 32 := Scalar.addi v2529 c0_i32_992
  let v2531 : BitVec 32 := v2530
  let v2557 : Index := Scalar.indexCast v2531
  let c0_1005 : Index := 0#32
  ![1, v2557.toNat, 0]
def k0_off221 (i : grid0.Coords) (k0_t19 : Fin (k0_t19_loop i).trips) (k0_t20 : Fin (k0_t20_loop i k0_t19).trips) (c0_i32_992 : BitVec 32) : Fin 3 → Nat :=
  let c2_1012 : Index := 2#32
  let c0_i32_949 : BitVec 32 := 0#32
  let c1_i32_951 : BitVec 32 := 1#32
  let arg22 : BitVec 32 := Scf.iv c0_i32_949 c1_i32_951 k0_t20
  let c1024_i32_991 : BitVec 32 := 1024#32
  let v2529 : BitVec 32 := Scalar.muli arg22 c1024_i32_991
  let v2530 : BitVec 32 := Scalar.addi v2529 c0_i32_992
  let v2531 : BitVec 32 := v2530
  let v2571 : Index := Scalar.indexCast v2531
  let c0_1013 : Index := 0#32
  ![2, v2571.toNat, 0]
def k0_off222 (i : grid0.Coords) (k0_t19 : Fin (k0_t19_loop i).trips) (k0_t20 : Fin (k0_t20_loop i k0_t19).trips) (c0_i32_992 : BitVec 32) : Fin 3 → Nat :=
  let c3_1016 : Index := 3#32
  let c0_i32_949 : BitVec 32 := 0#32
  let c1_i32_951 : BitVec 32 := 1#32
  let arg22 : BitVec 32 := Scf.iv c0_i32_949 c1_i32_951 k0_t20
  let c1024_i32_991 : BitVec 32 := 1024#32
  let v2529 : BitVec 32 := Scalar.muli arg22 c1024_i32_991
  let v2530 : BitVec 32 := Scalar.addi v2529 c0_i32_992
  let v2531 : BitVec 32 := v2530
  let v2581 : Index := Scalar.indexCast v2531
  let c0_1017 : Index := 0#32
  ![3, v2581.toNat, 0]
def k0_mult54 (i : grid0.Coords) (k0_t19 : Fin (k0_t19_loop i).trips) (k0_t20 : Fin (k0_t20_loop i k0_t19).trips) : BitVec 32 :=
  let c0_i32_949 : BitVec 32 := 0#32
  let c1_i32_951 : BitVec 32 := 1#32
  let arg22 : BitVec 32 := Scf.iv c0_i32_949 c1_i32_951 k0_t20
  let c1024_i32_1019 : BitVec 32 := 1024#32
  let v2588 : BitVec 32 := Scalar.muli arg22 c1024_i32_1019
  let c256_i32_1020 : BitVec 32 := 256#32
  let v2589 : BitVec 32 := Scalar.addi v2588 c256_i32_1020
  v2589
def k0_mult55 (i : grid0.Coords) (k0_t19 : Fin (k0_t19_loop i).trips) (k0_t20 : Fin (k0_t20_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t20
  let c1024_i32_1019 : BitVec 32 := 1024#32
  let v2588 : BitVec 32 := Scalar.muli arg22 c1024_i32_1019
  let c256_i32_1020 : BitVec 32 := 256#32
  let v2589 : BitVec 32 := Scalar.addi v2588 c256_i32_1020
  let v2590 : BitVec 32 := v2589
  let v2591 : BitVec 32 := Scalar.addi v2452 v2590
  v2591
def k0_mult56 (i : grid0.Coords) (k0_t19 : Fin (k0_t19_loop i).trips) (k0_t20 : Fin (k0_t20_loop i k0_t19).trips) : BitVec 32 :=
  let c0_i32_949 : BitVec 32 := 0#32
  let c1_i32_951 : BitVec 32 := 1#32
  let arg22 : BitVec 32 := Scf.iv c0_i32_949 c1_i32_951 k0_t20
  let c1024_i32_1047 : BitVec 32 := 1024#32
  let v2647 : BitVec 32 := Scalar.muli arg22 c1024_i32_1047
  let c512_i32_1048 : BitVec 32 := 512#32
  let v2648 : BitVec 32 := Scalar.addi v2647 c512_i32_1048
  v2648
def k0_mult57 (i : grid0.Coords) (k0_t19 : Fin (k0_t19_loop i).trips) (k0_t20 : Fin (k0_t20_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t20
  let c1024_i32_1047 : BitVec 32 := 1024#32
  let v2647 : BitVec 32 := Scalar.muli arg22 c1024_i32_1047
  let c512_i32_1048 : BitVec 32 := 512#32
  let v2648 : BitVec 32 := Scalar.addi v2647 c512_i32_1048
  let v2649 : BitVec 32 := v2648
  let v2650 : BitVec 32 := Scalar.addi v2452 v2649
  v2650
def k0_mult58 (i : grid0.Coords) (k0_t19 : Fin (k0_t19_loop i).trips) (k0_t20 : Fin (k0_t20_loop i k0_t19).trips) : BitVec 32 :=
  let c0_i32_949 : BitVec 32 := 0#32
  let c1_i32_951 : BitVec 32 := 1#32
  let arg22 : BitVec 32 := Scf.iv c0_i32_949 c1_i32_951 k0_t20
  let c1024_i32_1075 : BitVec 32 := 1024#32
  let v2706 : BitVec 32 := Scalar.muli arg22 c1024_i32_1075
  let c768_i32 : BitVec 32 := 768#32
  let v2707 : BitVec 32 := Scalar.addi v2706 c768_i32
  v2707
def k0_mult59 (i : grid0.Coords) (k0_t19 : Fin (k0_t19_loop i).trips) (k0_t20 : Fin (k0_t20_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c1_i32_951 : BitVec 32 := 1#32
  let arg22 : BitVec 32 := Scf.iv c0_i32_949 c1_i32_951 k0_t20
  let c1024_i32_1075 : BitVec 32 := 1024#32
  let v2706 : BitVec 32 := Scalar.muli arg22 c1024_i32_1075
  let c768_i32 : BitVec 32 := 768#32
  let v2707 : BitVec 32 := Scalar.addi v2706 c768_i32
  let v2708 : BitVec 32 := v2707
  let v2709 : BitVec 32 := Scalar.addi v2452 v2708
  v2709
@[reducible] def k0_t21_loop (i : grid0.Coords) (k0_t19 : Fin (k0_t19_loop i).trips) : Scf.Loop 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let v2455 : BitVec 32 := Scalar.addi c0_i32_949 v2454
  let c1_i32_952 : BitVec 32 := 1#32
  ⟨v2458, v2455, c1_i32_952⟩
def k0_mult60 (i : grid0.Coords) (k0_t19 : Fin (k0_t19_loop i).trips) (k0_t21 : Fin (k0_t21_loop i k0_t19).trips) : BitVec 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_991 : BitVec 32 := 1024#32
  let v2529 : BitVec 32 := Scalar.muli arg22 c1024_i32_991
  let c0_i32_992 : BitVec 32 := 0#32
  let v2530 : BitVec 32 := Scalar.addi v2529 c0_i32_992
  v2530
def k0_mult61 (i : grid0.Coords) (k0_t19 : Fin (k0_t19_loop i).trips) (k0_t21 : Fin (k0_t21_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_991 : BitVec 32 := 1024#32
  let v2529 : BitVec 32 := Scalar.muli arg22 c1024_i32_991
  let c0_i32_992 : BitVec 32 := 0#32
  let v2530 : BitVec 32 := Scalar.addi v2529 c0_i32_992
  let v2531 : BitVec 32 := v2530
  let v2532 : BitVec 32 := Scalar.addi v2452 v2531
  v2532
def k0_off223 (i : grid0.Coords) (k0_t19 : Fin (k0_t19_loop i).trips) (k0_t21 : Fin (k0_t21_loop i k0_t19).trips) (c0_i32_992 : BitVec 32) : Fin 2 → Nat :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_991 : BitVec 32 := 1024#32
  let v2529 : BitVec 32 := Scalar.muli arg22 c1024_i32_991
  let v2530 : BitVec 32 := Scalar.addi v2529 c0_i32_992
  let v2531 : BitVec 32 := v2530
  let v2532 : BitVec 32 := Scalar.addi v2452 v2531
  let v2533 : BitVec 32 := v2532
  let v2534 : Index := Scalar.indexCast v2533
  let c0_993 : Index := 0#32
  ![v2534.toNat, 0]
def k0_off224 (i : grid0.Coords) (k0_t19 : Fin (k0_t19_loop i).trips) (k0_t21 : Fin (k0_t21_loop i k0_t19).trips) (c0_i32_992 : BitVec 32) : Fin 2 → Nat :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_991 : BitVec 32 := 1024#32
  let v2529 : BitVec 32 := Scalar.muli arg22 c1024_i32_991
  let v2530 : BitVec 32 := Scalar.addi v2529 c0_i32_992
  let v2531 : BitVec 32 := v2530
  let v2532 : BitVec 32 := Scalar.addi v2452 v2531
  let v2533 : BitVec 32 := v2532
  let v2538 : Index := Scalar.indexCast v2533
  let c0_994 : Index := 0#32
  ![v2538.toNat, 0]
def k0_off225 (i : grid0.Coords) (k0_t19 : Fin (k0_t19_loop i).trips) (k0_t21 : Fin (k0_t21_loop i k0_t19).trips) (c0_i32_992 : BitVec 32) : Fin 3 → Nat :=
  let c0_1000 : Index := 0#32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_991 : BitVec 32 := 1024#32
  let v2529 : BitVec 32 := Scalar.muli arg22 c1024_i32_991
  let v2530 : BitVec 32 := Scalar.addi v2529 c0_i32_992
  let v2531 : BitVec 32 := v2530
  let v2547 : Index := Scalar.indexCast v2531
  let c0_1001 : Index := 0#32
  ![0, v2547.toNat, 0]
def k0_off226 (i : grid0.Coords) (k0_t19 : Fin (k0_t19_loop i).trips) (k0_t21 : Fin (k0_t21_loop i k0_t19).trips) (c0_i32_992 : BitVec 32) : Fin 3 → Nat :=
  let c1_1004 : Index := 1#32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_991 : BitVec 32 := 1024#32
  let v2529 : BitVec 32 := Scalar.muli arg22 c1024_i32_991
  let v2530 : BitVec 32 := Scalar.addi v2529 c0_i32_992
  let v2531 : BitVec 32 := v2530
  let v2557 : Index := Scalar.indexCast v2531
  let c0_1005 : Index := 0#32
  ![1, v2557.toNat, 0]
def k0_off227 (i : grid0.Coords) (k0_t19 : Fin (k0_t19_loop i).trips) (k0_t21 : Fin (k0_t21_loop i k0_t19).trips) (c0_i32_992 : BitVec 32) : Fin 3 → Nat :=
  let c2_1012 : Index := 2#32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_991 : BitVec 32 := 1024#32
  let v2529 : BitVec 32 := Scalar.muli arg22 c1024_i32_991
  let v2530 : BitVec 32 := Scalar.addi v2529 c0_i32_992
  let v2531 : BitVec 32 := v2530
  let v2571 : Index := Scalar.indexCast v2531
  let c0_1013 : Index := 0#32
  ![2, v2571.toNat, 0]
def k0_off228 (i : grid0.Coords) (k0_t19 : Fin (k0_t19_loop i).trips) (k0_t21 : Fin (k0_t21_loop i k0_t19).trips) (c0_i32_992 : BitVec 32) : Fin 3 → Nat :=
  let c3_1016 : Index := 3#32
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_991 : BitVec 32 := 1024#32
  let v2529 : BitVec 32 := Scalar.muli arg22 c1024_i32_991
  let v2530 : BitVec 32 := Scalar.addi v2529 c0_i32_992
  let v2531 : BitVec 32 := v2530
  let v2581 : Index := Scalar.indexCast v2531
  let c0_1017 : Index := 0#32
  ![3, v2581.toNat, 0]
def k0_mult62 (i : grid0.Coords) (k0_t19 : Fin (k0_t19_loop i).trips) (k0_t21 : Fin (k0_t21_loop i k0_t19).trips) : BitVec 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_1019 : BitVec 32 := 1024#32
  let v2588 : BitVec 32 := Scalar.muli arg22 c1024_i32_1019
  let c256_i32_1020 : BitVec 32 := 256#32
  let v2589 : BitVec 32 := Scalar.addi v2588 c256_i32_1020
  v2589
def k0_mult63 (i : grid0.Coords) (k0_t19 : Fin (k0_t19_loop i).trips) (k0_t21 : Fin (k0_t21_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_1019 : BitVec 32 := 1024#32
  let v2588 : BitVec 32 := Scalar.muli arg22 c1024_i32_1019
  let c256_i32_1020 : BitVec 32 := 256#32
  let v2589 : BitVec 32 := Scalar.addi v2588 c256_i32_1020
  let v2590 : BitVec 32 := v2589
  let v2591 : BitVec 32 := Scalar.addi v2452 v2590
  v2591
def k0_mult64 (i : grid0.Coords) (k0_t19 : Fin (k0_t19_loop i).trips) (k0_t21 : Fin (k0_t21_loop i k0_t19).trips) : BitVec 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_1047 : BitVec 32 := 1024#32
  let v2647 : BitVec 32 := Scalar.muli arg22 c1024_i32_1047
  let c512_i32_1048 : BitVec 32 := 512#32
  let v2648 : BitVec 32 := Scalar.addi v2647 c512_i32_1048
  v2648
def k0_mult65 (i : grid0.Coords) (k0_t19 : Fin (k0_t19_loop i).trips) (k0_t21 : Fin (k0_t21_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_1047 : BitVec 32 := 1024#32
  let v2647 : BitVec 32 := Scalar.muli arg22 c1024_i32_1047
  let c512_i32_1048 : BitVec 32 := 512#32
  let v2648 : BitVec 32 := Scalar.addi v2647 c512_i32_1048
  let v2649 : BitVec 32 := v2648
  let v2650 : BitVec 32 := Scalar.addi v2452 v2649
  v2650
def k0_mult66 (i : grid0.Coords) (k0_t19 : Fin (k0_t19_loop i).trips) (k0_t21 : Fin (k0_t21_loop i k0_t19).trips) : BitVec 32 :=
  let c0_i32_949 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_1075 : BitVec 32 := 1024#32
  let v2706 : BitVec 32 := Scalar.muli arg22 c1024_i32_1075
  let c768_i32 : BitVec 32 := 768#32
  let v2707 : BitVec 32 := Scalar.addi v2706 c768_i32
  v2707
def k0_mult67 (i : grid0.Coords) (k0_t19 : Fin (k0_t19_loop i).trips) (k0_t21 : Fin (k0_t21_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_949 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2454 : BitVec 32 := Scalar.subi v2451 c0_i32_949
  let c1_i32_950 : BitVec 32 := 1#32
  let v2456 : BitVec 32 := Scalar.divsi v2454 c1_i32_950
  let v2457 : BitVec 32 := Scalar.muli v2456 c1_i32_950
  let v2458 : BitVec 32 := Scalar.addi c0_i32_949 v2457
  let c1_i32_952 : BitVec 32 := 1#32
  let arg22 : BitVec 32 := Scf.iv v2458 c1_i32_952 k0_t21
  let c1024_i32_1075 : BitVec 32 := 1024#32
  let v2706 : BitVec 32 := Scalar.muli arg22 c1024_i32_1075
  let c768_i32 : BitVec 32 := 768#32
  let v2707 : BitVec 32 := Scalar.addi v2706 c768_i32
  let v2708 : BitVec 32 := v2707
  let v2709 : BitVec 32 := Scalar.addi v2452 v2708
  v2709
@[reducible] def k0_t22_loop (i : grid0.Coords) (k0_t19 : Fin (k0_t19_loop i).trips) : Scf.Loop 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_961 : BitVec 32 := 1#32
  ⟨c0_i32_959, v2479, c1_i32_961⟩
def k0_mult68 (i : grid0.Coords) (k0_t19 : Fin (k0_t19_loop i).trips) (k0_t22 : Fin (k0_t22_loop i k0_t19).trips) : BitVec 32 :=
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  v2529
def k0_mult69 (i : grid0.Coords) (k0_t19 : Fin (k0_t19_loop i).trips) (k0_t22 : Fin (k0_t22_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2531 : BitVec 32 := Scalar.addi v2452 v2530
  v2531
def k0_mult70 (i : grid0.Coords) (k0_t19 : Fin (k0_t19_loop i).trips) (k0_t22 : Fin (k0_t22_loop i k0_t19).trips) : BitVec 32 :=
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let c0_i32_992 : BitVec 32 := 0#32
  let v2533 : BitVec 32 := Scalar.addi v2530 c0_i32_992
  v2533
def k0_mult71 (i : grid0.Coords) (k0_t19 : Fin (k0_t19_loop i).trips) (k0_t22 : Fin (k0_t22_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c0_i32_993 : BitVec 32 := 0#32
  let v2535 : BitVec 32 := Scalar.addi v2532 c0_i32_993
  v2535
def k0_off229 (i : grid0.Coords) (k0_t19 : Fin (k0_t19_loop i).trips) (k0_t22 : Fin (k0_t22_loop i k0_t19).trips) (c0_i32_992 : BitVec 32) : Fin 3 → Nat :=
  let c0_994 : Index := 0#32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2537 : Index := Scalar.indexCast v2534
  let c0_995 : Index := 0#32
  ![0, v2537.toNat, 0]
def k0_off230 (i : grid0.Coords) (k0_t19 : Fin (k0_t19_loop i).trips) (k0_t22 : Fin (k0_t22_loop i k0_t19).trips) (c0_i32_993 : BitVec 32) : Fin 2 → Nat :=
  let c0_997 : Index := 0#32
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2547 : Index := Scalar.indexCast v2536
  ![0, v2547.toNat]
def k0_off231 (i : grid0.Coords) (k0_t19 : Fin (k0_t19_loop i).trips) (k0_t22 : Fin (k0_t22_loop i k0_t19).trips) (c0_i32_992 : BitVec 32) : Fin 3 → Nat :=
  let c1_999 : Index := 1#32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2552 : Index := Scalar.indexCast v2534
  let c0_1000 : Index := 0#32
  ![1, v2552.toNat, 0]
def k0_off232 (i : grid0.Coords) (k0_t19 : Fin (k0_t19_loop i).trips) (k0_t22 : Fin (k0_t22_loop i k0_t19).trips) (c0_i32_993 : BitVec 32) : Fin 2 → Nat :=
  let c64_1002 : Index := 64#32
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2562 : Index := Scalar.indexCast v2536
  ![64, v2562.toNat]
def k0_off233 (i : grid0.Coords) (k0_t19 : Fin (k0_t19_loop i).trips) (k0_t22 : Fin (k0_t22_loop i k0_t19).trips) (c0_i32_992 : BitVec 32) : Fin 3 → Nat :=
  let c2_1004 : Index := 2#32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2567 : Index := Scalar.indexCast v2534
  let c0_1005 : Index := 0#32
  ![2, v2567.toNat, 0]
def k0_off234 (i : grid0.Coords) (k0_t19 : Fin (k0_t19_loop i).trips) (k0_t22 : Fin (k0_t22_loop i k0_t19).trips) (c0_i32_993 : BitVec 32) : Fin 2 → Nat :=
  let c128_1007 : Index := 128#32
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2577 : Index := Scalar.indexCast v2536
  ![128, v2577.toNat]
def k0_off235 (i : grid0.Coords) (k0_t19 : Fin (k0_t19_loop i).trips) (k0_t22 : Fin (k0_t22_loop i k0_t19).trips) (c0_i32_992 : BitVec 32) : Fin 3 → Nat :=
  let c3_1009 : Index := 3#32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2582 : Index := Scalar.indexCast v2534
  let c0_1010 : Index := 0#32
  ![3, v2582.toNat, 0]
def k0_off236 (i : grid0.Coords) (k0_t19 : Fin (k0_t19_loop i).trips) (k0_t22 : Fin (k0_t22_loop i k0_t19).trips) (c0_i32_993 : BitVec 32) : Fin 2 → Nat :=
  let c192_1012 : Index := 192#32
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2592 : Index := Scalar.indexCast v2536
  ![192, v2592.toNat]
def k0_mult72 (i : grid0.Coords) (k0_t19 : Fin (k0_t19_loop i).trips) (k0_t22 : Fin (k0_t22_loop i k0_t19).trips) : BitVec 32 :=
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let c256_i32_1014 : BitVec 32 := 256#32
  let v2597 : BitVec 32 := Scalar.addi v2530 c256_i32_1014
  v2597
def k0_mult73 (i : grid0.Coords) (k0_t19 : Fin (k0_t19_loop i).trips) (k0_t22 : Fin (k0_t22_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c256_i32_1015 : BitVec 32 := 256#32
  let v2599 : BitVec 32 := Scalar.addi v2532 c256_i32_1015
  v2599
def k0_mult74 (i : grid0.Coords) (k0_t19 : Fin (k0_t19_loop i).trips) (k0_t22 : Fin (k0_t22_loop i k0_t19).trips) : BitVec 32 :=
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let c512_i32_1036 : BitVec 32 := 512#32
  let v2661 : BitVec 32 := Scalar.addi v2530 c512_i32_1036
  v2661
def k0_mult75 (i : grid0.Coords) (k0_t19 : Fin (k0_t19_loop i).trips) (k0_t22 : Fin (k0_t22_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c512_i32_1037 : BitVec 32 := 512#32
  let v2663 : BitVec 32 := Scalar.addi v2532 c512_i32_1037
  v2663
def k0_mult76 (i : grid0.Coords) (k0_t19 : Fin (k0_t19_loop i).trips) (k0_t22 : Fin (k0_t22_loop i k0_t19).trips) : BitVec 32 :=
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let c768_i32 : BitVec 32 := 768#32
  let v2725 : BitVec 32 := Scalar.addi v2530 c768_i32
  v2725
def k0_mult77 (i : grid0.Coords) (k0_t19 : Fin (k0_t19_loop i).trips) (k0_t22 : Fin (k0_t22_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c1_i32_961 : BitVec 32 := 1#32
  let arg22 : BitVec 32 := Scf.iv c0_i32_959 c1_i32_961 k0_t22
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c768_i32_1058 : BitVec 32 := 768#32
  let v2727 : BitVec 32 := Scalar.addi v2532 c768_i32_1058
  v2727
@[reducible] def k0_t23_loop (i : grid0.Coords) (k0_t19 : Fin (k0_t19_loop i).trips) : Scf.Loop 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let v2476 : BitVec 32 := Scalar.addi c0_i32_959 v2475
  let c1_i32_962 : BitVec 32 := 1#32
  ⟨v2479, v2476, c1_i32_962⟩
def k0_mult78 (i : grid0.Coords) (k0_t19 : Fin (k0_t19_loop i).trips) (k0_t23 : Fin (k0_t23_loop i k0_t19).trips) : BitVec 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  v2529
def k0_mult79 (i : grid0.Coords) (k0_t19 : Fin (k0_t19_loop i).trips) (k0_t23 : Fin (k0_t23_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2531 : BitVec 32 := Scalar.addi v2452 v2530
  v2531
def k0_mult80 (i : grid0.Coords) (k0_t19 : Fin (k0_t19_loop i).trips) (k0_t23 : Fin (k0_t23_loop i k0_t19).trips) : BitVec 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let c0_i32_992 : BitVec 32 := 0#32
  let v2533 : BitVec 32 := Scalar.addi v2530 c0_i32_992
  v2533
def k0_mult81 (i : grid0.Coords) (k0_t19 : Fin (k0_t19_loop i).trips) (k0_t23 : Fin (k0_t23_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c0_i32_993 : BitVec 32 := 0#32
  let v2535 : BitVec 32 := Scalar.addi v2532 c0_i32_993
  v2535
def k0_off237 (i : grid0.Coords) (k0_t19 : Fin (k0_t19_loop i).trips) (k0_t23 : Fin (k0_t23_loop i k0_t19).trips) (c0_i32_992 : BitVec 32) : Fin 3 → Nat :=
  let c0_994 : Index := 0#32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2537 : Index := Scalar.indexCast v2534
  let c0_995 : Index := 0#32
  ![0, v2537.toNat, 0]
def k0_off238 (i : grid0.Coords) (k0_t19 : Fin (k0_t19_loop i).trips) (k0_t23 : Fin (k0_t23_loop i k0_t19).trips) (c0_i32_993 : BitVec 32) : Fin 2 → Nat :=
  let c0_997 : Index := 0#32
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2547 : Index := Scalar.indexCast v2536
  ![0, v2547.toNat]
def k0_off239 (i : grid0.Coords) (k0_t19 : Fin (k0_t19_loop i).trips) (k0_t23 : Fin (k0_t23_loop i k0_t19).trips) (c0_i32_992 : BitVec 32) : Fin 3 → Nat :=
  let c1_999 : Index := 1#32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2552 : Index := Scalar.indexCast v2534
  let c0_1000 : Index := 0#32
  ![1, v2552.toNat, 0]
def k0_off240 (i : grid0.Coords) (k0_t19 : Fin (k0_t19_loop i).trips) (k0_t23 : Fin (k0_t23_loop i k0_t19).trips) (c0_i32_993 : BitVec 32) : Fin 2 → Nat :=
  let c64_1002 : Index := 64#32
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2562 : Index := Scalar.indexCast v2536
  ![64, v2562.toNat]
def k0_off241 (i : grid0.Coords) (k0_t19 : Fin (k0_t19_loop i).trips) (k0_t23 : Fin (k0_t23_loop i k0_t19).trips) (c0_i32_992 : BitVec 32) : Fin 3 → Nat :=
  let c2_1004 : Index := 2#32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2567 : Index := Scalar.indexCast v2534
  let c0_1005 : Index := 0#32
  ![2, v2567.toNat, 0]
def k0_off242 (i : grid0.Coords) (k0_t19 : Fin (k0_t19_loop i).trips) (k0_t23 : Fin (k0_t23_loop i k0_t19).trips) (c0_i32_993 : BitVec 32) : Fin 2 → Nat :=
  let c128_1007 : Index := 128#32
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2577 : Index := Scalar.indexCast v2536
  ![128, v2577.toNat]
def k0_off243 (i : grid0.Coords) (k0_t19 : Fin (k0_t19_loop i).trips) (k0_t23 : Fin (k0_t23_loop i k0_t19).trips) (c0_i32_992 : BitVec 32) : Fin 3 → Nat :=
  let c3_1009 : Index := 3#32
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2533 : BitVec 32 := Scalar.addi v2530 c0_i32_992
  let v2534 : BitVec 32 := v2533
  let v2582 : Index := Scalar.indexCast v2534
  let c0_1010 : Index := 0#32
  ![3, v2582.toNat, 0]
def k0_off244 (i : grid0.Coords) (k0_t19 : Fin (k0_t19_loop i).trips) (k0_t23 : Fin (k0_t23_loop i k0_t19).trips) (c0_i32_993 : BitVec 32) : Fin 2 → Nat :=
  let c192_1012 : Index := 192#32
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let v2535 : BitVec 32 := Scalar.addi v2532 c0_i32_993
  let v2536 : BitVec 32 := v2535
  let v2592 : Index := Scalar.indexCast v2536
  ![192, v2592.toNat]
def k0_mult82 (i : grid0.Coords) (k0_t19 : Fin (k0_t19_loop i).trips) (k0_t23 : Fin (k0_t23_loop i k0_t19).trips) : BitVec 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let c256_i32_1014 : BitVec 32 := 256#32
  let v2597 : BitVec 32 := Scalar.addi v2530 c256_i32_1014
  v2597
def k0_mult83 (i : grid0.Coords) (k0_t19 : Fin (k0_t19_loop i).trips) (k0_t23 : Fin (k0_t23_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c256_i32_1015 : BitVec 32 := 256#32
  let v2599 : BitVec 32 := Scalar.addi v2532 c256_i32_1015
  v2599
def k0_mult84 (i : grid0.Coords) (k0_t19 : Fin (k0_t19_loop i).trips) (k0_t23 : Fin (k0_t23_loop i k0_t19).trips) : BitVec 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let c512_i32_1036 : BitVec 32 := 512#32
  let v2661 : BitVec 32 := Scalar.addi v2530 c512_i32_1036
  v2661
def k0_mult85 (i : grid0.Coords) (k0_t19 : Fin (k0_t19_loop i).trips) (k0_t23 : Fin (k0_t23_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c512_i32_1037 : BitVec 32 := 512#32
  let v2663 : BitVec 32 := Scalar.addi v2532 c512_i32_1037
  v2663
def k0_mult86 (i : grid0.Coords) (k0_t19 : Fin (k0_t19_loop i).trips) (k0_t23 : Fin (k0_t23_loop i k0_t19).trips) : BitVec 32 :=
  let c0_i32_959 : BitVec 32 := 0#32
  let c2_i32_947 : BitVec 32 := 2#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c0_i32_894 : BitVec 32 := 0#32
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let c768_i32 : BitVec 32 := 768#32
  let v2725 : BitVec 32 := Scalar.addi v2530 c768_i32
  v2725
def k0_mult87 (i : grid0.Coords) (k0_t19 : Fin (k0_t19_loop i).trips) (k0_t23 : Fin (k0_t23_loop i k0_t19).trips) : BitVec 32 :=
  let c0_i32_894 : BitVec 32 := 0#32
  let arg0 : BitVec 32 := BitVec.ofNat 32 (i 0).val
  let c128_i32 : BitVec 32 := 128#32
  let v1 : BitVec 32 := Scalar.muli arg0 c128_i32
  let c128_i32_0 : BitVec 32 := 128#32
  let v2 : BitVec 32 := Scalar.addi v1 c128_i32_0
  let c512_i32 : BitVec 32 := 512#32
  let v3 : BitVec 32 := Scalar.addi v2 c512_i32
  let c1_i32_1 : BitVec 32 := 1#32
  let v4 : BitVec 32 := Scalar.subi v3 c1_i32_1
  let c0_i32 : BitVec 32 := 0#32
  let v6 : BitVec 1 := Scalar.cmpi .sgt v4 c0_i32
  let v7 : BitVec 32 := Scalar.extui v6
  let c0_i32_3 : BitVec 32 := 0#32
  let v8 : BitVec 1 := Scalar.cmpi .slt v4 c0_i32_3
  let v9 : BitVec 32 := Scalar.extui v8
  let v10 : BitVec 32 := Scalar.subi v7 v9
  let c512_i32_2 : BitVec 32 := 512#32
  let c0_i32_4 : BitVec 32 := 0#32
  let v11 : BitVec 1 := Scalar.cmpi .sgt c512_i32_2 c0_i32_4
  let v12 : BitVec 32 := Scalar.extui v11
  let c0_i32_5 : BitVec 32 := 0#32
  let v13 : BitVec 1 := Scalar.cmpi .slt c512_i32_2 c0_i32_5
  let v14 : BitVec 32 := Scalar.extui v13
  let v15 : BitVec 32 := Scalar.subi v12 v14
  let v16 : BitVec 1 := Scalar.cmpi .ne v10 v15
  let v17 : BitVec 32 := Scalar.remsi v4 c512_i32_2
  let c0_i32_6 : BitVec 32 := 0#32
  let v18 : BitVec 1 := Scalar.cmpi .ne v17 c0_i32_6
  let v19 : BitVec 1 := Scalar.andi v16 v18
  let v5 : BitVec 32 := Scalar.divsi v4 c512_i32_2
  let c1_i32_7 : BitVec 32 := 1#32
  let v20 : BitVec 32 := Scalar.subi v5 c1_i32_7
  let v21 : BitVec 32 := Scalar.select v19 v20 v5
  let c512_i32_871 : BitVec 32 := 512#32
  let v2303 : BitVec 32 := Scalar.muli v21 c512_i32_871
  let c1024_i32 : BitVec 32 := 1024#32
  let v2304 : BitVec 32 := Scalar.addi v2303 c1024_i32
  let c1_i32_872 : BitVec 32 := 1#32
  let v2305 : BitVec 32 := Scalar.subi v2304 c1_i32_872
  let c0_i32_874 : BitVec 32 := 0#32
  let v2307 : BitVec 1 := Scalar.cmpi .sgt v2305 c0_i32_874
  let v2308 : BitVec 32 := Scalar.extui v2307
  let c0_i32_875 : BitVec 32 := 0#32
  let v2309 : BitVec 1 := Scalar.cmpi .slt v2305 c0_i32_875
  let v2310 : BitVec 32 := Scalar.extui v2309
  let v2311 : BitVec 32 := Scalar.subi v2308 v2310
  let c1024_i32_873 : BitVec 32 := 1024#32
  let c0_i32_876 : BitVec 32 := 0#32
  let v2312 : BitVec 1 := Scalar.cmpi .sgt c1024_i32_873 c0_i32_876
  let v2313 : BitVec 32 := Scalar.extui v2312
  let c0_i32_877 : BitVec 32 := 0#32
  let v2314 : BitVec 1 := Scalar.cmpi .slt c1024_i32_873 c0_i32_877
  let v2315 : BitVec 32 := Scalar.extui v2314
  let v2316 : BitVec 32 := Scalar.subi v2313 v2315
  let v2317 : BitVec 1 := Scalar.cmpi .ne v2311 v2316
  let v2318 : BitVec 32 := Scalar.remsi v2305 c1024_i32_873
  let c0_i32_878 : BitVec 32 := 0#32
  let v2319 : BitVec 1 := Scalar.cmpi .ne v2318 c0_i32_878
  let v2320 : BitVec 1 := Scalar.andi v2317 v2319
  let v2306 : BitVec 32 := Scalar.divsi v2305 c1024_i32_873
  let c1_i32_879 : BitVec 32 := 1#32
  let v2321 : BitVec 32 := Scalar.subi v2306 c1_i32_879
  let v2322 : BitVec 32 := Scalar.select v2320 v2321 v2306
  let c2_i32_883 : BitVec 32 := 2#32
  let v2328 : BitVec 32 := Scalar.addi v2322 c2_i32_883
  let c1_i32_884 : BitVec 32 := 1#32
  let v2329 : BitVec 32 := Scalar.subi v2328 c1_i32_884
  let c0_i32_886 : BitVec 32 := 0#32
  let v2331 : BitVec 1 := Scalar.cmpi .sgt v2329 c0_i32_886
  let v2332 : BitVec 32 := Scalar.extui v2331
  let c0_i32_887 : BitVec 32 := 0#32
  let v2333 : BitVec 1 := Scalar.cmpi .slt v2329 c0_i32_887
  let v2334 : BitVec 32 := Scalar.extui v2333
  let v2335 : BitVec 32 := Scalar.subi v2332 v2334
  let c2_i32_885 : BitVec 32 := 2#32
  let c0_i32_888 : BitVec 32 := 0#32
  let v2336 : BitVec 1 := Scalar.cmpi .sgt c2_i32_885 c0_i32_888
  let v2337 : BitVec 32 := Scalar.extui v2336
  let c0_i32_889 : BitVec 32 := 0#32
  let v2338 : BitVec 1 := Scalar.cmpi .slt c2_i32_885 c0_i32_889
  let v2339 : BitVec 32 := Scalar.extui v2338
  let v2340 : BitVec 32 := Scalar.subi v2337 v2339
  let v2341 : BitVec 1 := Scalar.cmpi .ne v2335 v2340
  let v2342 : BitVec 32 := Scalar.remsi v2329 c2_i32_885
  let c0_i32_890 : BitVec 32 := 0#32
  let v2343 : BitVec 1 := Scalar.cmpi .ne v2342 c0_i32_890
  let v2344 : BitVec 1 := Scalar.andi v2341 v2343
  let v2330 : BitVec 32 := Scalar.divsi v2329 c2_i32_885
  let c1_i32_891 : BitVec 32 := 1#32
  let v2345 : BitVec 32 := Scalar.subi v2330 c1_i32_891
  let v2346 : BitVec 32 := Scalar.select v2344 v2345 v2330
  let v2349 : BitVec 32 := Scalar.subi v2346 c0_i32_894
  let c1_i32_895 : BitVec 32 := 1#32
  let v2351 : BitVec 32 := Scalar.divsi v2349 c1_i32_895
  let v2352 : BitVec 32 := Scalar.muli v2351 c1_i32_895
  let v2353 : BitVec 32 := Scalar.addi c0_i32_894 v2352
  let c1_i32_897 : BitVec 32 := 1#32
  let arg19 : BitVec 32 := Scf.iv v2353 c1_i32_897 k0_t19
  let c2048_i32 : BitVec 32 := 2048#32
  let v2452 : BitVec 32 := Scalar.muli arg19 c2048_i32
  let c0_i32_959 : BitVec 32 := 0#32
  let c2_i32_947 : BitVec 32 := 2#32
  let c2_i32_946 : BitVec 32 := 2#32
  let v2449 : BitVec 32 := Scalar.muli arg19 c2_i32_946
  let v2450 : BitVec 32 := Scalar.subi v2322 v2449
  let v2451 : BitVec 32 := Scalar.minsi c2_i32_947 v2450
  let v2475 : BitVec 32 := Scalar.subi v2451 c0_i32_959
  let c1_i32_960 : BitVec 32 := 1#32
  let v2477 : BitVec 32 := Scalar.divsi v2475 c1_i32_960
  let v2478 : BitVec 32 := Scalar.muli v2477 c1_i32_960
  let v2479 : BitVec 32 := Scalar.addi c0_i32_959 v2478
  let c1_i32_962 : BitVec 32 := 1#32
  let arg22 : BitVec 32 := Scf.iv v2479 c1_i32_962 k0_t23
  let c1024_i32_991 : BitVec 32 := 1024#32
  let v2529 : BitVec 32 := Scalar.muli arg22 c1024_i32_991
  let v2530 : BitVec 32 := v2529
  let v2531 : BitVec 32 := Scalar.addi v2452 v2530
  let v2532 : BitVec 32 := v2531
  let c768_i32_1058 : BitVec 32 := 768#32
  let v2727 : BitVec 32 := Scalar.addi v2532 c768_i32_1058
  v2727
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16384x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16384x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x16384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel2.lean ====
abbrev S1x16384x1024 : Shape := ⟨3, ![1, 16384, 1024]⟩
abbrev S1x16384x512 : Shape := ⟨3, ![1, 16384, 512]⟩
abbrev S1x16384x256 : Shape := ⟨3, ![1, 16384, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S16384x256 : Shape := ⟨2, ![16384, 256]⟩
abbrev S16384x512 : Shape := ⟨2, ![16384, 512]⟩
abbrev S16384x1024 : Shape := ⟨2, ![16384, 1024]⟩
abbrev S1x1024 : Shape := ⟨2, ![1, 1024]⟩
abbrev S256x1024 : Shape := ⟨2, ![256, 1024]⟩
abbrev S256x512 : Shape := ⟨2, ![256, 512]⟩
abbrev S512x1024 : Shape := ⟨2, ![512, 1024]⟩
abbrev S256 : Shape := ⟨1, ![256]⟩
abbrev S256x1 : Shape := ⟨2, ![256, 1]⟩
abbrev S1024x2816 : Shape := ⟨2, ![1024, 2816]⟩
abbrev S256x2816 : Shape := ⟨2, ![256, 2816]⟩

abbrev nBuf : Space → Nat
  | .hbm => 20
  | .vmem => 12
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x256, .f32⟩
  | .hbm, ⟨3, _⟩ => ⟨S1x16384x256, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S16384x256, .f32⟩
  | .hbm, ⟨9, _⟩ => ⟨S16384x256, .f32⟩
  | .hbm, ⟨10, _⟩ => ⟨S16384x512, .f32⟩
  | .hbm, ⟨11, _⟩ => ⟨S16384x512, .bf16⟩
  | .hbm, ⟨12, _⟩ => ⟨S16384x1024, .f32⟩
  | .hbm, ⟨13, _⟩ => ⟨S16384x512, .f32⟩
  | .hbm, ⟨14, _⟩ => ⟨S16384x512, .bf16⟩
  | .hbm, ⟨15, _⟩ => ⟨S1024x1024, .bf16⟩
  | .hbm, ⟨16, _⟩ => ⟨S1x1024, .f32⟩
  | .hbm, ⟨17, _⟩ => ⟨S1024x5632, .bf16⟩
  | .hbm, ⟨18, _⟩ => ⟨S2816x1024, .bf16⟩
  | .hbm, ⟨19, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1024x1024, .bf16⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S256x1024, .f32⟩
  | .local _ .vmem, ⟨11, _⟩ => ⟨S256x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S1x16384x1024 : Shape := ⟨3, ![1, 16384, 1024]⟩
abbrev S1x16384x512 : Shape := ⟨3, ![1, 16384, 512]⟩
abbrev S1x16384x256 : Shape := ⟨3, ![1, 16384, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x5632 : Shape := ⟨3, ![1, 16384, 5632]⟩
abbrev S1x16384x2816 : Shape := ⟨3, ![1, 16384, 2816]⟩
abbrev S16384x1024 : Shape := ⟨2, ![16384, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x16384x512, .f32⟩
  | .hbm, ⟨2, _⟩ => ⟨S1x16384x256, .f32⟩
  | .hbm, ⟨3, _⟩ => ⟨S1x16384x256, .f32⟩
  | .hbm, ⟨4, _⟩ => ⟨S1024x1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1x16384x1024, .f32⟩
  | .hbm, ⟨9, _⟩ => ⟨S1x16384x1024, .f32⟩
  | .hbm, ⟨10, _⟩ => ⟨S1x16384x1024, .f32⟩
  | .hbm, ⟨11, _⟩ => ⟨S1x16384x1024, .f32⟩
  | .hbm, ⟨12, _⟩ => ⟨S_, .f32⟩
  | .hbm, ⟨13, _⟩ => ⟨S1x16384, .f32⟩
  | .hbm, ⟨14, _⟩ => ⟨S1x16384x1, .f32⟩
  | .hbm, ⟨15, _⟩ => ⟨S_, .f32⟩
  | .hbm, ⟨16, _⟩ => ⟨S1x16384x1, .f32⟩
  | .hbm, ⟨17, _⟩ => ⟨S1x16384x1, .f32⟩
  | .hbm, ⟨18, _⟩ => ⟨S_, .f32⟩
  | .hbm, ⟨19, _⟩ => ⟨S1x16384x1, .f32⟩
  | .hbm, ⟨20, _⟩ => ⟨S1x16384x1, .f32⟩
  | .hbm, ⟨21, _⟩ => ⟨S1x16384x1, .f32⟩
  | .hbm, ⟨22, _⟩ => ⟨S1x16384x1024, .f32⟩
  | .hbm, ⟨23, _⟩ => ⟨S1x16384x1024, .f32⟩
  | .hbm, ⟨24, _⟩ => ⟨S1x1x1024, .f32⟩
  | .hbm, ⟨25, _⟩ => ⟨S1x16384x1024, .f32⟩
  | .hbm, ⟨26, _⟩ => ⟨S1x16384x1024, .f32⟩
  | .hbm, ⟨27, _⟩ => ⟨S1x16384x5632, .f32⟩
  | .hbm, ⟨28, _⟩ => ⟨S1x16384x2816, .f32⟩
  | .hbm, ⟨29, _⟩ => ⟨S1x16384x2816, .f32⟩
  | .hbm, ⟨30, _⟩ => ⟨S1x16384x2816, .f32⟩
  | .hbm, ⟨31, _⟩ => ⟨S1x16384x2816, .f32⟩
  | .hbm, ⟨32, _⟩ => ⟨S_, .f32⟩
  | .hbm, ⟨33, _⟩ => ⟨S1x16384x2816, .f32⟩
  | .hbm, ⟨34, _⟩ => ⟨S1x16384x2816, .f32⟩
  | .hbm, ⟨35, _⟩ => ⟨S_, .f32⟩
  | .hbm, ⟨36, _⟩ => ⟨S1x16384x2816, .f32⟩
  | .hbm, ⟨37, _⟩ => ⟨S1x16384x2816, .f32⟩
  | .hbm, ⟨38, _⟩ => ⟨S1x16384x2816, .f32⟩
  | .hbm, ⟨39, _⟩ => ⟨S1x16384x2816, .f32⟩
  | .hbm, ⟨40, _⟩ => ⟨S1x16384x1024, .f32⟩
  | .hbm, ⟨41, _⟩ => ⟨S1x16384x1024, .f32⟩
  | .hbm, ⟨42, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel3.lean ====
abbrev S1x16384x1024 : Shape := ⟨3, ![1, 16384, 1024]⟩
abbrev S1024x3656 : Shape := ⟨2, ![1024, 3656]⟩
abbrev S1024 : Shape := ⟨1, ![1024]⟩
abbrev S64 : Shape := ⟨1, ![64]⟩
abbrev S256x256 : Shape := ⟨2, ![256, 256]⟩
abbrev S_ : Shape := ⟨0, ![]⟩
abbrev S128x512 : Shape := ⟨2, ![128, 512]⟩
abbrev S1024x3328 : Shape := ⟨2, ![1024, 3328]⟩
abbrev S1024x256 : Shape := ⟨2, ![1024, 256]⟩
abbrev S1024x72 : Shape := ⟨2, ![1024, 72]⟩
abbrev S1024x56 : Shape := ⟨2, ![1024, 56]⟩
abbrev S1024x3712 : Shape := ⟨2, ![1024, 3712]⟩
abbrev S16384x1024 : Shape := ⟨2, ![16384, 1024]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S16384x2048 : Shape := ⟨2, ![16384, 2048]⟩
abbrev S256x16384 : Shape := ⟨2, ![256, 16384]⟩
abbrev S16384x256 : Shape := ⟨2, ![16384, 256]⟩
abbrev S512x16384 : Shape := ⟨2, ![512, 16384]⟩
abbrev S16384x64 : Shape := ⟨2, ![16384, 64]⟩
abbrev S8x16384 : Shape := ⟨2, ![8, 16384]⟩
abbrev S512x1024 : Shape := ⟨2, ![512, 1024]⟩
abbrev S512x2048 : Shape := ⟨2, ![512, 2048]⟩
abbrev S256x512 : Shape := ⟨2, ![256, 512]⟩
abbrev S512x256 : Shape := ⟨2, ![512, 256]⟩
abbrev S512x512 : Shape := ⟨2, ![512, 512]⟩
abbrev S512x64 : Shape := ⟨2, ![512, 64]⟩
abbrev S8x512 : Shape := ⟨2, ![8, 512]⟩
abbrev S512 : Shape := ⟨1, ![512]⟩
abbrev S512x1 : Shape := ⟨2, ![512, 1]⟩
abbrev S512x3712 : Shape := ⟨2, ![512, 3712]⟩
abbrev S512x128 : Shape := ⟨2, ![512, 128]⟩

abbrev nBuf : Space → Nat
  | .hbm => 65
  | .vmem => 25
  | .smem => 0
  | _ => 0

abbrev bufTy : (tb : Table) → Fin (tcTables nBuf tb) → BufTy
  | .hbm, ⟨0, _⟩ => ⟨S1x16384x1024, .f32⟩
  | .hbm, ⟨1, _⟩ => ⟨S1024x3656, .f32⟩
  | .hbm, ⟨2, _⟩ => ⟨S1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S256x256, .i1⟩
  | .hbm, ⟨15, _⟩ => ⟨S_, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x256, .bf16⟩
  | .hbm, ⟨21, _⟩ => ⟨S128x512, .i32⟩
  | .hbm, ⟨22, _⟩ => ⟨S128x512, .i32⟩
  | .hbm, ⟨23, _⟩ => ⟨S_, .i32⟩
  | .hbm, ⟨24, _⟩ => ⟨S128x512, .i32⟩
  | .hbm, ⟨25, _⟩ => ⟨S128x512, .i32⟩
  | .hbm, ⟨26, _⟩ => ⟨S_, .i32⟩
  | .hbm, ⟨27, _⟩ => ⟨S128x512, .i32⟩
  | .hbm, ⟨28, _⟩ => ⟨S128x512, .i32⟩
  | .hbm, ⟨29, _⟩ => ⟨S128x512, .i1⟩
  | .hbm, ⟨30, _⟩ => ⟨S_, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S128x512, .f32⟩
  | .hbm, ⟨35, _⟩ => ⟨S128x512, .bf16⟩
  | .hbm, ⟨36, _⟩ => ⟨S1024x3328, .f32⟩
  | .hbm, ⟨37, _⟩ => ⟨S1024x256, .f32⟩
  | .hbm, ⟨38, _⟩ => ⟨S1024x72, .f32⟩
  | .hbm, ⟨39, _⟩ => ⟨S_, .f32⟩
  | .hbm, ⟨40, _⟩ => ⟨S1024x56, .f32⟩
  | .hbm, ⟨41, _⟩ => ⟨S1024x3712, .f32⟩
  | .hbm, ⟨42, _⟩ => ⟨S1024x3712, .bf16⟩
  | .hbm, ⟨43, _⟩ => ⟨S16384x1024, .f32⟩
  | .hbm, ⟨44, _⟩ => ⟨S1x1024, .f32⟩
  | .hbm, ⟨45, _⟩ => ⟨S1x64, .f32⟩
  | .hbm, ⟨46, _⟩ => ⟨S4x64, .f32⟩
  | .hbm, ⟨47, _⟩ => ⟨S256, .f32⟩
  | .hbm, ⟨48, _⟩ => ⟨S1x256, .f32⟩
  | .hbm, ⟨49, _⟩ => ⟨S1x64, .f32⟩
  | .hbm, ⟨50, _⟩ => ⟨S4x64, .f32⟩
  | .hbm, ⟨51, _⟩ => ⟨S256, .f32⟩
  | .hbm, ⟨52, _⟩ => ⟨S1x256, .f32⟩
  | .hbm, ⟨53, _⟩ => ⟨S1x64, .f32⟩
  | .hbm, ⟨54, _⟩ => ⟨S4x64, .f32⟩
  | .hbm, ⟨55, _⟩ => ⟨S256, .f32⟩
  | .hbm, ⟨56, _⟩ => ⟨S1x256, .f32⟩
  | .hbm, ⟨57, _⟩ => ⟨S16384x2048, .f32⟩
  | .hbm, ⟨58, _⟩ => ⟨S256x16384, .bf16⟩
  | .hbm, ⟨59, _⟩ => ⟨S16384x256, .bf16⟩
  | .hbm, ⟨60, _⟩ => ⟨S256x16384, .bf16⟩
  | .hbm, ⟨61, _⟩ => ⟨S512x16384, .bf16⟩
  | .hbm, ⟨62, _⟩ => ⟨S16384x64, .bf16⟩
  | .hbm, ⟨63, _⟩ => ⟨S8x16384, .f32⟩
  | .hbm, ⟨64, _⟩ => ⟨S256x16384, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S256x256, .bf16⟩
  | .local _ .vmem, ⟨8, _⟩ => ⟨S128x512, .bf16⟩
  | .local _ .vmem, ⟨9, _⟩ => ⟨S512x2048, .f32⟩
  | .local _ .vmem, ⟨10, _⟩ => ⟨S512x2048, .f32⟩
  | .local _ .vmem, ⟨11, _⟩ => ⟨S256x512, .bf16⟩
  | .local _ .vmem, ⟨12, _⟩ => ⟨S256x512, .bf16⟩
  | .local _ .vmem, ⟨13, _⟩ => ⟨S512x256, .bf16⟩
  | .local _ .vmem, ⟨14, _⟩ => ⟨S512x256, .bf16⟩
  | .local _ .vmem, ⟨15, _⟩ => ⟨S256x512, .bf16⟩
  | .local _ .vmem, ⟨16, _⟩ => ⟨S256x512, .bf16⟩
  | .local _ .vmem, ⟨17, _⟩ => ⟨S512x512, .bf16⟩
  | .local _ .vmem, ⟨18, _⟩ => ⟨S512x512, .bf16⟩
  | .local _ .vmem, ⟨19, _⟩ => ⟨S512x64, .bf16⟩
  | .local _ .vmem, ⟨20, _⟩ => ⟨S512x64, .bf16⟩
  | .local _ .vmem, ⟨21, _⟩ => ⟨S8x512, .f32⟩
  | .local _ .vmem, ⟨22, _⟩ => ⟨S8x512, .f32⟩
  | .local _ .vmem, ⟨23, _⟩ => ⟨S256x512, .bf16⟩
  | .local _ .vmem, ⟨24, _⟩ => ⟨S256x512, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_cst_5 : Ref sig .tc := ⟨.hbm, 31, rfl⟩
abbrev main_call1_v0 : Ref sig .tc := ⟨.hbm, 32, rfl⟩
abbrev main_call1_v1 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38_0 : Ref sig .tc := ⟨.hbm, 57, rfl⟩
abbrev main_v38_1 : Ref sig .tc := ⟨.hbm, 58, rfl⟩
abbrev main_v38_2 : Ref sig .tc := ⟨.hbm, 59, rfl⟩
abbrev main_v38_3 : Ref sig .tc := ⟨.hbm, 60, rfl⟩
abbrev main_v38_4 : Ref sig .tc := ⟨.hbm, 61, rfl⟩
abbrev main_v38_5 : Ref sig .tc := ⟨.hbm, 62, rfl⟩
abbrev main_v38_6 : Ref sig .tc := ⟨.hbm, 63, rfl⟩
abbrev main_v38_7 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S1x16384x1024 : Shape := ⟨3, ![1, 16384, 1024]⟩
abbrev S1024x3656 : Shape := ⟨2, ![1024, 3656]⟩
abbrev S1024 : Shape := ⟨1, ![1024]⟩
abbrev S64 : Shape := ⟨1, ![64]⟩
abbrev S_ : Shape := ⟨0, ![]⟩
abbrev S1x16384 : Shape := ⟨2, ![1, 16384]⟩
abbrev S1x16384x1 : Shape := ⟨3, ![1, 16384, 1]⟩
abbrev S1x1x1024 : Shape := ⟨3, ![1, 1, 1024]⟩
abbrev S1x16384x3656 : Shape := ⟨3, ![1, 16384, 3656]⟩
abbrev S1x16384x512 : Shape := ⟨3, ![1, 16384, 512]⟩
abbrev S1x16384x256 : Shape := ⟨3, ![1, 16384, 256]⟩
abbrev S1x16384x64 : Shape := ⟨3, ![1, 16384, 64]⟩
abbrev S1x16384x8 : Shape := ⟨3, ![1, 16384, 8]⟩
abbrev S1x16384x4x64 : Shape := ⟨4, ![1, 16384, 4, 64]⟩
abbrev S1x16384x4 : Shape := ⟨3, ![1, 16384, 4]⟩
abbrev S1x16384x4x1 : Shape := ⟨4, ![1, 16384, 4, 1]⟩
abbrev S1x1x1x64 : Shape := ⟨4, ![1, 1, 1, 64]⟩
abbrev S1x16384x8x64 : Shape := ⟨4, ![1, 16384, 8, 64]⟩
abbrev S1x16384x8x1 : Shape := ⟨4, ![1, 16384, 8, 1]⟩
abbrev S1x16384x2048 : Shape := ⟨3, ![1, 16384, 2048]⟩
abbrev S16384x2048 : Shape := ⟨2, ![16384, 2048]⟩
abbrev S16384x256 : Shape := ⟨2, ![16384, 256]⟩
abbrev S256x16384 : Shape := ⟨2, ![256, 16384]⟩
abbrev S16384x512 : Shape := ⟨2, ![16384, 512]⟩
abbrev S512x16384 : Shape := ⟨2, ![512, 16384]⟩
abbrev S16384x64 : Shape := ⟨2, ![16384, 64]⟩
abbrev S16384x8 : Shape := ⟨2, ![16384, 8]⟩
abbrev S8x16384 : Shape := ⟨2, ![8, 16384]⟩

abbrev nBuf : Space → Nat
  | .hbm => 127
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x3656, .f32⟩
  | .hbm, ⟨2, _⟩ => ⟨S1024, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S1x16384x1024, .f32⟩
  | .hbm, ⟨7, _⟩ => ⟨S_, .f32⟩
  | .hbm, ⟨8, _⟩ => ⟨S1x16384, .f32⟩
  | .hbm, ⟨9, _⟩ => ⟨S1x16384x1, .f32⟩
  | .hbm, ⟨10, _⟩ => ⟨S_, .f32⟩
  | .hbm, ⟨11, _⟩ => ⟨S1x16384x1, .f32⟩
  | .hbm, ⟨12, _⟩ => ⟨S1x16384x1, .f32⟩
  | .hbm, ⟨13, _⟩ => ⟨S_, .f32⟩
  | .hbm, ⟨14, _⟩ => ⟨S1x16384x1, .f32⟩
  | .hbm, ⟨15, _⟩ => ⟨S1x16384x1, .f32⟩
  | .hbm, ⟨16, _⟩ => ⟨S1x16384x1, .f32⟩
  | .hbm, ⟨17, _⟩ => ⟨S1x16384x1024, .f32⟩
  | .hbm, ⟨18, _⟩ => ⟨S1x16384x1024, .f32⟩
  | .hbm, ⟨19, _⟩ => ⟨S1x1x1024, .f32⟩
  | .hbm, ⟨20, _⟩ => ⟨S1x16384x1024, .f32⟩
  | .hbm, ⟨21, _⟩ => ⟨S1x16384x1024, .f32⟩
  | .hbm, ⟨22, _⟩ => ⟨S1x16384x3656, .f32⟩
  | .hbm, ⟨23, _⟩ => ⟨S1x16384x512, .f32⟩
  | .hbm, ⟨24, _⟩ => ⟨S1x16384x512, .f32⟩
  | .hbm, ⟨25, _⟩ => ⟨S1x16384x512, .f32⟩
  | .hbm, ⟨26, _⟩ => ⟨S1x16384x512, .f32⟩
  | .hbm, ⟨27, _⟩ => ⟨S1x16384x256, .f32⟩
  | .hbm, ⟨28, _⟩ => ⟨S1x16384x256, .f32⟩
  | .hbm, ⟨29, _⟩ => ⟨S1x16384x256, .f32⟩
  | .hbm, ⟨30, _⟩ => ⟨S1x16384x512, .f32⟩
  | .hbm, ⟨31, _⟩ => ⟨S1x16384x64, .f32⟩
  | .hbm, ⟨32, _⟩ => ⟨S1x16384x8, .f32⟩
  | .hbm, ⟨33, _⟩ => ⟨S1x16384x256, .f32⟩
  | .hbm, ⟨34, _⟩ => ⟨S1x16384x4x64, .f32⟩
  | .hbm, ⟨35, _⟩ => ⟨S1x16384x4x64, .f32⟩
  | .hbm, ⟨36, _⟩ => ⟨S_, .f32⟩
  | .hbm, ⟨37, _⟩ => ⟨S1x16384x4, .f32⟩
  | .hbm, ⟨38, _⟩ => ⟨S1x16384x4x1, .f32⟩
  | .hbm, ⟨39, _⟩ => ⟨S_, .f32⟩
  | .hbm, ⟨40, _⟩ => ⟨S1x16384x4x1, .f32⟩
  | .hbm, ⟨41, _⟩ => ⟨S1x16384x4x1, .f32⟩
  | .hbm, ⟨42, _⟩ => ⟨S_, .f32⟩
  | .hbm, ⟨43, _⟩ => ⟨S1x16384x4x1, .f32⟩
  | .hbm, ⟨44, _⟩ => ⟨S1x16384x4x1, .f32⟩
  | .hbm, ⟨45, _⟩ => ⟨S1x16384x4x1, .f32⟩
  | .hbm, ⟨46, _⟩ => ⟨S1x16384x4x64, .f32⟩
  | .hbm, ⟨47, _⟩ => ⟨S1x16384x4x64, .f32⟩
  | .hbm, ⟨48, _⟩ => ⟨S1x1x1x64, .f32⟩
  | .hbm, ⟨49, _⟩ => ⟨S1x16384x4x64, .f32⟩
  | .hbm, ⟨50, _⟩ => ⟨S1x16384x4x64, .f32⟩
  | .hbm, ⟨51, _⟩ => ⟨S1x16384x4x64, .f32⟩
  | .hbm, ⟨52, _⟩ => ⟨S1x16384x4x64, .f32⟩
  | .hbm, ⟨53, _⟩ => ⟨S_, .f32⟩
  | .hbm, ⟨54, _⟩ => ⟨S1x16384x4, .f32⟩
  | .hbm, ⟨55, _⟩ => ⟨S1x16384x4x1, .f32⟩
  | .hbm, ⟨56, _⟩ => ⟨S_, .f32⟩
  | .hbm, ⟨57, _⟩ => ⟨S1x16384x4x1, .f32⟩
  | .hbm, ⟨58, _⟩ => ⟨S1x16384x4x1, .f32⟩
  | .hbm, ⟨59, _⟩ => ⟨S_, .f32⟩
  | .hbm, ⟨60, _⟩ => ⟨S1x16384x4x1, .f32⟩
  | .hbm, ⟨61, _⟩ => ⟨S1x16384x4x1, .f32⟩
  | .hbm, ⟨62, _⟩ => ⟨S1x16384x4x1, .f32⟩
  | .hbm, ⟨63, _⟩ => ⟨S1x16384x4x64, .f32⟩
  | .hbm, ⟨64, _⟩ => ⟨S1x16384x4x64, .f32⟩
  | .hbm, ⟨65, _⟩ => ⟨S1x1x1x64, .f32⟩
  | .hbm, ⟨66, _⟩ => ⟨S1x16384x4x64, .f32⟩
  | .hbm, ⟨67, _⟩ => ⟨S1x16384x4x64, .f32⟩
  | .hbm, ⟨68, _⟩ => ⟨S1x16384x4x64, .f32⟩
  | .hbm, ⟨69, _⟩ => ⟨S1x16384x4x64, .f32⟩
  | .hbm, ⟨70, _⟩ => ⟨S_, .f32⟩
  | .hbm, ⟨71, _⟩ => ⟨S1x16384x4, .f32⟩
  | .hbm, ⟨72, _⟩ => ⟨S1x16384x4x1, .f32⟩
  | .hbm, ⟨73, _⟩ => ⟨S_, .f32⟩
  | .hbm, ⟨74, _⟩ => ⟨S1x16384x4x1, .f32⟩
  | .hbm, ⟨75, _⟩ => ⟨S1x16384x4x1, .f32⟩
  | .hbm, ⟨76, _⟩ => ⟨S_, .f32⟩
  | .hbm, ⟨77, _⟩ => ⟨S1x16384x4x1, .f32⟩
  | .hbm, ⟨78, _⟩ => ⟨S1x16384x4x1, .f32⟩
  | .hbm, ⟨79, _⟩ => ⟨S1x16384x4x1, .f32⟩
  | .hbm, ⟨80, _⟩ => ⟨S1x16384x4x64, .f32⟩
  | .hbm, ⟨81, _⟩ => ⟨S1x16384x4x64, .f32⟩
  | .hbm, ⟨82, _⟩ => ⟨S1x1x1x64, .f32⟩
  | .hbm, ⟨83, _⟩ => ⟨S1x16384x4x64, .f32⟩
  | .hbm, ⟨84, _⟩ => ⟨S1x16384x4x64, .f32⟩
  | .hbm, ⟨85, _⟩ => ⟨S_, .f32⟩
  | .hbm, ⟨86, _⟩ => ⟨S1x16384x8, .f32⟩
  | .hbm, ⟨87, _⟩ => ⟨S1x16384x8, .f32⟩
  | .hbm, ⟨88, _⟩ => ⟨S1x16384x8x64, .f32⟩
  | .hbm, ⟨89, _⟩ => ⟨S1x16384x8, .f32⟩
  | .hbm, ⟨90, _⟩ => ⟨S1x16384x8x1, .f32⟩
  | .hbm, ⟨91, _⟩ => ⟨S1x16384x8x64, .f32⟩
  | .hbm, ⟨92, _⟩ => ⟨S1x16384x8x64, .f32⟩
  | .hbm, ⟨93, _⟩ => ⟨S_, .f32⟩
  | .hbm, ⟨94, _⟩ => ⟨S1x16384x4x64, .f32⟩
  | .hbm, ⟨95, _⟩ => ⟨S1x16384x4x64, .f32⟩
  | .hbm, ⟨96, _⟩ => ⟨S_, .f32⟩
  | .hbm, ⟨97, _⟩ => ⟨S1x16384x4x64, .f32⟩
  | .hbm, ⟨98, _⟩ => ⟨S1x16384x4x64, .f32⟩
  | .hbm, ⟨99, _⟩ => ⟨S1x16384x2048, .f32⟩
  | .hbm, ⟨100, _⟩ => ⟨S16384x2048, .f32⟩
  | .hbm, ⟨101, _⟩ => ⟨S16384x256, .f32⟩
  | .hbm, ⟨102, _⟩ => ⟨S256x16384, .f32⟩
  | .hbm, ⟨103, _⟩ => ⟨S256x16384, .bf16⟩
  | .hbm, ⟨104, _⟩ => ⟨S16384x256, .f32⟩
  | .hbm, ⟨105, _⟩ => ⟨S16384x256, .bf16⟩
  | .hbm, ⟨106, _⟩ => ⟨S16384x256, .f32⟩
  | .hbm, ⟨107, _⟩ => ⟨S256x16384, .f32⟩
  | .hbm, ⟨108, _⟩ => ⟨S256x16384, .bf16⟩
  | .hbm, ⟨109, _⟩ => ⟨S16384x512, .f32⟩
  | .hbm, ⟨110, _⟩ => ⟨S512x16384, .f32⟩
  | .hbm, ⟨111, _⟩ => ⟨S512x16384, .bf16⟩
  | .hbm, ⟨112, _⟩ => ⟨S16384x64, .f32⟩
  | .hbm, ⟨113, _⟩ => ⟨S16384x64, .bf16⟩
  | .hbm, ⟨114, _⟩ => ⟨S_, .f32⟩
  | .hbm, ⟨115, _⟩ => ⟨S1x16384x8, .f32⟩
  | .hbm, ⟨116, _⟩ => ⟨S1x16384x8, .i1⟩
  | .hbm, ⟨117, _⟩ => ⟨S_, .f32⟩
  | .hbm, ⟨118, _⟩ => ⟨S_, .f32⟩
  | .hbm, ⟨119, _⟩ => ⟨S1x16384x8, .f32⟩
  | .hbm, ⟨120, _⟩ => ⟨S1x16384x8, .f32⟩
  | .hbm, ⟨121, _⟩ => ⟨S1x16384x8, .f32⟩
  | .hbm, ⟨122, _⟩ => ⟨S16384x8, .f32⟩
  | .hbm, ⟨123, _⟩ => ⟨S8x16384, .f32⟩
  | .hbm, ⟨124, _⟩ => ⟨S16384x256, .f32⟩
  | .hbm, ⟨125, _⟩ => ⟨S256x16384, .f32⟩
  | .hbm, ⟨126, _⟩ => ⟨S256x16384, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_12 : Ref sig .tc := ⟨.hbm, 93, rfl⟩
abbrev main_v74 : Ref sig .tc := ⟨.hbm, 94, rfl⟩
abbrev main_v75 : Ref sig .tc := ⟨.hbm, 95, rfl⟩
abbrev main_cst_13 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_14 : Ref sig .tc := ⟨.hbm, 114, rfl⟩
abbrev main_v93 : Ref sig .tc := ⟨.hbm, 115, rfl⟩
abbrev main_v94 : Ref sig .tc := ⟨.hbm, 116, rfl⟩
abbrev main_cst_15 : Ref sig .tc := ⟨.hbm, 117, rfl⟩
abbrev main_cst_16 : Ref sig .tc := ⟨.hbm, 118, rfl⟩
abbrev main_call0_v0 : Ref sig .tc := ⟨.hbm, 119, rfl⟩
abbrev main_call0_v1 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩

abbrev nD : Nat := 1
abbrev τ : Topo := Topo.v7x

variable {F : FTy → Type} [FloatOps F]
-- ==== Kernel4.lean ====
abbrev S16384x2048 : Shape := ⟨2, ![16384, 2048]⟩
abbrev S2x512 : Shape := ⟨2, ![2, 512]⟩
abbrev S128 : Shape := ⟨1, ![128]⟩
abbrev S128x128 : Shape := ⟨2, ![128, 128]⟩
abbrev S_ : Shape := ⟨0, ![]⟩
abbrev S640x128 : Shape := ⟨2, ![640, 128]⟩
abbrev S1x128 : Shape := ⟨2, ![1, 128]⟩
abbrev S16384x512 : Shape := ⟨2, ![16384, 512]⟩
abbrev S128x512 : Shape := ⟨2, ![128, 512]⟩
abbrev S4x128x128 : Shape := ⟨3, ![4, 128, 128]⟩
abbrev S512 : Shape := ⟨1, ![512]⟩
abbrev S1x512 : Shape := ⟨2, ![1, 512]⟩
abbrev S1x128x128 : Shape := ⟨3, ![1, 128, 128]⟩
abbrev S16x8x128 : Shape := ⟨3, ![16, 8, 128]⟩
abbrev S16x1x128 : Shape := ⟨3, ![16, 1, 128]⟩
abbrev S1x1x128 : Shape := ⟨3, ![1, 1, 128]⟩
abbrev S15x1x128 : Shape := ⟨3, ![15, 1, 128]⟩
abbrev S8x16x128 : Shape := ⟨3, ![8, 16, 128]⟩
abbrev S8x1x128 : Shape := ⟨3, ![8, 1, 128]⟩
abbrev S7x1x128 : Shape := ⟨3, ![7, 1, 128]⟩
abbrev S4x32x128 : Shape := ⟨3, ![4, 32, 128]⟩
abbrev S4x1x128 : Shape := ⟨3, ![4, 1, 128]⟩
abbrev S3x1x128 : Shape := ⟨3, ![3, 1, 128]⟩
abbrev S2x64x128 : Shape := ⟨3, ![2, 64, 128]⟩
abbrev S2x1x128 : Shape := ⟨3, ![2, 1, 128]⟩
abbrev S128x1 : Shape := ⟨2, ![128, 1]⟩

abbrev nBuf : Space → Nat
  | .hbm => 176
  | .vmem => 15
  | .smem => 0
  | _ => 0

abbrev hbmTy0_0 (i : Nat) : BufTy := match i % 128 with
  | 0 => ⟨S16384x2048, .f32⟩
  | 1 => ⟨S2x512, .f32⟩
  | 2 => ⟨S128, .f32⟩
  | 3 => ⟨S128x128, .i32⟩
  | 4 => ⟨S128x128, .i32⟩
  | 5 => ⟨S_, .i32⟩
  | 6 => ⟨S128x128, .i32⟩
  | 7 => ⟨S128x128, .i32⟩
  | 8 => ⟨S_, .i32⟩
  | 9 => ⟨S128x128, .i32⟩
  | 10 => ⟨S128x128, .i32⟩
  | 11 => ⟨S128x128, .i1⟩
  | 12 => ⟨S128x128, .i1⟩
  | 13 => ⟨S128x128, .i1⟩
  | 14 => ⟨S_, .f32⟩
  | 15 => ⟨S_, .f32⟩
  | 16 => ⟨S128x128, .f32⟩
  | 17 => ⟨S128x128, .f32⟩
  | 18 => ⟨S128x128, .f32⟩
  | 19 => ⟨S128x128, .i1⟩
  | 20 => ⟨S_, .i32⟩
  | 21 => ⟨S128x128, .i32⟩
  | 22 => ⟨S128x128, .i32⟩
  | 23 => ⟨S_, .i32⟩
  | 24 => ⟨S128x128, .i32⟩
  | 25 => ⟨S128x128, .i32⟩
  | 26 => ⟨S128x128, .i1⟩
  | 27 => ⟨S128x128, .i1⟩
  | 28 => ⟨S_, .f32⟩
  | 29 => ⟨S_, .f32⟩
  | 30 => ⟨S128x128, .f32⟩
  | 31 => ⟨S128x128, .f32⟩
  | 32 => ⟨S128x128, .f32⟩
  | 33 => ⟨S_, .i32⟩
  | 34 => ⟨S128x128, .i32⟩
  | 35 => ⟨S128x128, .i32⟩
  | 36 => ⟨S_, .i32⟩
  | 37 => ⟨S128x128, .i32⟩
  | 38 => ⟨S128x128, .i32⟩
  | 39 => ⟨S128x128, .i1⟩
  | 40 => ⟨S128x128, .i1⟩
  | 41 => ⟨S128x128, .i1⟩
  | 42 => ⟨S_, .f32⟩
  | 43 => ⟨S_, .f32⟩
  | 44 => ⟨S128x128, .f32⟩
  | 45 => ⟨S128x128, .f32⟩
  | 46 => ⟨S128x128, .f32⟩
  | 47 => ⟨S128x128, .i1⟩
  | 48 => ⟨S_, .i32⟩
  | 49 => ⟨S128x128, .i32⟩
  | 50 => ⟨S128x128, .i32⟩
  | 51 => ⟨S_, .i32⟩
  | 52 => ⟨S128x128, .i32⟩
  | 53 => ⟨S128x128, .i32⟩
  | 54 => ⟨S128x128, .i1⟩
  | 55 => ⟨S128x128, .i1⟩
  | 56 => ⟨S_, .f32⟩
  | 57 => ⟨S_, .f32⟩
  | 58 => ⟨S128x128, .f32⟩
  | 59 => ⟨S128x128, .f32⟩
  | 60 => ⟨S128x128, .f32⟩
  | 61 => ⟨S128x128, .i1⟩
  | 62 => ⟨S_, .f32⟩
  | 63 => ⟨S_, .f32⟩
  | 64 => ⟨S128x128, .f32⟩
  | 65 => ⟨S128x128, .f32⟩
  | 66 => ⟨S128x128, .f32⟩
  | 67 => ⟨S_, .i32⟩
  | 68 => ⟨S128x128, .i32⟩
  | 69 => ⟨S_, .i32⟩
  | 70 => ⟨S128x128, .i32⟩
  | 71 => ⟨S128x128, .i32⟩
  | 72 => ⟨S_, .i32⟩
  | 73 => ⟨S128x128, .i32⟩
  | 74 => ⟨S128x128, .i32⟩
  | 75 => ⟨S128x128, .i1⟩
  | 76 => ⟨S_, .i32⟩
  | 77 => ⟨S_, .i32⟩
  | 78 => ⟨S128x128, .i32⟩
  | 79 => ⟨S128x128, .i32⟩
  | 80 => ⟨S128x128, .i32⟩
  | 81 => ⟨S128x128, .i32⟩
  | 82 => ⟨S128x128, .i32⟩
  | 83 => ⟨S_, .i32⟩
  | 84 => ⟨S128x128, .i32⟩
  | 85 => ⟨S128x128, .i32⟩
  | 86 => ⟨S_, .i32⟩
  | 87 => ⟨S128x128, .i32⟩
  | 88 => ⟨S128x128, .i32⟩
  | 89 => ⟨S128x128, .i1⟩
  | 90 => ⟨S_, .i32⟩
  | 91 => ⟨S_, .i32⟩
  | 92 => ⟨S128x128, .i32⟩
  | 93 => ⟨S128x128, .i32⟩
  | 94 => ⟨S128x128, .i32⟩
  | 95 => ⟨S128x128, .i32⟩
  | 96 => ⟨S128x128, .i32⟩
  | 97 => ⟨S_, .i32⟩
  | 98 => ⟨S128x128, .i32⟩
  | 99 => ⟨S128x128, .i32⟩
  | 100 => ⟨S_, .i32⟩
  | 101 => ⟨S128x128, .i32⟩
  | 102 => ⟨S128x128, .i32⟩
  | 103 => ⟨S128x128, .i1⟩
  | 104 => ⟨S_, .i32⟩
  | 105 => ⟨S_, .i32⟩
  | 106 => ⟨S128x128, .i32⟩
  | 107 => ⟨S128x128, .i32⟩
  | 108 => ⟨S128x128, .i32⟩
  | 109 => ⟨S128x128, .i32⟩
  | 110 => ⟨S128x128, .i32⟩
  | 111 => ⟨S_, .i32⟩
  | 112 => ⟨S128x128, .i32⟩
  | 113 => ⟨S128x128, .i32⟩
  | 114 => ⟨S_, .i32⟩
  | 115 => ⟨S128x128, .i32⟩
  | 116 => ⟨S128x128, .i32⟩
  | 117 => ⟨S128x128, .i1⟩
  | 118 => ⟨S_, .i32⟩
  | 119 => ⟨S_, .i32⟩
  | 120 => ⟨S128x128, .i32⟩
  | 121 => ⟨S128x128, .i32⟩
  | 122 => ⟨S128x128, .i32⟩
  | 123 => ⟨S128x128, .i32⟩
  | 124 => ⟨S128x128, .i32⟩
  | 125 => ⟨S_, .i32⟩
  | 126 => ⟨S128x128, .i32⟩
  | 127 => ⟨S128x128, .i32⟩
  | _ => ⟨S16384x2048, .f32⟩

abbrev hbmTy0_1 (i : Nat) : BufTy := match i % 128 with
  | 0 => ⟨S_, .i32⟩
  | 1 => ⟨S128x128, .i32⟩
  | 2 => ⟨S128x128, .i32⟩
  | 3 => ⟨S128x128, .i1⟩
  | 4 => ⟨S_, .i32⟩
  | 5 => ⟨S_, .i32⟩
  | 6 => ⟨S128x128, .i32⟩
  | 7 => ⟨S128x128, .i32⟩
  | 8 => ⟨S128x128, .i32⟩
  | 9 => ⟨S128x128, .i32⟩
  | 10 => ⟨S128x128, .i32⟩
  | 11 => ⟨S_, .i32⟩
  | 12 => ⟨S128x128, .i32⟩
  | 13 => ⟨S128x128, .i32⟩
  | 14 => ⟨S_, .i32⟩
  | 15 => ⟨S128x128, .i32⟩
  | 16 => ⟨S128x128, .i32⟩
  | 17 => ⟨S128x128, .i1⟩
  | 18 => ⟨S_, .i32⟩
  | 19 => ⟨S_, .i32⟩
  | 20 => ⟨S128x128, .i32⟩
  | 21 => ⟨S128x128, .i32⟩
  | 22 => ⟨S128x128, .i32⟩
  | 23 => ⟨S128x128, .i32⟩
  | 24 => ⟨S128x128, .i32⟩
  | 25 => ⟨S_, .i32⟩
  | 26 => ⟨S128x128, .i32⟩
  | 27 => ⟨S128x128, .i32⟩
  | 28 => ⟨S_, .i32⟩
  | 29 => ⟨S128x128, .i32⟩
  | 30 => ⟨S128x128, .i32⟩
  | 31 => ⟨S128x128, .i1⟩
  | 32 => ⟨S_, .i32⟩
  | 33 => ⟨S_, .i32⟩
  | 34 => ⟨S128x128, .i32⟩
  | 35 => ⟨S128x128, .i32⟩
  | 36 => ⟨S128x128, .i32⟩
  | 37 => ⟨S128x128, .i32⟩
  | 38 => ⟨S128x128, .i32⟩
  | 39 => ⟨S640x128, .f32⟩
  | 40 => ⟨S128x128, .i1⟩
  | 41 => ⟨S_, .i32⟩
  | 42 => ⟨S_, .i32⟩
  | 43 => ⟨S128x128, .i32⟩
  | 44 => ⟨S128x128, .i32⟩
  | 45 => ⟨S1x128, .f32⟩
  | 46 => ⟨S640x128, .bf16⟩
  | 47 => ⟨S16384x512, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S2x512, .f32⟩
  | .local _ .vmem, ⟨9, _⟩ => ⟨S1x128, .f32⟩
  | .local _ .vmem, ⟨10, _⟩ => ⟨S640x128, .bf16⟩
  | .local _ .vmem, ⟨11, _⟩ => ⟨S128x128, .i32⟩
  | .local _ .vmem, ⟨12, _⟩ => ⟨S128x512, .bf16⟩
  | .local _ .vmem, ⟨13, _⟩ => ⟨S128x512, .bf16⟩
  | .local _ .vmem, ⟨14, _⟩ => ⟨S4x128x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_c_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_cst_9 : Ref sig .tc := ⟨.hbm, 43, rfl⟩
abbrev main_call2_v0 : Ref sig .tc := ⟨.hbm, 44, rfl⟩
abbrev main_call2_v1 : Ref sig .tc := ⟨.hbm, 45, rfl⟩
abbrev main_v25 : Ref sig .tc := ⟨.hbm, 46, rfl⟩
abbrev main_v26 : Ref sig .tc := ⟨.hbm, 47, rfl⟩
abbrev main_c_10 : Ref sig .tc := ⟨.hbm, 48, rfl⟩
abbrev main_v27 : Ref sig .tc := ⟨.hbm, 49, rfl⟩
abbrev main_v28 : Ref sig .tc := ⟨.hbm, 50, rfl⟩
abbrev main_c_11 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_12 : Ref sig .tc := ⟨.hbm, 56, rfl⟩
abbrev main_cst_13 : Ref sig .tc := ⟨.hbm, 57, rfl⟩
abbrev main_call3_v0 : Ref sig .tc := ⟨.hbm, 58, rfl⟩
abbrev main_call3_v1 : Ref sig .tc := ⟨.hbm, 59, rfl⟩
abbrev main_v33 : Ref sig .tc := ⟨.hbm, 60, rfl⟩
abbrev main_v34 : Ref sig .tc := ⟨.hbm, 61, rfl⟩
abbrev main_cst_14 : Ref sig .tc := ⟨.hbm, 62, rfl⟩
abbrev main_cst_15 : Ref sig .tc := ⟨.hbm, 63, rfl⟩
abbrev main_call4_v0 : Ref sig .tc := ⟨.hbm, 64, rfl⟩
abbrev main_call4_v1 : Ref sig .tc := ⟨.hbm, 65, rfl⟩
abbrev main_v35 : Ref sig .tc := ⟨.hbm, 66, rfl⟩
abbrev main_c_16 : Ref sig .tc := ⟨.hbm, 67, rfl⟩
abbrev main_v36 : Ref sig .tc := ⟨.hbm, 68, rfl⟩
abbrev main_c_17 : Ref sig .tc := ⟨.hbm, 69, rfl⟩
abbrev main_v37 : Ref sig .tc := ⟨.hbm, 70, rfl⟩
abbrev main_v38 : Ref sig .tc := ⟨.hbm, 71, rfl⟩
abbrev main_c_18 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_19 : Ref sig .tc := ⟨.hbm, 76, rfl⟩
abbrev main_c_20 : Ref sig .tc := ⟨.hbm, 77, rfl⟩
abbrev main_call5_v0 : Ref sig .tc := ⟨.hbm, 78, rfl⟩
abbrev main_call5_v1 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_21 : Ref sig .tc := ⟨.hbm, 83, rfl⟩
abbrev main_v45 : Ref sig .tc := ⟨.hbm, 84, rfl⟩
abbrev main_v46 : Ref sig .tc := ⟨.hbm, 85, rfl⟩
abbrev main_c_22 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_23 : Ref sig .tc := ⟨.hbm, 90, rfl⟩
abbrev main_c_24 : Ref sig .tc := ⟨.hbm, 91, rfl⟩
abbrev main_call6_v0 : Ref sig .tc := ⟨.hbm, 92, rfl⟩
abbrev main_call6_v1 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_c_25 : Ref sig .tc := ⟨.hbm, 97, rfl⟩
abbrev main_v53 : Ref sig .tc := ⟨.hbm, 98, rfl⟩
abbrev main_v54 : Ref sig .tc := ⟨.hbm, 99, rfl⟩
abbrev main_c_26 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_c_27 : Ref sig .tc := ⟨.hbm, 104, rfl⟩
abbrev main_c_28 : Ref sig .tc := ⟨.hbm, 105, rfl⟩
abbrev main_call7_v0 : Ref sig .tc := ⟨.hbm, 106, rfl⟩
abbrev main_call7_v1 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_c_29 : Ref sig .tc := ⟨.hbm, 111, rfl⟩
abbrev main_v61 : Ref sig .tc := ⟨.hbm, 112, rfl⟩
abbrev main_v62 : Ref sig .tc := ⟨.hbm, 113, rfl⟩
abbrev main_c_30 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_c_31 : Ref sig .tc := ⟨.hbm, 118, rfl⟩
abbrev main_c_32 : Ref sig .tc := ⟨.hbm, 119, rfl⟩
abbrev main_call8_v0 : Ref sig .tc := ⟨.hbm, 120, rfl⟩
abbrev main_call8_v1 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_c_33 : Ref sig .tc := ⟨.hbm, 125, rfl⟩
abbrev main_v69 : Ref sig .tc := ⟨.hbm, 126, rfl⟩
abbrev main_v70 : Ref sig .tc := ⟨.hbm, 127, rfl⟩
abbrev main_c_34 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_c_35 : Ref sig .tc := ⟨.hbm, 132, rfl⟩
abbrev main_c_36 : Ref sig .tc := ⟨.hbm, 133, rfl⟩
abbrev main_call9_v0 : Ref sig .tc := ⟨.hbm, 134, rfl⟩
abbrev main_call9_v1 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_c_37 : Ref sig .tc := ⟨.hbm, 139, rfl⟩
abbrev main_v77 : Ref sig .tc := ⟨.hbm, 140, rfl⟩
abbrev main_v78 : Ref sig .tc := ⟨.hbm, 141, rfl⟩
abbrev main_c_38 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_c_39 : Ref sig .tc := ⟨.hbm, 146, rfl⟩
abbrev main_c_40 : Ref sig .tc := ⟨.hbm, 147, rfl⟩
abbrev main_call10_v0 : Ref sig .tc := ⟨.hbm, 148, rfl⟩
abbrev main_call10_v1 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_c_41 : Ref sig .tc := ⟨.hbm, 153, rfl⟩
abbrev main_v85 : Ref sig .tc := ⟨.hbm, 154, rfl⟩
abbrev main_v86 : Ref sig .tc := ⟨.hbm, 155, rfl⟩
abbrev main_c_42 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_c_43 : Ref sig .tc := ⟨.hbm, 160, rfl⟩
abbrev main_c_44 : Ref sig .tc := ⟨.hbm, 161, rfl⟩
abbrev main_call11_v0 : Ref sig .tc := ⟨.hbm, 162, rfl⟩
abbrev main_call11_v1 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_c_45 : Ref sig .tc := ⟨.hbm, 169, rfl⟩
abbrev main_call12_v0 : Ref sig .tc := ⟨.hbm, 170, rfl⟩
abbrev main_call12_v1 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S16384x2048 : Shape := ⟨2, ![16384, 2048]⟩
abbrev S2x512 : Shape := ⟨2, ![2, 512]⟩
abbrev S128 : Shape := ⟨1, ![128]⟩
abbrev S_ : Shape := ⟨0, ![]⟩
abbrev S512 : Shape := ⟨1, ![512]⟩
abbrev S1x512 : Shape := ⟨2, ![1, 512]⟩
abbrev S4x128 : Shape := ⟨2, ![4, 128]⟩
abbrev S4x128x128 : Shape := ⟨3, ![4, 128, 128]⟩
abbrev S16384x512 : Shape := ⟨2, ![16384, 512]⟩
abbrev S1x2048 : Shape := ⟨2, ![1, 2048]⟩
abbrev S2048 : Shape := ⟨1, ![2048]⟩
abbrev S4x4x128 : Shape := ⟨3, ![4, 4, 128]⟩
abbrev S1x4x128 : Shape := ⟨3, ![1, 4, 128]⟩
abbrev S4x128x1 : Shape := ⟨3, ![4, 128, 1]⟩
abbrev S4x1x128 : Shape := ⟨3, ![4, 1, 128]⟩
abbrev S4 : Shape := ⟨1, ![4]⟩
abbrev S4x1 : Shape := ⟨2, ![4, 1]⟩
abbrev S1x128 : Shape := ⟨2, ![1, 128]⟩

abbrev nBuf : Space → Nat
  | .hbm => 123
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x512, .f32⟩
  | .hbm, ⟨2, _⟩ => ⟨S128, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S1x512, .f32⟩
  | .hbm, ⟨9, _⟩ => ⟨S2x512, .f32⟩
  | .hbm, ⟨10, _⟩ => ⟨S2x512, .f32⟩
  | .hbm, ⟨11, _⟩ => ⟨S2x512, .f32⟩
  | .hbm, ⟨12, _⟩ => ⟨S_, .f32⟩
  | .hbm, ⟨13, _⟩ => ⟨S512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S1x512, .f32⟩
  | .hbm, ⟨18, _⟩ => ⟨S512, .f32⟩
  | .hbm, ⟨19, _⟩ => ⟨S4x128, .f32⟩
  | .hbm, ⟨20, _⟩ => ⟨S_, .f32⟩
  | .hbm, ⟨21, _⟩ => ⟨S4x128x128, .f32⟩
  | .hbm, ⟨22, _⟩ => ⟨S_, .f32⟩
  | .hbm, ⟨23, _⟩ => ⟨S16384x512, .f32⟩
  | .hbm, ⟨24, _⟩ => ⟨S_, .i32⟩
  | .hbm, ⟨25, _⟩ => ⟨S16384x2048, .f32⟩
  | .hbm, ⟨26, _⟩ => ⟨S4x128, .f32⟩
  | .hbm, ⟨27, _⟩ => ⟨S128, .f32⟩
  | .hbm, ⟨28, _⟩ => ⟨S_, .i32⟩
  | .hbm, ⟨29, _⟩ => ⟨S4x128x128, .f32⟩
  | .hbm, ⟨30, _⟩ => ⟨S16384x512, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S1x2048, .f32⟩
  | .hbm, ⟨35, _⟩ => ⟨S2048, .f32⟩
  | .hbm, ⟨36, _⟩ => ⟨S4x4x128, .f32⟩
  | .hbm, ⟨37, _⟩ => ⟨S1x4x128, .f32⟩
  | .hbm, ⟨38, _⟩ => ⟨S4x128, .f32⟩
  | .hbm, ⟨39, _⟩ => ⟨S1x4x128, .f32⟩
  | .hbm, ⟨40, _⟩ => ⟨S4x128, .f32⟩
  | .hbm, ⟨41, _⟩ => ⟨S1x4x128, .f32⟩
  | .hbm, ⟨42, _⟩ => ⟨S4x128, .f32⟩
  | .hbm, ⟨43, _⟩ => ⟨S1x4x128, .f32⟩
  | .hbm, ⟨44, _⟩ => ⟨S4x128, .f32⟩
  | .hbm, ⟨45, _⟩ => ⟨S_, .f32⟩
  | .hbm, ⟨46, _⟩ => ⟨S4x128, .f32⟩
  | .hbm, ⟨47, _⟩ => ⟨S4x128, .f32⟩
  | .hbm, ⟨48, _⟩ => ⟨S4x128, .f32⟩
  | .hbm, ⟨49, _⟩ => ⟨S4x128, .f32⟩
  | .hbm, ⟨50, _⟩ => ⟨S_, .f32⟩
  | .hbm, ⟨51, _⟩ => ⟨S4x128, .f32⟩
  | .hbm, ⟨52, _⟩ => ⟨S4x128, .f32⟩
  | .hbm, ⟨53, _⟩ => ⟨S_, .f32⟩
  | .hbm, ⟨54, _⟩ => ⟨S4x128, .f32⟩
  | .hbm, ⟨55, _⟩ => ⟨S4x128, .f32⟩
  | .hbm, ⟨56, _⟩ => ⟨S4x128, .f32⟩
  | .hbm, ⟨57, _⟩ => ⟨S4x128, .f32⟩
  | .hbm, ⟨58, _⟩ => ⟨S_, .f32⟩
  | .hbm, ⟨59, _⟩ => ⟨S4x128, .f32⟩
  | .hbm, ⟨60, _⟩ => ⟨S4x128, .f32⟩
  | .hbm, ⟨61, _⟩ => ⟨S4x128, .f32⟩
  | .hbm, ⟨62, _⟩ => ⟨S4x128, .f32⟩
  | .hbm, ⟨63, _⟩ => ⟨S4x128, .f32⟩
  | .hbm, ⟨64, _⟩ => ⟨S_, .f32⟩
  | .hbm, ⟨65, _⟩ => ⟨S4x128, .f32⟩
  | .hbm, ⟨66, _⟩ => ⟨S4x128, .f32⟩
  | .hbm, ⟨67, _⟩ => ⟨S_, .f32⟩
  | .hbm, ⟨68, _⟩ => ⟨S4x128, .f32⟩
  | .hbm, ⟨69, _⟩ => ⟨S4x128, .f32⟩
  | .hbm, ⟨70, _⟩ => ⟨S4x128, .f32⟩
  | .hbm, ⟨71, _⟩ => ⟨S4x128x1, .f32⟩
  | .hbm, ⟨72, _⟩ => ⟨S4x128x128, .f32⟩
  | .hbm, ⟨73, _⟩ => ⟨S4x128x128, .f32⟩
  | .hbm, ⟨74, _⟩ => ⟨S4x128x1, .f32⟩
  | .hbm, ⟨75, _⟩ => ⟨S4x1x128, .f32⟩
  | .hbm, ⟨76, _⟩ => ⟨S4x128x128, .f32⟩
  | .hbm, ⟨77, _⟩ => ⟨S4x128x128, .f32⟩
  | .hbm, ⟨78, _⟩ => ⟨S4x128x128, .f32⟩
  | .hbm, ⟨79, _⟩ => ⟨S4x128x128, .f32⟩
  | .hbm, ⟨80, _⟩ => ⟨S4x128, .f32⟩
  | .hbm, ⟨81, _⟩ => ⟨S4x128, .f32⟩
  | .hbm, ⟨82, _⟩ => ⟨S_, .f32⟩
  | .hbm, ⟨83, _⟩ => ⟨S4x128, .f32⟩
  | .hbm, ⟨84, _⟩ => ⟨S4x128, .f32⟩
  | .hbm, ⟨85, _⟩ => ⟨S_, .f32⟩
  | .hbm, ⟨86, _⟩ => ⟨S4x128, .f32⟩
  | .hbm, ⟨87, _⟩ => ⟨S4x128, .f32⟩
  | .hbm, ⟨88, _⟩ => ⟨S4x128, .f32⟩
  | .hbm, ⟨89, _⟩ => ⟨S4x128, .f32⟩
  | .hbm, ⟨90, _⟩ => ⟨S4x128, .f32⟩
  | .hbm, ⟨91, _⟩ => ⟨S_, .f32⟩
  | .hbm, ⟨92, _⟩ => ⟨S4, .f32⟩
  | .hbm, ⟨93, _⟩ => ⟨S4x1, .f32⟩
  | .hbm, ⟨94, _⟩ => ⟨S_, .f32⟩
  | .hbm, ⟨95, _⟩ => ⟨S4x1, .f32⟩
  | .hbm, ⟨96, _⟩ => ⟨S4x1, .f32⟩
  | .hbm, ⟨97, _⟩ => ⟨S_, .f32⟩
  | .hbm, ⟨98, _⟩ => ⟨S4x1, .f32⟩
  | .hbm, ⟨99, _⟩ => ⟨S4x1, .f32⟩
  | .hbm, ⟨100, _⟩ => ⟨S4x1, .f32⟩
  | .hbm, ⟨101, _⟩ => ⟨S4x128, .f32⟩
  | .hbm, ⟨102, _⟩ => ⟨S4x128, .f32⟩
  | .hbm, ⟨103, _⟩ => ⟨S1x128, .f32⟩
  | .hbm, ⟨104, _⟩ => ⟨S4x128, .f32⟩
  | .hbm, ⟨105, _⟩ => ⟨S4x128, .f32⟩
  | .hbm, ⟨106, _⟩ => ⟨S4x128, .f32⟩
  | .hbm, ⟨107, _⟩ => ⟨S4x128, .f32⟩
  | .hbm, ⟨108, _⟩ => ⟨S_, .f32⟩
  | .hbm, ⟨109, _⟩ => ⟨S4x128, .f32⟩
  | .hbm, ⟨110, _⟩ => ⟨S4x128, .f32⟩
  | .hbm, ⟨111, _⟩ => ⟨S_, .f32⟩
  | .hbm, ⟨112, _⟩ => ⟨S4x128, .f32⟩
  | .hbm, ⟨113, _⟩ => ⟨S4x128, .f32⟩
  | .hbm, ⟨114, _⟩ => ⟨S4x128, .f32⟩
  | .hbm, ⟨115, _⟩ => ⟨S4x128, .f32⟩
  | .hbm, ⟨116, _⟩ => ⟨S512, .f32⟩
  | .hbm, ⟨117, _⟩ => ⟨S1x512, .f32⟩
  | .hbm, ⟨118, _⟩ => ⟨S_, .i32⟩
  | .hbm, ⟨119, _⟩ => ⟨S16384x512, .f32⟩
  | .hbm, ⟨120, _⟩ => ⟨S_, .i32⟩
  | .hbm, ⟨121, _⟩ => ⟨S_, .i32⟩
  | .hbm, ⟨122, _⟩ => ⟨S16384x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_c : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v16_5 : Ref sig .tc := ⟨.hbm, 30, rfl⟩
abbrev main_while0c_c_9 : Ref sig .tc := ⟨.hbm, 31, rfl⟩
abbrev main_while0c_v18 : Ref sig .tc := ⟨.hbm, 32, rfl⟩
abbrev main_while0b_call0_c : Ref sig .tc := ⟨.hbm, 33, rfl⟩
abbrev main_while0b_call0_v0 : Ref sig .tc := ⟨.hbm, 34, rfl⟩
abbrev main_while0b_v18 : Ref sig .tc := ⟨.hbm, 35, rfl⟩
abbrev main_while0b_v19 : Ref sig .tc := ⟨.hbm, 36, rfl⟩
abbrev main_while0b_v20 : Ref sig .tc := ⟨.hbm, 37, rfl⟩
abbrev main_while0b_v21 : Ref sig .tc := ⟨.hbm, 38, rfl⟩
abbrev main_while0b_v22 : Ref sig .tc := ⟨.hbm, 39, rfl⟩
abbrev main_while0b_v23 : Ref sig .tc := ⟨.hbm, 40, rfl⟩
abbrev main_while0b_v24 : Ref sig .tc := ⟨.hbm, 41, rfl⟩
abbrev main_while0b_v25 : Ref sig .tc := ⟨.hbm, 42, rfl⟩
abbrev main_while0b_v26 : Ref sig .tc := ⟨.hbm, 43, rfl⟩
abbrev main_while0b_v27 : Ref sig .tc := ⟨.hbm, 44, rfl⟩
abbrev main_while0b_cst_9 : Ref sig .tc := ⟨.hbm, 45, rfl⟩
abbrev main_while0b_v28 : Ref sig .tc := ⟨.hbm, 46, rfl⟩
abbrev main_while0b_v29 : Ref sig .tc := ⟨.hbm, 47, rfl⟩
abbrev main_while0b_v30 : Ref sig .tc := ⟨.hbm, 48, rfl⟩
abbrev main_while0b_v31 : Ref sig .tc := ⟨.hbm, 49, rfl⟩
abbrev main_while0b_cst_10 : Ref sig .tc := ⟨.hbm, 50, rfl⟩
abbrev main_while0b_v32 : Ref sig .tc := ⟨.hbm, 51, rfl⟩
abbrev main_while0b_v33 : Ref sig .tc := ⟨.hbm, 52, rfl⟩
abbrev main_while0b_cst_11 : Ref sig .tc := ⟨.hbm, 53, rfl⟩
abbrev main_while0b_v34 : Ref sig .tc := ⟨.hbm, 54, rfl⟩
abbrev main_while0b_v35 : Ref sig .tc := ⟨.hbm, 55, rfl⟩
abbrev main_while0b_v36 : Ref sig .tc := ⟨.hbm, 56, rfl⟩
abbrev main_while0b_v37 : Ref sig .tc := ⟨.hbm, 57, rfl⟩
abbrev main_while0b_cst_12 : Ref sig .tc := ⟨.hbm, 58, rfl⟩
abbrev main_while0b_v38 : Ref sig .tc := ⟨.hbm, 59, rfl⟩
abbrev main_while0b_v39 : Ref sig .tc := ⟨.hbm, 60, rfl⟩
abbrev main_while0b_v40 : Ref sig .tc := ⟨.hbm, 61, rfl⟩
abbrev main_while0b_v41 : Ref sig .tc := ⟨.hbm, 62, rfl⟩
abbrev main_while0b_v42 : Ref sig .tc := ⟨.hbm, 63, rfl⟩
abbrev main_while0b_cst_13 : Ref sig .tc := ⟨.hbm, 64, rfl⟩
abbrev main_while0b_v43 : Ref sig .tc := ⟨.hbm, 65, rfl⟩
abbrev main_while0b_v44 : Ref sig .tc := ⟨.hbm, 66, rfl⟩
abbrev main_while0b_cst_14 : Ref sig .tc := ⟨.hbm, 67, rfl⟩
abbrev main_while0b_v45 : Ref sig .tc := ⟨.hbm, 68, rfl⟩
abbrev main_while0b_v46 : Ref sig .tc := ⟨.hbm, 69, rfl⟩
abbrev main_while0b_v47 : Ref sig .tc := ⟨.hbm, 70, rfl⟩
abbrev main_while0b_v48 : Ref sig .tc := ⟨.hbm, 71, rfl⟩
abbrev main_while0b_v49 : Ref sig .tc := ⟨.hbm, 72, rfl⟩
abbrev main_while0b_v50 : Ref sig .tc := ⟨.hbm, 73, rfl⟩
abbrev main_while0b_v51 : Ref sig .tc := ⟨.hbm, 74, rfl⟩
abbrev main_while0b_v52 : Ref sig .tc := ⟨.hbm, 75, rfl⟩
abbrev main_while0b_v53 : Ref sig .tc := ⟨.hbm, 76, rfl⟩
abbrev main_while0b_v54 : Ref sig .tc := ⟨.hbm, 77, rfl⟩
abbrev main_while0b_v55 : Ref sig .tc := ⟨.hbm, 78, rfl⟩
abbrev main_while0b_v56 : Ref sig .tc := ⟨.hbm, 79, rfl⟩
abbrev main_while0b_call1_v0 : Ref sig .tc := ⟨.hbm, 80, rfl⟩
abbrev main_while0b_call1_v1 : Ref sig .tc := ⟨.hbm, 81, rfl⟩
abbrev main_while0b_call1_cst : Ref sig .tc := ⟨.hbm, 82, rfl⟩
abbrev main_while0b_call1_v2 : Ref sig .tc := ⟨.hbm, 83, rfl⟩
abbrev main_while0b_call1_v3 : Ref sig .tc := ⟨.hbm, 84, rfl⟩
abbrev main_while0b_call1_cst_0 : Ref sig .tc := ⟨.hbm, 85, rfl⟩
abbrev main_while0b_call1_v4 : Ref sig .tc := ⟨.hbm, 86, rfl⟩
abbrev main_while0b_call1_v5 : Ref sig .tc := ⟨.hbm, 87, rfl⟩
abbrev main_while0b_v57 : Ref sig .tc := ⟨.hbm, 88, rfl⟩
abbrev main_while0b_v58 : Ref sig .tc := ⟨.hbm, 89, rfl⟩
abbrev main_while0b_v59 : Ref sig .tc := ⟨.hbm, 90, rfl⟩
abbrev main_while0b_cst_15 : Ref sig .tc := ⟨.hbm, 91, rfl⟩
abbrev main_while0b_v60 : Ref sig .tc := ⟨.hbm, 92, rfl⟩
abbrev main_while0b_v61 : Ref sig .tc := ⟨.hbm, 93, rfl⟩
abbrev main_while0b_cst_16 : Ref sig .tc := ⟨.hbm, 94, rfl⟩
abbrev main_while0b_v62 : Ref sig .tc := ⟨.hbm, 95, rfl⟩
abbrev main_while0b_v63 : Ref sig .tc := ⟨.hbm, 96, rfl⟩
abbrev main_while0b_cst_17 : Ref sig .tc := ⟨.hbm, 97, rfl⟩
abbrev main_while0b_v64 : Ref sig .tc := ⟨.hbm, 98, rfl⟩
abbrev main_while0b_v65 : Ref sig .tc := ⟨.hbm, 99, rfl⟩
abbrev main_while0b_v66 : Ref sig .tc := ⟨.hbm, 100, rfl⟩
abbrev main_while0b_v67 : Ref sig .tc := ⟨.hbm, 101, rfl⟩
abbrev main_while0b_v68 : Ref sig .tc := ⟨.hbm, 102, rfl⟩
abbrev main_while0b_v69 : Ref sig .tc := ⟨.hbm, 103, rfl⟩
abbrev main_while0b_v70 : Ref sig .tc := ⟨.hbm, 104, rfl⟩
abbrev main_while0b_v71 : Ref sig .tc := ⟨.hbm, 105, rfl⟩
abbrev main_while0b_call2_v0 : Ref sig .tc := ⟨.hbm, 106, rfl⟩
abbrev main_while0b_call2_v1 : Ref sig .tc := ⟨.hbm, 107, rfl⟩
abbrev main_while0b_call2_cst : Ref sig .tc := ⟨.hbm, 108, rfl⟩
abbrev main_while0b_call2_v2 : Ref sig .tc := ⟨.hbm, 109, rfl⟩
abbrev main_while0b_call2_v3 : Ref sig .tc := ⟨.hbm, 110, rfl⟩
abbrev main_while0b_call2_cst_0 : Ref sig .tc := ⟨.hbm, 111, rfl⟩
abbrev main_while0b_call2_v4 : Ref sig .tc := ⟨.hbm, 112, rfl⟩
abbrev main_while0b_call2_v5 : Ref sig .tc := ⟨.hbm, 113, rfl⟩
abbrev main_while0b_v72 : Ref sig .tc := ⟨.hbm, 114, rfl⟩
abbrev main_while0b_v73 : Ref sig .tc := ⟨.hbm, 115, rfl⟩
abbrev main_while0b_v74 : Ref sig .tc := ⟨.hbm, 116, rfl⟩
abbrev main_while0b_call3_v0 : Ref sig .tc := ⟨.hbm, 117, rfl⟩
abbrev main_while0b_call3_c : Ref sig .tc := ⟨.hbm, 118, rfl⟩
abbrev main_while0b_v75 : Ref sig .tc := ⟨.hbm, 119, rfl⟩
abbrev main_while0b_c_18 : Ref sig .tc := ⟨.hbm, 120, rfl⟩
abbrev main_while0b_v76 : Ref sig .tc := ⟨.hbm, 121, rfl⟩
abbrev main_v17 : Ref sig .tc := ⟨.hbm, 122, rfl⟩

abbrev nD : Nat := 1
abbrev τ : Topo := Topo.v7x

variable {F : FTy → Type} [FloatOps F]

abbrev main_while0_count : Scf.Loop 32 := ⟨0#32, 16384#32, 1#32⟩
-- ==== Kernel5.lean ====
abbrev S1x256x1024 : Shape := ⟨3, ![1, 256, 1024]⟩
abbrev S1024x512 : Shape := ⟨2, ![1024, 512]⟩
abbrev S1024 : Shape := ⟨1, ![1024]⟩
abbrev S64 : Shape := ⟨1, ![64]⟩
abbrev S256x256 : Shape := ⟨2, ![256, 256]⟩
abbrev S_ : Shape := ⟨0, ![]⟩
abbrev S256x1024 : Shape := ⟨2, ![256, 1024]⟩
abbrev S1x1024 : Shape := ⟨2, ![1, 1024]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x512 : Shape := ⟨2, ![256, 512]⟩

abbrev nBuf : Space → Nat
  | .hbm => 28
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1024x512, .f32⟩
  | .hbm, ⟨2, _⟩ => ⟨S1024, .f32⟩
  | .hbm, ⟨3, _⟩ => ⟨S64, .f32⟩
  | .hbm, ⟨4, _⟩ => ⟨S256x256, .i32⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S_, .i32⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S_, .f32⟩
  | .hbm, ⟨14, _⟩ => ⟨S_, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S256x256, .bf16⟩
  | .hbm, ⟨19, _⟩ => ⟨S256x1024, .f32⟩
  | .hbm, ⟨20, _⟩ => ⟨S1x1024, .f32⟩
  | .hbm, ⟨21, _⟩ => ⟨S1024x512, .bf16⟩
  | .hbm, ⟨22, _⟩ => ⟨S1x64, .f32⟩
  | .hbm, ⟨23, _⟩ => ⟨S4x64, .f32⟩
  | .hbm, ⟨24, _⟩ => ⟨S256, .f32⟩
  | .hbm, ⟨25, _⟩ => ⟨S1x256, .f32⟩
  | .hbm, ⟨26, _⟩ => ⟨S256x256, .bf16⟩
  | .hbm, ⟨27, _⟩ => ⟨S256x256, .bf16⟩
  | .local _ .vmem, ⟨0, _⟩ => ⟨S256x1024, .f32⟩
  | .local _ .vmem, ⟨1, _⟩ => ⟨S1x1024, .f32⟩
  | .local _ .vmem, ⟨2, _⟩ => ⟨S1024x512, .bf16⟩
  | .local _ .vmem, ⟨3, _⟩ => ⟨S1x256, .f32⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference5Ideal.lean ====
abbrev S1x256x1024 : Shape := ⟨3, ![1, 256, 1024]⟩
abbrev S1024x512 : Shape := ⟨2, ![1024, 512]⟩
abbrev S1024 : Shape := ⟨1, ![1024]⟩
abbrev S64 : Shape := ⟨1, ![64]⟩
abbrev S_ : Shape := ⟨0, ![]⟩
abbrev S1x256 : Shape := ⟨2, ![1, 256]⟩
abbrev S1x256x1 : Shape := ⟨3, ![1, 256, 1]⟩
abbrev S1x1x1024 : Shape := ⟨3, ![1, 1, 1024]⟩
abbrev S1x256x512 : Shape := ⟨3, ![1, 256, 512]⟩
abbrev S1x256x256 : Shape := ⟨3, ![1, 256, 256]⟩
abbrev S1x256x4x64 : Shape := ⟨4, ![1, 256, 4, 64]⟩
abbrev S1x256x4 : Shape := ⟨3, ![1, 256, 4]⟩
abbrev S1x256x4x1 : Shape := ⟨4, ![1, 256, 4, 1]⟩
abbrev S1x1x1x64 : Shape := ⟨4, ![1, 1, 1, 64]⟩
abbrev S256x256 : Shape := ⟨2, ![256, 256]⟩

abbrev nBuf : Space → Nat
  | .hbm => 45
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x512, .f32⟩
  | .hbm, ⟨2, _⟩ => ⟨S1024, .f32⟩
  | .hbm, ⟨3, _⟩ => ⟨S64, .f32⟩
  | .hbm, ⟨4, _⟩ => ⟨S1x256x1024, .f32⟩
  | .hbm, ⟨5, _⟩ => ⟨S_, .f32⟩
  | .hbm, ⟨6, _⟩ => ⟨S1x256, .f32⟩
  | .hbm, ⟨7, _⟩ => ⟨S1x256x1, .f32⟩
  | .hbm, ⟨8, _⟩ => ⟨S_, .f32⟩
  | .hbm, ⟨9, _⟩ => ⟨S1x256x1, .f32⟩
  | .hbm, ⟨10, _⟩ => ⟨S1x256x1, .f32⟩
  | .hbm, ⟨11, _⟩ => ⟨S_, .f32⟩
  | .hbm, ⟨12, _⟩ => ⟨S1x256x1, .f32⟩
  | .hbm, ⟨13, _⟩ => ⟨S1x256x1, .f32⟩
  | .hbm, ⟨14, _⟩ => ⟨S1x256x1, .f32⟩
  | .hbm, ⟨15, _⟩ => ⟨S1x256x1024, .f32⟩
  | .hbm, ⟨16, _⟩ => ⟨S1x256x1024, .f32⟩
  | .hbm, ⟨17, _⟩ => ⟨S1x1x1024, .f32⟩
  | .hbm, ⟨18, _⟩ => ⟨S1x256x1024, .f32⟩
  | .hbm, ⟨19, _⟩ => ⟨S1x256x1024, .f32⟩
  | .hbm, ⟨20, _⟩ => ⟨S1x256x512, .f32⟩
  | .hbm, ⟨21, _⟩ => ⟨S1x256x256, .f32⟩
  | .hbm, ⟨22, _⟩ => ⟨S1x256x256, .f32⟩
  | .hbm, ⟨23, _⟩ => ⟨S1x256x4x64, .f32⟩
  | .hbm, ⟨24, _⟩ => ⟨S1x256x4x64, .f32⟩
  | .hbm, ⟨25, _⟩ => ⟨S_, .f32⟩
  | .hbm, ⟨26, _⟩ => ⟨S1x256x4, .f32⟩
  | .hbm, ⟨27, _⟩ => ⟨S1x256x4x1, .f32⟩
  | .hbm, ⟨28, _⟩ => ⟨S_, .f32⟩
  | .hbm, ⟨29, _⟩ => ⟨S1x256x4x1, .f32⟩
  | .hbm, ⟨30, _⟩ => ⟨S1x256x4x1, .f32⟩
  | .hbm, ⟨31, _⟩ => ⟨S_, .f32⟩
  | .hbm, ⟨32, _⟩ => ⟨S1x256x4x1, .f32⟩
  | .hbm, ⟨33, _⟩ => ⟨S1x256x4x1, .f32⟩
  | .hbm, ⟨34, _⟩ => ⟨S1x256x4x1, .f32⟩
  | .hbm, ⟨35, _⟩ => ⟨S1x256x4x64, .f32⟩
  | .hbm, ⟨36, _⟩ => ⟨S1x256x4x64, .f32⟩
  | .hbm, ⟨37, _⟩ => ⟨S1x1x1x64, .f32⟩
  | .hbm, ⟨38, _⟩ => ⟨S1x256x4x64, .f32⟩
  | .hbm, ⟨39, _⟩ => ⟨S1x256x4x64, .f32⟩
  | .hbm, ⟨40, _⟩ => ⟨S256x256, .f32⟩
  | .hbm, ⟨41, _⟩ => ⟨S256x256, .bf16⟩
  | .hbm, ⟨42, _⟩ => ⟨S256x256, .f32⟩
  | .hbm, ⟨43, _⟩ => ⟨S256x256, .f32⟩
  | .hbm, ⟨44, _⟩ => ⟨S256x256, .bf16⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Kernel6.lean ====
abbrev S16384x2048 : Shape := ⟨2, ![16384, 2048]⟩
abbrev S2x512 : Shape := ⟨2, ![2, 512]⟩
abbrev S128 : Shape := ⟨1, ![128]⟩
abbrev S128x128 : Shape := ⟨2, ![128, 128]⟩
abbrev S_ : Shape := ⟨0, ![]⟩
abbrev S640x128 : Shape := ⟨2, ![640, 128]⟩
abbrev S1x128 : Shape := ⟨2, ![1, 128]⟩
abbrev S16384x512 : Shape := ⟨2, ![16384, 512]⟩
abbrev S128x512 : Shape := ⟨2, ![128, 512]⟩
abbrev S4x128x128 : Shape := ⟨3, ![4, 128, 128]⟩
abbrev S1x512 : Shape := ⟨2, ![1, 512]⟩
abbrev S1x128x128 : Shape := ⟨3, ![1, 128, 128]⟩
abbrev S16x8x128 : Shape := ⟨3, ![16, 8, 128]⟩
abbrev S16x1x128 : Shape := ⟨3, ![16, 1, 128]⟩
abbrev S1x1x128 : Shape := ⟨3, ![1, 1, 128]⟩
abbrev S15x1x128 : Shape := ⟨3, ![15, 1, 128]⟩
abbrev S8x16x128 : Shape := ⟨3, ![8, 16, 128]⟩
abbrev S8x1x128 : Shape := ⟨3, ![8, 1, 128]⟩
abbrev S7x1x128 : Shape := ⟨3, ![7, 1, 128]⟩
abbrev S4x32x128 : Shape := ⟨3, ![4, 32, 128]⟩
abbrev S4x1x128 : Shape := ⟨3, ![4, 1, 128]⟩
abbrev S3x1x128 : Shape := ⟨3, ![3, 1, 128]⟩
abbrev S2x64x128 : Shape := ⟨3, ![2, 64, 128]⟩
abbrev S2x1x128 : Shape := ⟨3, ![2, 1, 128]⟩
abbrev S128x1 : Shape := ⟨2, ![128, 1]⟩

abbrev nBuf : Space → Nat
  | .hbm => 176
  | .vmem => 15
  | .smem => 0
  | _ => 0

abbrev hbmTy0_0 (i : Nat) : BufTy := match i % 128 with
  | 0 => ⟨S16384x2048, .f32⟩
  | 1 => ⟨S2x512, .f32⟩
  | 2 => ⟨S128, .f32⟩
  | 3 => ⟨S128x128, .i32⟩
  | 4 => ⟨S128x128, .i32⟩
  | 5 => ⟨S_, .i32⟩
  | 6 => ⟨S128x128, .i32⟩
  | 7 => ⟨S128x128, .i32⟩
  | 8 => ⟨S_, .i32⟩
  | 9 => ⟨S128x128, .i32⟩
  | 10 => ⟨S128x128, .i32⟩
  | 11 => ⟨S128x128, .i1⟩
  | 12 => ⟨S128x128, .i1⟩
  | 13 => ⟨S128x128, .i1⟩
  | 14 => ⟨S_, .f32⟩
  | 15 => ⟨S_, .f32⟩
  | 16 => ⟨S128x128, .f32⟩
  | 17 => ⟨S128x128, .f32⟩
  | 18 => ⟨S128x128, .f32⟩
  | 19 => ⟨S128x128, .i1⟩
  | 20 => ⟨S_, .i32⟩
  | 21 => ⟨S128x128, .i32⟩
  | 22 => ⟨S128x128, .i32⟩
  | 23 => ⟨S_, .i32⟩
  | 24 => ⟨S128x128, .i32⟩
  | 25 => ⟨S128x128, .i32⟩
  | 26 => ⟨S128x128, .i1⟩
  | 27 => ⟨S128x128, .i1⟩
  | 28 => ⟨S_, .f32⟩
  | 29 => ⟨S_, .f32⟩
  | 30 => ⟨S128x128, .f32⟩
  | 31 => ⟨S128x128, .f32⟩
  | 32 => ⟨S128x128, .f32⟩
  | 33 => ⟨S_, .i32⟩
  | 34 => ⟨S128x128, .i32⟩
  | 35 => ⟨S128x128, .i32⟩
  | 36 => ⟨S_, .i32⟩
  | 37 => ⟨S128x128, .i32⟩
  | 38 => ⟨S128x128, .i32⟩
  | 39 => ⟨S128x128, .i1⟩
  | 40 => ⟨S128x128, .i1⟩
  | 41 => ⟨S128x128, .i1⟩
  | 42 => ⟨S_, .f32⟩
  | 43 => ⟨S_, .f32⟩
  | 44 => ⟨S128x128, .f32⟩
  | 45 => ⟨S128x128, .f32⟩
  | 46 => ⟨S128x128, .f32⟩
  | 47 => ⟨S128x128, .i1⟩
  | 48 => ⟨S_, .i32⟩
  | 49 => ⟨S128x128, .i32⟩
  | 50 => ⟨S128x128, .i32⟩
  | 51 => ⟨S_, .i32⟩
  | 52 => ⟨S128x128, .i32⟩
  | 53 => ⟨S128x128, .i32⟩
  | 54 => ⟨S128x128, .i1⟩
  | 55 => ⟨S128x128, .i1⟩
  | 56 => ⟨S_, .f32⟩
  | 57 => ⟨S_, .f32⟩
  | 58 => ⟨S128x128, .f32⟩
  | 59 => ⟨S128x128, .f32⟩
  | 60 => ⟨S128x128, .f32⟩
  | 61 => ⟨S128x128, .i1⟩
  | 62 => ⟨S_, .f32⟩
  | 63 => ⟨S_, .f32⟩
  | 64 => ⟨S128x128, .f32⟩
  | 65 => ⟨S128x128, .f32⟩
  | 66 => ⟨S128x128, .f32⟩
  | 67 => ⟨S_, .i32⟩
  | 68 => ⟨S128x128, .i32⟩
  | 69 => ⟨S_, .i32⟩
  | 70 => ⟨S128x128, .i32⟩
  | 71 => ⟨S128x128, .i32⟩
  | 72 => ⟨S_, .i32⟩
  | 73 => ⟨S128x128, .i32⟩
  | 74 => ⟨S128x128, .i32⟩
  | 75 => ⟨S128x128, .i1⟩
  | 76 => ⟨S_, .i32⟩
  | 77 => ⟨S_, .i32⟩
  | 78 => ⟨S128x128, .i32⟩
  | 79 => ⟨S128x128, .i32⟩
  | 80 => ⟨S128x128, .i32⟩
  | 81 => ⟨S128x128, .i32⟩
  | 82 => ⟨S128x128, .i32⟩
  | 83 => ⟨S_, .i32⟩
  | 84 => ⟨S128x128, .i32⟩
  | 85 => ⟨S128x128, .i32⟩
  | 86 => ⟨S_, .i32⟩
  | 87 => ⟨S128x128, .i32⟩
  | 88 => ⟨S128x128, .i32⟩
  | 89 => ⟨S128x128, .i1⟩
  | 90 => ⟨S_, .i32⟩
  | 91 => ⟨S_, .i32⟩
  | 92 => ⟨S128x128, .i32⟩
  | 93 => ⟨S128x128, .i32⟩
  | 94 => ⟨S128x128, .i32⟩
  | 95 => ⟨S128x128, .i32⟩
  | 96 => ⟨S128x128, .i32⟩
  | 97 => ⟨S_, .i32⟩
  | 98 => ⟨S128x128, .i32⟩
  | 99 => ⟨S128x128, .i32⟩
  | 100 => ⟨S_, .i32⟩
  | 101 => ⟨S128x128, .i32⟩
  | 102 => ⟨S128x128, .i32⟩
  | 103 => ⟨S128x128, .i1⟩
  | 104 => ⟨S_, .i32⟩
  | 105 => ⟨S_, .i32⟩
  | 106 => ⟨S128x128, .i32⟩
  | 107 => ⟨S128x128, .i32⟩
  | 108 => ⟨S128x128, .i32⟩
  | 109 => ⟨S128x128, .i32⟩
  | 110 => ⟨S128x128, .i32⟩
  | 111 => ⟨S_, .i32⟩
  | 112 => ⟨S128x128, .i32⟩
  | 113 => ⟨S128x128, .i32⟩
  | 114 => ⟨S_, .i32⟩
  | 115 => ⟨S128x128, .i32⟩
  | 116 => ⟨S128x128, .i32⟩
  | 117 => ⟨S128x128, .i1⟩
  | 118 => ⟨S_, .i32⟩
  | 119 => ⟨S_, .i32⟩
  | 120 => ⟨S128x128, .i32⟩
  | 121 => ⟨S128x128, .i32⟩
  | 122 => ⟨S128x128, .i32⟩
  | 123 => ⟨S128x128, .i32⟩
  | 124 => ⟨S128x128, .i32⟩
  | 125 => ⟨S_, .i32⟩
  | 126 => ⟨S128x128, .i32⟩
  | 127 => ⟨S128x128, .i32⟩
  | _ => ⟨S16384x2048, .f32⟩

abbrev hbmTy0_1 (i : Nat) : BufTy := match i % 128 with
  | 0 => ⟨S_, .i32⟩
  | 1 => ⟨S128x128, .i32⟩
  | 2 => ⟨S128x128, .i32⟩
  | 3 => ⟨S128x128, .i1⟩
  | 4 => ⟨S_, .i32⟩
  | 5 => ⟨S_, .i32⟩
  | 6 => ⟨S128x128, .i32⟩
  | 7 => ⟨S128x128, .i32⟩
  | 8 => ⟨S128x128, .i32⟩
  | 9 => ⟨S128x128, .i32⟩
  | 10 => ⟨S128x128, .i32⟩
  | 11 => ⟨S_, .i32⟩
  | 12 => ⟨S128x128, .i32⟩
  | 13 => ⟨S128x128, .i32⟩
  | 14 => ⟨S_, .i32⟩
  | 15 => ⟨S128x128, .i32⟩
  | 16 => ⟨S128x128, .i32⟩
  | 17 => ⟨S128x128, .i1⟩
  | 18 => ⟨S_, .i32⟩
  | 19 => ⟨S_, .i32⟩
  | 20 => ⟨S128x128, .i32⟩
  | 21 => ⟨S128x128, .i32⟩
  | 22 => ⟨S128x128, .i32⟩
  | 23 => ⟨S128x128, .i32⟩
  | 24 => ⟨S128x128, .i32⟩
  | 25 => ⟨S_, .i32⟩
  | 26 => ⟨S128x128, .i32⟩
  | 27 => ⟨S128x128, .i32⟩
  | 28 => ⟨S_, .i32⟩
  | 29 => ⟨S128x128, .i32⟩
  | 30 => ⟨S128x128, .i32⟩
  | 31 => ⟨S128x128, .i1⟩
  | 32 => ⟨S_, .i32⟩
  | 33 => ⟨S_, .i32⟩
  | 34 => ⟨S128x128, .i32⟩
  | 35 => ⟨S128x128, .i32⟩
  | 36 => ⟨S128x128, .i32⟩
  | 37 => ⟨S128x128, .i32⟩
  | 38 => ⟨S128x128, .i32⟩
  | 39 => ⟨S640x128, .f32⟩
  | 40 => ⟨S128x128, .i1⟩
  | 41 => ⟨S_, .i32⟩
  | 42 => ⟨S_, .i32⟩
  | 43 => ⟨S128x128, .i32⟩
  | 44 => ⟨S128x128, .i32⟩
  | 45 => ⟨S1x128, .f32⟩
  | 46 => ⟨S640x128, .bf16⟩
  | 47 => ⟨S16384x512, .bf16⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S2x512, .f32⟩
  | .local _ .vmem, ⟨9, _⟩ => ⟨S1x128, .f32⟩
  | .local _ .vmem, ⟨10, _⟩ => ⟨S640x128, .bf16⟩
  | .local _ .vmem, ⟨11, _⟩ => ⟨S128x128, .i32⟩
  | .local _ .vmem, ⟨12, _⟩ => ⟨S128x512, .bf16⟩
  | .local _ .vmem, ⟨13, _⟩ => ⟨S128x512, .bf16⟩
  | .local _ .vmem, ⟨14, _⟩ => ⟨S4x128x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v17 : Ref sig .tc := ⟨.hbm, 32, rfl⟩
abbrev main_c_6 : Ref sig .tc := ⟨.hbm, 33, rfl⟩
abbrev main_v18 : Ref sig .tc := ⟨.hbm, 34, rfl⟩
abbrev main_v19 : Ref sig .tc := ⟨.hbm, 35, rfl⟩
abbrev main_c_7 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_8 : Ref sig .tc := ⟨.hbm, 42, rfl⟩
abbrev main_cst_9 : Ref sig .tc := ⟨.hbm, 43, rfl⟩
abbrev main_call2_v0 : Ref sig .tc := ⟨.hbm, 44, rfl⟩
abbrev main_call2_v1 : Ref sig .tc := ⟨.hbm, 45, rfl⟩
abbrev main_v25 : Ref sig .tc := ⟨.hbm, 46, rfl⟩
abbrev main_v26 : Ref sig .tc := ⟨.hbm, 47, rfl⟩
abbrev main_c_10 : Ref sig .tc := ⟨.hbm, 48, rfl⟩
abbrev main_v27 : Ref sig .tc := ⟨.hbm, 49, rfl⟩
abbrev main_v28 : Ref sig .tc := ⟨.hbm, 50, rfl⟩
abbrev main_c_11 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_12 : Ref sig .tc := ⟨.hbm, 56, rfl⟩
abbrev main_cst_13 : Ref sig .tc := ⟨.hbm, 57, rfl⟩
abbrev main_call3_v0 : Ref sig .tc := ⟨.hbm, 58, rfl⟩
abbrev main_call3_v1 : Ref sig .tc := ⟨.hbm, 59, rfl⟩
abbrev main_v33 : Ref sig .tc := ⟨.hbm, 60, rfl⟩
abbrev main_v34 : Ref sig .tc := ⟨.hbm, 61, rfl⟩
abbrev main_cst_14 : Ref sig .tc := ⟨.hbm, 62, rfl⟩
abbrev main_cst_15 : Ref sig .tc := ⟨.hbm, 63, rfl⟩
abbrev main_call4_v0 : Ref sig .tc := ⟨.hbm, 64, rfl⟩
abbrev main_call4_v1 : Ref sig .tc := ⟨.hbm, 65, rfl⟩
abbrev main_v35 : Ref sig .tc := ⟨.hbm, 66, rfl⟩
abbrev main_c_16 : Ref sig .tc := ⟨.hbm, 67, rfl⟩
abbrev main_v36 : Ref sig .tc := ⟨.hbm, 68, rfl⟩
abbrev main_c_17 : Ref sig .tc := ⟨.hbm, 69, rfl⟩
abbrev main_v37 : Ref sig .tc := ⟨.hbm, 70, rfl⟩
abbrev main_v38 : Ref sig .tc := ⟨.hbm, 71, rfl⟩
abbrev main_c_18 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_c_19 : Ref sig .tc := ⟨.hbm, 76, rfl⟩
abbrev main_c_20 : Ref sig .tc := ⟨.hbm, 77, rfl⟩
abbrev main_call5_v0 : Ref sig .tc := ⟨.hbm, 78, rfl⟩
abbrev main_call5_v1 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_c_21 : Ref sig .tc := ⟨.hbm, 83, rfl⟩
abbrev main_v45 : Ref sig .tc := ⟨.hbm, 84, rfl⟩
abbrev main_v46 : Ref sig .tc := ⟨.hbm, 85, rfl⟩
abbrev main_c_22 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_c_23 : Ref sig .tc := ⟨.hbm, 90, rfl⟩
abbrev main_c_24 : Ref sig .tc := ⟨.hbm, 91, rfl⟩
abbrev main_call6_v0 : Ref sig .tc := ⟨.hbm, 92, rfl⟩
abbrev main_call6_v1 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_c_25 : Ref sig .tc := ⟨.hbm, 97, rfl⟩
abbrev main_v53 : Ref sig .tc := ⟨.hbm, 98, rfl⟩
abbrev main_v54 : Ref sig .tc := ⟨.hbm, 99, rfl⟩
abbrev main_c_26 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_c_27 : Ref sig .tc := ⟨.hbm, 104, rfl⟩
abbrev main_c_28 : Ref sig .tc := ⟨.hbm, 105, rfl⟩
abbrev main_call7_v0 : Ref sig .tc := ⟨.hbm, 106, rfl⟩
abbrev main_call7_v1 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_c_29 : Ref sig .tc := ⟨.hbm, 111, rfl⟩
abbrev main_v61 : Ref sig .tc := ⟨.hbm, 112, rfl⟩
abbrev main_v62 : Ref sig .tc := ⟨.hbm, 113, rfl⟩
abbrev main_c_30 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_c_31 : Ref sig .tc := ⟨.hbm, 118, rfl⟩
abbrev main_c_32 : Ref sig .tc := ⟨.hbm, 119, rfl⟩
abbrev main_call8_v0 : Ref sig .tc := ⟨.hbm, 120, rfl⟩
abbrev main_call8_v1 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_c_33 : Ref sig .tc := ⟨.hbm, 125, rfl⟩
abbrev main_v69 : Ref sig .tc := ⟨.hbm, 126, rfl⟩
abbrev main_v70 : Ref sig .tc := ⟨.hbm, 127, rfl⟩
abbrev main_c_34 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_c_35 : Ref sig .tc := ⟨.hbm, 132, rfl⟩
abbrev main_c_36 : Ref sig .tc := ⟨.hbm, 133, rfl⟩
abbrev main_call9_v0 : Ref sig .tc := ⟨.hbm, 134, rfl⟩
abbrev main_call9_v1 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_c_37 : Ref sig .tc := ⟨.hbm, 139, rfl⟩
abbrev main_v77 : Ref sig .tc := ⟨.hbm, 140, rfl⟩
abbrev main_v78 : Ref sig .tc := ⟨.hbm, 141, rfl⟩
abbrev main_c_38 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_c_39 : Ref sig .tc := ⟨.hbm, 146, rfl⟩
abbrev main_c_40 : Ref sig .tc := ⟨.hbm, 147, rfl⟩
abbrev main_call10_v0 : Ref sig .tc := ⟨.hbm, 148, rfl⟩
abbrev main_call10_v1 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_c_41 : Ref sig .tc := ⟨.hbm, 153, rfl⟩
abbrev main_v85 : Ref sig .tc := ⟨.hbm, 154, rfl⟩
abbrev main_v86 : Ref sig .tc := ⟨.hbm, 155, rfl⟩
abbrev main_c_42 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_c_43 : Ref sig .tc := ⟨.hbm, 160, rfl⟩
abbrev main_c_44 : Ref sig .tc := ⟨.hbm, 161, rfl⟩
abbrev main_call11_v0 : Ref sig .tc := ⟨.hbm, 162, rfl⟩
abbrev main_call11_v1 : Ref sig .tc := ⟨.hbm, 163, rfl⟩
abbrev main_v90 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_c_45 : Ref sig .tc := ⟨.hbm, 169, rfl⟩
abbrev main_call12_v0 : Ref sig .tc := ⟨.hbm, 170, rfl⟩
abbrev main_call12_v1 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S16384x2048 : Shape := ⟨2, ![16384, 2048]⟩
abbrev S2x512 : Shape := ⟨2, ![2, 512]⟩
abbrev S128 : Shape := ⟨1, ![128]⟩
abbrev S_ : Shape := ⟨0, ![]⟩
abbrev S4x128 : Shape := ⟨2, ![4, 128]⟩
abbrev S4x128x128 : Shape := ⟨3, ![4, 128, 128]⟩
abbrev S16384x512 : Shape := ⟨2, ![16384, 512]⟩
abbrev S1x2048 : Shape := ⟨2, ![1, 2048]⟩
abbrev S2048 : Shape := ⟨1, ![2048]⟩
abbrev S4x4x128 : Shape := ⟨3, ![4, 4, 128]⟩
abbrev S1x4x128 : Shape := ⟨3, ![1, 4, 128]⟩
abbrev S4x128x1 : Shape := ⟨3, ![4, 128, 1]⟩
abbrev S4x1x128 : Shape := ⟨3, ![4, 1, 128]⟩
abbrev S4 : Shape := ⟨1, ![4]⟩
abbrev S4x1 : Shape := ⟨2, ![4, 1]⟩
abbrev S1x128 : Shape := ⟨2, ![1, 128]⟩
abbrev S512 : Shape := ⟨1, ![512]⟩
abbrev S1x512 : Shape := ⟨2, ![1, 512]⟩

abbrev nBuf : Space → Nat
  | .hbm => 108
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x512, .f32⟩
  | .hbm, ⟨2, _⟩ => ⟨S128, .f32⟩
  | .hbm, ⟨3, _⟩ => ⟨S_, .f32⟩
  | .hbm, ⟨4, _⟩ => ⟨S4x128, .f32⟩
  | .hbm, ⟨5, _⟩ => ⟨S_, .f32⟩
  | .hbm, ⟨6, _⟩ => ⟨S4x128x128, .f32⟩
  | .hbm, ⟨7, _⟩ => ⟨S_, .f32⟩
  | .hbm, ⟨8, _⟩ => ⟨S16384x512, .f32⟩
  | .hbm, ⟨9, _⟩ => ⟨S_, .i32⟩
  | .hbm, ⟨10, _⟩ => ⟨S16384x2048, .f32⟩
  | .hbm, ⟨11, _⟩ => ⟨S4x128, .f32⟩
  | .hbm, ⟨12, _⟩ => ⟨S128, .f32⟩
  | .hbm, ⟨13, _⟩ => ⟨S_, .i32⟩
  | .hbm, ⟨14, _⟩ => ⟨S4x128x128, .f32⟩
  | .hbm, ⟨15, _⟩ => ⟨S16384x512, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S1x2048, .f32⟩
  | .hbm, ⟨20, _⟩ => ⟨S2048, .f32⟩
  | .hbm, ⟨21, _⟩ => ⟨S4x4x128, .f32⟩
  | .hbm, ⟨22, _⟩ => ⟨S1x4x128, .f32⟩
  | .hbm, ⟨23, _⟩ => ⟨S4x128, .f32⟩
  | .hbm, ⟨24, _⟩ => ⟨S1x4x128, .f32⟩
  | .hbm, ⟨25, _⟩ => ⟨S4x128, .f32⟩
  | .hbm, ⟨26, _⟩ => ⟨S1x4x128, .f32⟩
  | .hbm, ⟨27, _⟩ => ⟨S4x128, .f32⟩
  | .hbm, ⟨28, _⟩ => ⟨S1x4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S4x128, .f32⟩
  | .hbm, ⟨35, _⟩ => ⟨S_, .f32⟩
  | .hbm, ⟨36, _⟩ => ⟨S4x128, .f32⟩
  | .hbm, ⟨37, _⟩ => ⟨S4x128, .f32⟩
  | .hbm, ⟨38, _⟩ => ⟨S_, .f32⟩
  | .hbm, ⟨39, _⟩ => ⟨S4x128, .f32⟩
  | .hbm, ⟨40, _⟩ => ⟨S4x128, .f32⟩
  | .hbm, ⟨41, _⟩ => ⟨S4x128, .f32⟩
  | .hbm, ⟨42, _⟩ => ⟨S4x128, .f32⟩
  | .hbm, ⟨43, _⟩ => ⟨S_, .f32⟩
  | .hbm, ⟨44, _⟩ => ⟨S4x128, .f32⟩
  | .hbm, ⟨45, _⟩ => ⟨S4x128, .f32⟩
  | .hbm, ⟨46, _⟩ => ⟨S4x128, .f32⟩
  | .hbm, ⟨47, _⟩ => ⟨S4x128, .f32⟩
  | .hbm, ⟨48, _⟩ => ⟨S4x128, .f32⟩
  | .hbm, ⟨49, _⟩ => ⟨S_, .f32⟩
  | .hbm, ⟨50, _⟩ => ⟨S4x128, .f32⟩
  | .hbm, ⟨51, _⟩ => ⟨S4x128, .f32⟩
  | .hbm, ⟨52, _⟩ => ⟨S_, .f32⟩
  | .hbm, ⟨53, _⟩ => ⟨S4x128, .f32⟩
  | .hbm, ⟨54, _⟩ => ⟨S4x128, .f32⟩
  | .hbm, ⟨55, _⟩ => ⟨S4x128, .f32⟩
  | .hbm, ⟨56, _⟩ => ⟨S4x128x1, .f32⟩
  | .hbm, ⟨57, _⟩ => ⟨S4x128x128, .f32⟩
  | .hbm, ⟨58, _⟩ => ⟨S4x128x128, .f32⟩
  | .hbm, ⟨59, _⟩ => ⟨S4x128x1, .f32⟩
  | .hbm, ⟨60, _⟩ => ⟨S4x1x128, .f32⟩
  | .hbm, ⟨61, _⟩ => ⟨S4x128x128, .f32⟩
  | .hbm, ⟨62, _⟩ => ⟨S4x128x128, .f32⟩
  | .hbm, ⟨63, _⟩ => ⟨S4x128x128, .f32⟩
  | .hbm, ⟨64, _⟩ => ⟨S4x128x128, .f32⟩
  | .hbm, ⟨65, _⟩ => ⟨S4x128, .f32⟩
  | .hbm, ⟨66, _⟩ => ⟨S4x128, .f32⟩
  | .hbm, ⟨67, _⟩ => ⟨S_, .f32⟩
  | .hbm, ⟨68, _⟩ => ⟨S4x128, .f32⟩
  | .hbm, ⟨69, _⟩ => ⟨S4x128, .f32⟩
  | .hbm, ⟨70, _⟩ => ⟨S_, .f32⟩
  | .hbm, ⟨71, _⟩ => ⟨S4x128, .f32⟩
  | .hbm, ⟨72, _⟩ => ⟨S4x128, .f32⟩
  | .hbm, ⟨73, _⟩ => ⟨S4x128, .f32⟩
  | .hbm, ⟨74, _⟩ => ⟨S4x128, .f32⟩
  | .hbm, ⟨75, _⟩ => ⟨S4x128, .f32⟩
  | .hbm, ⟨76, _⟩ => ⟨S_, .f32⟩
  | .hbm, ⟨77, _⟩ => ⟨S4, .f32⟩
  | .hbm, ⟨78, _⟩ => ⟨S4x1, .f32⟩
  | .hbm, ⟨79, _⟩ => ⟨S_, .f32⟩
  | .hbm, ⟨80, _⟩ => ⟨S4x1, .f32⟩
  | .hbm, ⟨81, _⟩ => ⟨S4x1, .f32⟩
  | .hbm, ⟨82, _⟩ => ⟨S_, .f32⟩
  | .hbm, ⟨83, _⟩ => ⟨S4x1, .f32⟩
  | .hbm, ⟨84, _⟩ => ⟨S4x1, .f32⟩
  | .hbm, ⟨85, _⟩ => ⟨S4x1, .f32⟩
  | .hbm, ⟨86, _⟩ => ⟨S4x128, .f32⟩
  | .hbm, ⟨87, _⟩ => ⟨S4x128, .f32⟩
  | .hbm, ⟨88, _⟩ => ⟨S1x128, .f32⟩
  | .hbm, ⟨89, _⟩ => ⟨S4x128, .f32⟩
  | .hbm, ⟨90, _⟩ => ⟨S4x128, .f32⟩
  | .hbm, ⟨91, _⟩ => ⟨S4x128, .f32⟩
  | .hbm, ⟨92, _⟩ => ⟨S4x128, .f32⟩
  | .hbm, ⟨93, _⟩ => ⟨S_, .f32⟩
  | .hbm, ⟨94, _⟩ => ⟨S4x128, .f32⟩
  | .hbm, ⟨95, _⟩ => ⟨S4x128, .f32⟩
  | .hbm, ⟨96, _⟩ => ⟨S_, .f32⟩
  | .hbm, ⟨97, _⟩ => ⟨S4x128, .f32⟩
  | .hbm, ⟨98, _⟩ => ⟨S4x128, .f32⟩
  | .hbm, ⟨99, _⟩ => ⟨S4x128, .f32⟩
  | .hbm, ⟨100, _⟩ => ⟨S4x128, .f32⟩
  | .hbm, ⟨101, _⟩ => ⟨S512, .f32⟩
  | .hbm, ⟨102, _⟩ => ⟨S1x512, .f32⟩
  | .hbm, ⟨103, _⟩ => ⟨S_, .i32⟩
  | .hbm, ⟨104, _⟩ => ⟨S16384x512, .f32⟩
  | .hbm, ⟨105, _⟩ => ⟨S_, .i32⟩
  | .hbm, ⟨106, _⟩ => ⟨S_, .i32⟩
  | .hbm, ⟨107, _⟩ => ⟨S16384x512, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_c : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_while0c_c_7 : Ref sig .tc := ⟨.hbm, 16, rfl⟩
abbrev main_while0c_v5 : Ref sig .tc := ⟨.hbm, 17, rfl⟩
abbrev main_while0b_call0_c : Ref sig .tc := ⟨.hbm, 18, rfl⟩
abbrev main_while0b_call0_v0 : Ref sig .tc := ⟨.hbm, 19, rfl⟩
abbrev main_while0b_v5 : Ref sig .tc := ⟨.hbm, 20, rfl⟩
abbrev main_while0b_v6 : Ref sig .tc := ⟨.hbm, 21, rfl⟩
abbrev main_while0b_v7 : Ref sig .tc := ⟨.hbm, 22, rfl⟩
abbrev main_while0b_v8 : Ref sig .tc := ⟨.hbm, 23, rfl⟩
abbrev main_while0b_v9 : Ref sig .tc := ⟨.hbm, 24, rfl⟩
abbrev main_while0b_v10 : Ref sig .tc := ⟨.hbm, 25, rfl⟩
abbrev main_while0b_v11 : Ref sig .tc := ⟨.hbm, 26, rfl⟩
abbrev main_while0b_v12 : Ref sig .tc := ⟨.hbm, 27, rfl⟩
abbrev main_while0b_v13 : Ref sig .tc := ⟨.hbm, 28, rfl⟩
abbrev main_while0b_v14 : Ref sig .tc := ⟨.hbm, 29, rfl⟩
abbrev main_while0b_cst_7 : Ref sig .tc := ⟨.hbm, 30, rfl⟩
abbrev main_while0b_v15 : Ref sig .tc := ⟨.hbm, 31, rfl⟩
abbrev main_while0b_v16 : Ref sig .tc := ⟨.hbm, 32, rfl⟩
abbrev main_while0b_v17 : Ref sig .tc := ⟨.hbm, 33, rfl⟩
abbrev main_while0b_v18 : Ref sig .tc := ⟨.hbm, 34, rfl⟩
abbrev main_while0b_cst_8 : Ref sig .tc := ⟨.hbm, 35, rfl⟩
abbrev main_while0b_v19 : Ref sig .tc := ⟨.hbm, 36, rfl⟩
abbrev main_while0b_v20 : Ref sig .tc := ⟨.hbm, 37, rfl⟩
abbrev main_while0b_cst_9 : Ref sig .tc := ⟨.hbm, 38, rfl⟩
abbrev main_while0b_v21 : Ref sig .tc := ⟨.hbm, 39, rfl⟩
abbrev main_while0b_v22 : Ref sig .tc := ⟨.hbm, 40, rfl⟩
abbrev main_while0b_v23 : Ref sig .tc := ⟨.hbm, 41, rfl⟩
abbrev main_while0b_v24 : Ref sig .tc := ⟨.hbm, 42, rfl⟩
abbrev main_while0b_cst_10 : Ref sig .tc := ⟨.hbm, 43, rfl⟩
abbrev main_while0b_v25 : Ref sig .tc := ⟨.hbm, 44, rfl⟩
abbrev main_while0b_v26 : Ref sig .tc := ⟨.hbm, 45, rfl⟩
abbrev main_while0b_v27 : Ref sig .tc := ⟨.hbm, 46, rfl⟩
abbrev main_while0b_v28 : Ref sig .tc := ⟨.hbm, 47, rfl⟩
abbrev main_while0b_v29 : Ref sig .tc := ⟨.hbm, 48, rfl⟩
abbrev main_while0b_cst_11 : Ref sig .tc := ⟨.hbm, 49, rfl⟩
abbrev main_while0b_v30 : Ref sig .tc := ⟨.hbm, 50, rfl⟩
abbrev main_while0b_v31 : Ref sig .tc := ⟨.hbm, 51, rfl⟩
abbrev main_while0b_cst_12 : Ref sig .tc := ⟨.hbm, 52, rfl⟩
abbrev main_while0b_v32 : Ref sig .tc := ⟨.hbm, 53, rfl⟩
abbrev main_while0b_v33 : Ref sig .tc := ⟨.hbm, 54, rfl⟩
abbrev main_while0b_v34 : Ref sig .tc := ⟨.hbm, 55, rfl⟩
abbrev main_while0b_v35 : Ref sig .tc := ⟨.hbm, 56, rfl⟩
abbrev main_while0b_v36 : Ref sig .tc := ⟨.hbm, 57, rfl⟩
abbrev main_while0b_v37 : Ref sig .tc := ⟨.hbm, 58, rfl⟩
abbrev main_while0b_v38 : Ref sig .tc := ⟨.hbm, 59, rfl⟩
abbrev main_while0b_v39 : Ref sig .tc := ⟨.hbm, 60, rfl⟩
abbrev main_while0b_v40 : Ref sig .tc := ⟨.hbm, 61, rfl⟩
abbrev main_while0b_v41 : Ref sig .tc := ⟨.hbm, 62, rfl⟩
abbrev main_while0b_v42 : Ref sig .tc := ⟨.hbm, 63, rfl⟩
abbrev main_while0b_v43 : Ref sig .tc := ⟨.hbm, 64, rfl⟩
abbrev main_while0b_call1_v0 : Ref sig .tc := ⟨.hbm, 65, rfl⟩
abbrev main_while0b_call1_v1 : Ref sig .tc := ⟨.hbm, 66, rfl⟩
abbrev main_while0b_call1_cst : Ref sig .tc := ⟨.hbm, 67, rfl⟩
abbrev main_while0b_call1_v2 : Ref sig .tc := ⟨.hbm, 68, rfl⟩
abbrev main_while0b_call1_v3 : Ref sig .tc := ⟨.hbm, 69, rfl⟩
abbrev main_while0b_call1_cst_0 : Ref sig .tc := ⟨.hbm, 70, rfl⟩
abbrev main_while0b_call1_v4 : Ref sig .tc := ⟨.hbm, 71, rfl⟩
abbrev main_while0b_call1_v5 : Ref sig .tc := ⟨.hbm, 72, rfl⟩
abbrev main_while0b_v44 : Ref sig .tc := ⟨.hbm, 73, rfl⟩
abbrev main_while0b_v45 : Ref sig .tc := ⟨.hbm, 74, rfl⟩
abbrev main_while0b_v46 : Ref sig .tc := ⟨.hbm, 75, rfl⟩
abbrev main_while0b_cst_13 : Ref sig .tc := ⟨.hbm, 76, rfl⟩
abbrev main_while0b_v47 : Ref sig .tc := ⟨.hbm, 77, rfl⟩
abbrev main_while0b_v48 : Ref sig .tc := ⟨.hbm, 78, rfl⟩
abbrev main_while0b_cst_14 : Ref sig .tc := ⟨.hbm, 79, rfl⟩
abbrev main_while0b_v49 : Ref sig .tc := ⟨.hbm, 80, rfl⟩
abbrev main_while0b_v50 : Ref sig .tc := ⟨.hbm, 81, rfl⟩
abbrev main_while0b_cst_15 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_v54 : Ref sig .tc := ⟨.hbm, 86, rfl⟩
abbrev main_while0b_v55 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_call2_v0 : Ref sig .tc := ⟨.hbm, 91, rfl⟩
abbrev main_while0b_call2_v1 : Ref sig .tc := ⟨.hbm, 92, rfl⟩
abbrev main_while0b_call2_cst : Ref sig .tc := ⟨.hbm, 93, rfl⟩
abbrev main_while0b_call2_v2 : Ref sig .tc := ⟨.hbm, 94, rfl⟩
abbrev main_while0b_call2_v3 : Ref sig .tc := ⟨.hbm, 95, rfl⟩
abbrev main_while0b_call2_cst_0 : Ref sig .tc := ⟨.hbm, 96, rfl⟩
abbrev main_while0b_call2_v4 : Ref sig .tc := ⟨.hbm, 97, rfl⟩
abbrev main_while0b_call2_v5 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_call3_v0 : Ref sig .tc := ⟨.hbm, 102, rfl⟩
abbrev main_while0b_call3_c : Ref sig .tc := ⟨.hbm, 103, rfl⟩
abbrev main_while0b_v62 : Ref sig .tc := ⟨.hbm, 104, rfl⟩
abbrev main_while0b_c_16 : Ref sig .tc := ⟨.hbm, 105, rfl⟩
abbrev main_while0b_v63 : Ref sig .tc := ⟨.hbm, 106, rfl⟩
abbrev main_v4 : Ref sig .tc := ⟨.hbm, 107, rfl⟩

abbrev nD : Nat := 1
abbrev τ : Topo := Topo.v7x

variable {F : FTy → Type} [FloatOps F]

abbrev main_while0_count : Scf.Loop 32 := ⟨0#32, 16384#32, 1#32⟩
-- ==== Proof.Held.lean ====
/- A body that only loads from, and stores into, buffers it holds.

   `Runs P p` says of a program `p` that from the assertion `P` it runs to its end, nothing faulting, and gives
   `P` back. When `P` is a conjunction of buffers each held whole at SOME contents (`held`), every load and every
   store keeps it, whatever is read or written, so `Runs` follows a program's text: it holds of a load and of a
   store (`Runs.load`, `Runs.store`), of a sequence if of its two parts (`Runs.bind`), of a counted loop if of
   each trip (`Runs.loop`), of a branch if of both its arms (`Runs.branch`). -/
module

public import proofs.«01_k».proof.Proof.Gen.Kernel.Frame

@[expose] public section

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

/-- An assertion about this program's machine. -/
abbrev As (F : FTy → Type) [BitOps F] := sProp (MT nD τ sig Unit (Elt F) ℕ (UR sig nD τ) ℕ)
/-- A body of this kernel. -/
abbrev Pg (F : FTy → Type) [BitOps F] (α : Type) := Prog (TpuEff nD τ sig (Elt F) Λ₀ .tc) α

/-- Core `c` holds the memref's elements whole, at some contents. -/
def held (c : Dev nD) {sp : Space} {s : Shape} {e : EltTy} (a : Memref sig .tc sp s e) : As F :=
  iprop(∃ f, a.view.loc (c : Thread nD τ) ↦[a.view.set]{fullShare} f)

/-- `P` holds the memref's buffer: it can be taken out and put back. -/
class Holds (c : Dev nD) (P : As F) {sp : Space} {s : Shape} {e : EltTy} (a : Memref sig .tc sp s e) : Prop where
  out : P ⊢ iprop(held c a ∗ (held c a -∗ P))

instance Holds.here (c : Dev nD) (R : As F) {sp : Space} {s : Shape} {e : EltTy} (a : Memref sig .tc sp s e) :
    Holds c iprop(held c a ∗ R) a where
  out := by
    iintro ⟨H, HR⟩
    isplitl [H]; · iexact H
    iintro H; isplitl [H] <;> iassumption

instance Holds.there (c : Dev nD) (T R : As F) {sp : Space} {s : Shape} {e : EltTy} (a : Memref sig .tc sp s e) [h : Holds c R a] :
    Holds c iprop(T ∗ R) a where
  out := by
    iintro ⟨HT, HR⟩
    ihave HR := h.out $$ HR
    icases HR with ⟨H, HR⟩
    isplitl [H]; · iexact H
    iintro H
    isplitl [HT]; · iexact HT
    iapply HR; iexact H

/-- From `P` the program runs on core `c`, nothing faulting, and gives `P` back. -/
structure Runs (c : Dev nD) (P : As F) {α : Type} (p : Pg F α) : Prop where
  ok : P ⊢ wp frame (wpE (defs₀ (F := F)) Variants.none (c : Thread nD τ) none) Set.univ p (fun _ => P)

namespace Runs

variable {c : Dev nD} {P : As F}

theorem ret {α : Type} (a : α) : Runs c P (pure a : Pg F α) := ⟨by
  rw [wp_pure]; iintro H; imodintro; iexact H⟩

theorem bind {α β : Type} {p : Pg F α} {k : α → Pg F β} (h : Runs c P p) (hk : ∀ a, Runs c P (k a)) : Runs c P (p >>= k) := ⟨by
  rw [wp_bind]; exact h.ok.trans (wp_mono _ _ _ fun a => (hk a).ok)⟩

theorem load {s : Shape} {e : EltTy} {a : Memref sig .tc .vmem s e} {r : LoadRect s} {hl : a.view.LoadsAt r} [h : Holds c P a] :
    Runs c P (Prog.lift (.load a r hl) : Pg F _) := ⟨by
  refine h.out.trans ?_
  unfold held
  iintro ⟨⟨%f, H⟩, HP⟩
  iapply (wp_load (defs := defs₀ (F := F)) Variants.none (c : Thread nD τ) none Set.univ (hl := hl) (k := Prog.ret)
    (Q := fun _ => P) (a.view.setOn_subset_set r.set)) $$ H
  iintro H
  rw [wp_ret]; imodintro
  iapply HP; iexists f; iexact H⟩

theorem store {s : Shape} {e : EltTy} {a : Memref sig .tc .vmem s e} {r : Rect s} {w : r.shape.Idx → Elt F e} {Mk : Finset r.shape.Idx}
    {hx : (a.access r).Stores Mk} {hm : Mk = Finset.univ ∨ ∀ b, r.stride b = 1} [h : Holds c P a] :
    Runs c P (Prog.lift (.store a r w Mk hx hm) : Pg F _) := ⟨by
  refine h.out.trans ?_
  unfold held
  iintro ⟨⟨%f, H⟩, HP⟩
  iapply (wp_store (defs := defs₀ (F := F)) Variants.none (c : Thread nD τ) none Set.univ (hx := hx) (hm := hm) (w := w) (k := Prog.ret)
    (Q := fun _ => P) (((a.access r).setOn_subset_set Mk).trans (a.view.set_slice_subset r))) $$ H
  iintro H
  rw [wp_ret]; imodintro
  iapply HP; iexists _; iexact H⟩

theorem loop {w : ℕ} {σ : Type} {l : Scf.Loop w} {hok : l.OK} {init : σ} {body : Fin l.trips → σ → Pg F σ}
    (h : ∀ k acc, Runs c P (body k acc)) : Runs c P (Scf.Loop.for l hok init body) := ⟨by
  refine BIBase.Entails.trans ?_ (Scf.wp_for _ _ _ l.lb l.ub l.st hok init body (fun _ _ => P) fun k acc => (h k acc).ok)
  iintro H
  isplitl [H]; · iexact H
  iintro %acc H; iexact H⟩

theorem branch {α : Type} {b : Prop} [Decidable b] {p : b → Pg F α} {q : ¬b → Pg F α} (hp : ∀ h, Runs c P (p h)) (hq : ∀ h, Runs c P (q h)) :
    Runs c P (if h : b then p h else q h) := by
  split
  · exact hp _
  · exact hq _

theorem branch' {α : Type} {b : Prop} [Decidable b] {p q : Pg F α} (hp : Runs c P p) (hq : Runs c P q) :
    Runs c P (if b then p else q) := by
  split
  · exact hp
  · exact hq

end Runs

end Cert.Kernel.Hand

end
-- ==== Proof.Body.lean ====
/- The kernel's body keeps the buffers it holds: it loads, stores, loops and branches, and nothing else. -/
module

public import proofs.«01_k».proof.Proof.Held

@[expose] public section

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F]

variable (c : Dev nD) (i : grid0.Coords) (arg1 : Memref sig .tc .vmem S256x128 .bf16) (arg2 : Memref sig .tc .vmem S512x128 .bf16) (arg3 : Memref sig .tc .vmem S8x128 .f32) (arg4 : Memref sig .tc .vmem S256x128 .bf16) (arg5 : Memref sig .tc .vmem S16384x64 .bf16) (arg6 : Memref sig .tc .vmem S16384x256 .bf16) (arg7 : Memref sig .tc .vmem S256x16384 .bf16) (arg8 : Memref sig .tc .vmem S256x256 .bf16) (arg9 : Memref sig .tc .vmem S256x256 .bf16) (arg10 : Memref sig .tc .vmem S128x128 .bf16) (arg11 : Memref sig .tc .vmem S128x512 .bf16) (arg12 : Memref sig .tc .vmem S16384x128 .i32) (arg13 : Memref sig .tc .vmem S80x32x8x128 .i32) (arg14 : Memref sig .tc .vmem S80x8x128 .i32) (arg15 : Memref sig .tc .vmem S4x64x256 .bf16) (arg16 : Memref sig .tc .vmem S2x128x256 .bf16) (arg17 : Memref sig .tc .vmem S4x2048x128 .f32) (arg18 : Memref sig .tc .vmem S4x64x128 .f32)
  (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole)

/-- The body runs on its buffers held whole, whatever they contain, and gives them back. -/
theorem body_runs : Runs c
    iprop(held c arg1 ∗ held c arg2 ∗ held c arg3 ∗ held c arg4 ∗ held c arg5 ∗ held c arg6 ∗ held c arg7 ∗ held c arg8 ∗ held c arg9 ∗ held c arg10 ∗ held c arg11 ∗ held c arg12 ∗ held c arg13 ∗ held c arg14 ∗ held c arg15 ∗ held c arg16 ∗ held c arg17 ∗ held c arg18 ∗ emp)
    (cc0_dsa (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  delta cc0_dsa
  repeat' first
    | with_reducible exact Runs.ret _
    | with_reducible exact Runs.load
    | with_reducible exact Runs.store
    | with_reducible refine Runs.loop fun _ _ => ?_
    | with_reducible refine Runs.bind ?_ fun _ => ?_
    | with_reducible refine Runs.branch (fun _ => ?_) (fun _ => ?_)
    | with_reducible refine Runs.branch' ?_ ?_
    | delta
          k0_part1 k0_part2 k0_part3 k0_part4 k0_part5 k0_part6 k0_part7 k0_part8 k0_part9 k0_part10 k0_part11
          k0_part12 k0_part13 k0_part14 k0_part15 k0_part16 k0_part17 k0_part18 k0_part19 k0_part20 k0_part21
          k0_part22 k0_part23 k0_part24 k0_part25 k0_part26 k0_part27 k0_part28 k0_part29 k0_part30 k0_part31
          k0_part32 k0_part33 k0_part34 k0_part35 k0_part36 k0_part37 k0_part38 k0_part39 k0_part40 k0_part41
          k0_part42 k0_part43 k0_part44 k0_part45 k0_part46 k0_part47 k0_part48 k0_part49 k0_part50 k0_part51
          k0_part52 k0_part53 k0_part54 k0_part55 k0_part56 k0_part57 k0_part58 k0_part59 k0_part60 k0_part61
          k0_part62 k0_part63 k0_part64 k0_part65 k0_part66 k0_part67 k0_part68 k0_part69 k0_part70 k0_part71
          k0_part72 k0_part73 k0_part74 k0_part75 k0_part76 k0_part77 k0_part78 k0_part79 k0_part80 k0_part81
          k0_part82 k0_part83 k0_part84 k0_part85 k0_part86 k0_part87 k0_part88 k0_part89 k0_part90 k0_part91
          k0_part92 k0_part93 k0_part94 k0_part95 k0_part96 k0_part97 k0_part98 k0_part99 k0_part100 k0_part101
          k0_part102 k0_part103 k0_part104 k0_part105 k0_part106 k0_part107 k0_part108 k0_part109 k0_part110
          k0_part111 k0_part112 k0_part113 k0_part114 k0_part115 k0_part116 k0_part117 k0_part118 k0_part119
          k0_part120 k0_part121 k0_part122 k0_part123 k0_part124 k0_part125 k0_part126 k0_part127 k0_part128
          k0_part129 k0_part130 k0_part131 k0_part132 k0_part133 k0_part134 k0_part135 k0_part136 k0_part137
          k0_part138 k0_part139 k0_part140 k0_part141 k0_part142 k0_part143 k0_part144 k0_part145 k0_part146
          k0_part147 k0_part148 k0_part149 k0_part150 k0_part151 k0_part152 k0_part153 k0_part154 k0_part155
          k0_part156 k0_part157 k0_part158 k0_part159 k0_part160 k0_part161 k0_part162 k0_part163 k0_part164
          k0_part165 k0_part166 k0_part167 k0_part168 k0_part169 k0_part170 k0_part171 k0_part172 k0_part173
          k0_part174 k0_part175 k0_part176 k0_part177 k0_part178 k0_part179 k0_part180 k0_part181 k0_part182
          k0_part183 k0_part184 k0_part185 k0_part186 k0_part187 k0_part188 k0_part189 k0_part190 k0_part191
          k0_part192 k0_part193 k0_part194 k0_part195 k0_part196 k0_part197 k0_part198 k0_part199 k0_part200
          k0_part201 k0_part202 k0_part203 k0_part204 k0_part205 k0_part206 k0_part207 k0_part208 k0_part209
          k0_part210 k0_part211 k0_part212 k0_part213 k0_part214 k0_part215 k0_part216 k0_part217 k0_part218
          k0_part219 k0_part220 k0_part221 k0_part222 k0_part223 k0_part224 k0_part225 k0_part226 k0_part227
          k0_part228 k0_part229 k0_part230 k0_part231 k0_part232 k0_part233 k0_part234 k0_part235 k0_part236
          k0_part237 k0_part238 k0_part239 k0_part240 k0_part241 k0_part242 k0_part243 k0_part244 k0_part245
          k0_part246 k0_part247 k0_part248 k0_part249 k0_part250 k0_part251 k0_part252 k0_part253 k0_part254
          k0_part255

end Cert.Kernel.Hand

end
-- ==== Proof.Frame.lean ====
/- The frame of the sparse attention: it runs, hands back its argument arrays as launched, and leaves every
   semaphore counter at zero. Of a staged block or a scratch buffer nothing is tracked but that it is held. -/
module

public import proofs.«01_k».proof.Proof.Body

@[expose] public section

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F] (m : (ℓ : Loc nD τ sig) → Buf (Elt F) ℓ) (ρ : Dev nD → PrngReg)

/-- The launch's data: the arrays as launched; the body may leave anything in a buffer it is handed. -/
def rdat (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-- A staging buffer at known contents is held. -/
theorem held_of_owns (c : Dev nD) {sp : Space} {s : Shape} {e : EltTy} (a : Memref sig .tc sp s e) (X : s.Idx → Elt F e) :
    (owns (c : Thread nD τ) a fullShare X : As F) ⊢ held c a := by
  unfold owns held
  iintro ⟨%f, -, H⟩
  iexists f; iexact H

/-- A held staging buffer is at some contents. -/
theorem owns_of_held (c : Dev nD) {sp : Space} {s : Shape} {e : EltTy} (a : Memref sig .tc sp s e) :
    (held c a : As F) ⊢ iprop(∃ X, ⌜True⌝ ∗ owns (c : Thread nD τ) a fullShare X) := by
  unfold held
  iintro ⟨%f, H⟩
  iexists a.view.read (Elt F) f
  isplitr; · ipureintro; trivial
  iapply (owns_intro (c : Thread nD τ) a fullShare f); iexact H

/-- A buffer whole at some contents is its whole memref held. -/
theorem held_whole (c : Dev nD) (b : Ref sig .tc) :
    (held c (Memref.whole b) : As F) = iprop(∃ f : Buf (Elt F) ((c : Thread nD τ).loc b), ((c : Thread nD τ).loc b) ↦{fullShare} f) := by
  unfold held; simp only [Memref.view_whole, View.set_whole]

/-- The body's buffers at the point `t`: the current staging buffers, then the scratch. -/
abbrev bufs (c : Dev nD) (t : Fin cfg0.N) : As F :=
  iprop(held c (win0_0.stage (cfg0.slots t 0)) ∗ held c (win0_1.stage (cfg0.slots t 1)) ∗ held c (win0_2.stage (cfg0.slots t 2)) ∗ held c (win0_3.stage (cfg0.slots t 3)) ∗ held c (win0_4.stage (cfg0.slots t 4)) ∗ held c (win0_5.stage (cfg0.slots t 5)) ∗ held c (win0_6.stage (cfg0.slots t 6)) ∗ held c (win0_7.stage (cfg0.slots t 7)) ∗ held c (win0_8.stage (cfg0.slots t 8)) ∗ held c (win0_9.stage (cfg0.slots t 9)) ∗ held c (win0_10.stage (cfg0.slots t 10)) ∗ held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5) ∗ held c (Memref.whole cc0_scratch6) ∗ emp)

theorem runs_at (c : Dev nD) (t : Fin cfg0.N) : Runs c (bufs (F := F) c t) (Gen.bodyAt0 t) := by
  delta Gen.bodyAt0
  exact body_runs c (grid0.coords t) _ _ _ _ _ _ _ _ _ _ _ _ _ _ _ _ _ _ _ _ _ _ _ _ _ _ _ _ _ _ _ _ _ _ _ _

/-- The scratch and the generator register, split into the two. -/
theorem scratch_eq (c : Dev nD) : (Pipeline.ΦA spec0 c : As F)
    = iprop((held c (Memref.whole cc0_scratch0) ∗ held c (Memref.whole cc0_scratch1) ∗ held c (Memref.whole cc0_scratch2) ∗ held c (Memref.whole cc0_scratch3) ∗ held c (Memref.whole cc0_scratch4) ∗ held c (Memref.whole cc0_scratch5) ∗ held c (Memref.whole cc0_scratch6)) ∗ ∃ r, prngReg c r) := by
  unfold Pipeline.ΦA
  rw [Gen.scopedRest0_eq]
  simp only [held_whole]

set_option maxHeartbeats 1000000 in
/-- At every point the body keeps its buffers, so it meets the launch's demand on it. -/
theorem body_obligation (c : Dev nD) : (rdat m c).BodyObligation defs₀ Variants.none () Set.univ := fun t Y _ =>
  show iprop(Pipeline.ΦA spec0 c ∗ (rdat m c).owesAt () t.castSucc
      ∗ bigSep Finset.univ fun w : Fin 11 => owns (c : Thread nD τ) ((cfg0.win w).stage (cfg0.slots t w)) fullShare (Y w))
    ⊢ wp frame (wpE (defs₀ (F := F)) Variants.none (c : Thread nD τ) none) Set.univ (Gen.bodyAt0 t) (fun _ =>
      iprop(Pipeline.ΦA spec0 c ∗ (rdat m c).owesAt () t.castSucc
        ∗ bigSep Finset.univ fun w : Fin 11 => iprop(∃ X, ⌜True⌝ ∗ owns (c : Thread nD τ) ((cfg0.win w).stage (cfg0.slots t w)) fullShare X))) by
    rw [Gen.bigSep_W0, Gen.bigSep_W0, scratch_eq]
    iintro ⟨⟨⟨S0, S1, S2, S3, S4, S5, S6⟩, Hr⟩, Ho, W0, W1, W2, W3, W4, W5, W6, W7, W8, W9, W10⟩
    iapply (wp_wand_r _ _ Set.univ (p := Gen.bodyAt0 t) (Q := fun _ => bufs c t))
    isplitr [Hr Ho]
    · iapply (runs_at c t).ok
      isplitl [W0]; · iapply (held_of_owns c (win0_0.stage (cfg0.slots t 0)) (Y 0)); iexact W0
      isplitl [W1]; · iapply (held_of_owns c (win0_1.stage (cfg0.slots t 1)) (Y 1)); iexact W1
      isplitl [W2]; · iapply (held_of_owns c (win0_2.stage (cfg0.slots t 2)) (Y 2)); iexact W2
      isplitl [W3]; · iapply (held_of_owns c (win0_3.stage (cfg0.slots t 3)) (Y 3)); iexact W3
      isplitl [W4]; · iapply (held_of_owns c (win0_4.stage (cfg0.slots t 4)) (Y 4)); iexact W4
      isplitl [W5]; · iapply (held_of_owns c (win0_5.stage (cfg0.slots t 5)) (Y 5)); iexact W5
      isplitl [W6]; · iapply (held_of_owns c (win0_6.stage (cfg0.slots t 6)) (Y 6)); iexact W6
      isplitl [W7]; · iapply (held_of_owns c (win0_7.stage (cfg0.slots t 7)) (Y 7)); iexact W7
      isplitl [W8]; · iapply (held_of_owns c (win0_8.stage (cfg0.slots t 8)) (Y 8)); iexact W8
      isplitl [W9]; · iapply (held_of_owns c (win0_9.stage (cfg0.slots t 9)) (Y 9)); iexact W9
      isplitl [W10]; · iapply (held_of_owns c (win0_10.stage (cfg0.slots t 10)) (Y 10)); iexact W10
      isplitl [S0]; · iexact S0
      isplitl [S1]; · iexact S1
      isplitl [S2]; · iexact S2
      isplitl [S3]; · iexact S3
      isplitl [S4]; · iexact S4
      isplitl [S5]; · iexact S5
      isplitl [S6]; · iexact S6
      iempintro
    · iintro %_ ⟨W0, W1, W2, W3, W4, W5, W6, W7, W8, W9, W10, S0, S1, S2, S3, S4, S5, S6, -⟩
      isplitr [Ho W0 W1 W2 W3 W4 W5 W6 W7 W8 W9 W10]
      · isplitr [Hr]
        · isplitl [S0]; · iexact S0
          isplitl [S1]; · iexact S1
          isplitl [S2]; · iexact S2
          isplitl [S3]; · iexact S3
          isplitl [S4]; · iexact S4
          isplitl [S5]; · iexact S5
          iexact S6
        · iexact Hr
      isplitl [Ho]; · iexact Ho
      isplitl [W0]; · iapply (owns_of_held c (win0_0.stage (cfg0.slots t 0))); iexact W0
      isplitl [W1]; · iapply (owns_of_held c (win0_1.stage (cfg0.slots t 1))); iexact W1
      isplitl [W2]; · iapply (owns_of_held c (win0_2.stage (cfg0.slots t 2))); iexact W2
      isplitl [W3]; · iapply (owns_of_held c (win0_3.stage (cfg0.slots t 3))); iexact W3
      isplitl [W4]; · iapply (owns_of_held c (win0_4.stage (cfg0.slots t 4))); iexact W4
      isplitl [W5]; · iapply (owns_of_held c (win0_5.stage (cfg0.slots t 5))); iexact W5
      isplitl [W6]; · iapply (owns_of_held c (win0_6.stage (cfg0.slots t 6))); iexact W6
      isplitl [W7]; · iapply (owns_of_held c (win0_7.stage (cfg0.slots t 7))); iexact W7
      isplitl [W8]; · iapply (owns_of_held c (win0_8.stage (cfg0.slots t 8))); iexact W8
      isplitl [W9]; · iapply (owns_of_held c (win0_9.stage (cfg0.slots t 9))); iexact W9
      iapply (owns_of_held c (win0_10.stage (cfg0.slots t 10))); iexact W10

/-- Every weakest run of the launch ends with the argument arrays as launched and the counters at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  Pipeline.RDat.θ_run_frame cfgs 0 Gen.launch0 defs₀ Variants.none (rdat m) m ρ main (body_obligation m)
    (fun _ w => by fin_cases w <;> rfl) (fun _ _ => rfl) (Gen.V m) (Gen.hmain m Variants.none) (fun _ _ => rfl) (fun _ _ => rfl) _
    (fun _ h => ⟨fun c => ⟨h.1.arr_in c 0 rfl, h.1.arr_in c 1 rfl, h.1.arr_in c 2 rfl, h.1.arr_in c 3 rfl, h.1.arr_in c 4 rfl, h.1.arr_in c 5 rfl, h.1.arr_in c 6 rfl, h.1.arr_in c 7 rfl, h.1.arr_in c 8 rfl, h.1.arr_in c 9 rfl⟩, h.2⟩)

end Cert.Kernel.Hand

end
-- ==== Proof.OutRow.lean ====
/-
  One row of the call that mixes the heads and applies the feed-forward layer, over the extended reals. Both
  programs are read against these definitions, one row at a time.
-/
module

public import Idealize.ShloMosaic.PureOps.Ideal
public import Idealize.ShloMosaic.Lib.Pointwise

@[expose] public section

noncomputable section

namespace Cert.OutRow

open Idealize.ShloMosaic

/-- A sum over the 1024 mixed columns, cut into the bands of the recurrent, the sparse and the memory heads. -/
theorem sum_bands (f : Fin 1024 → EReal) : ∑ k, f k = (∑ k : Fin 512, f ⟨k, by omega⟩)
    + ((∑ k : Fin 256, f ⟨512 + k, by omega⟩) + ∑ k : Fin 256, f ⟨768 + k, by omega⟩) := by
  rw [Fin.sum_univ_two_halves 512 512 rfl f, Fin.sum_univ_two_halves 256 256 rfl (fun k : Fin 512 => f ⟨512 + k, _⟩)]
  simp only [← Nat.add_assoc, Nat.reduceAdd]

/-- A row after the output projection is added: the row itself, and the products of the recurrent heads' columns `h`,
    the sparse heads' `s` and the memory heads' `p` with their bands of the weight rows `w`. -/
def mixed (x : Fin 1024 → EReal) (h : Fin 512 → EReal) (s p : Fin 256 → EReal) (w : Fin 1024 → Fin 1024 → EReal)
    (c : Fin 1024) : EReal :=
  x c + ((∑ k : Fin 512, h k * w ⟨k, by omega⟩ c)
    + ((∑ k : Fin 256, s k * w ⟨512 + k, by omega⟩ c) + ∑ k : Fin 256, p k * w ⟨768 + k, by omega⟩ c))

/-- A row divided by its root mean square (with the small constant the programs hold) and times the gains `g`. -/
def normed (x g : Fin 1024 → EReal) (c : Fin 1024) : EReal :=
  x c * Ideal.rsqrt (Ideal.div (∑ k : Fin 1024, x k * x k) (Ideal.ofBits .f32 0x44800000#32)
    + Ideal.ofBits .f32 0x358637BD#32) * g c

/-- The gated gate row: the first half of the products is the gate, the second what it lets through. -/
def gate (n : Fin 1024 → EReal) (w : Fin 1024 → Fin 5632 → EReal) (j : Fin 2816) : EReal :=
  (∑ k : Fin 1024, n k * w k ⟨j, by omega⟩) * Ideal.logistic (∑ k : Fin 1024, n k * w k ⟨j, by omega⟩)
    * ∑ k : Fin 1024, n k * w k ⟨2816 + j, by omega⟩

/-- The feed-forward layer added to the row `y`. -/
def fed (y g : Fin 1024 → EReal) (wi : Fin 1024 → Fin 5632 → EReal) (wo : Fin 2816 → Fin 1024 → EReal)
    (c : Fin 1024) : EReal :=
  y c + ∑ j : Fin 2816, gate (normed y g) wi j * wo j c

end Cert.OutRow

end
-- ==== Proof.OutKernel.lean ====
/-
  The values the call's body computes, read at an index and set beside the row definitions.
-/
module

public import proofs.«01_k».proof.Proof.Gen.Kernel2Ideal.Frame
public import proofs.«01_k».proof.Proof.OutRow
public import Idealize.ShloMosaic.Lib.Pipeline.ValueKit

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.OutRow

variable (x : Vec Ideal S256x1024 .f32) (h s : Vec Ideal S256x512 .bf16) (w : Vec Ideal S1024x1024 .bf16)
  (g : Vec Ideal S1x1024 .f32) (wi : Vec Ideal S1024x5632 .bf16) (wo : Vec Ideal S2816x1024 .bf16)

/-- Row `r` of the block after the output projection is added. -/
abbrev yRow (r : Fin 256) : Fin 1024 → EReal :=
  mixed (fun k => x (ix2 r k)) (fun k => h (ix2 r k)) (fun k => s (ix2 r ⟨k, by omega⟩))
    (fun k => s (ix2 r ⟨256 + k, by omega⟩)) (fun k c => w (ix2 k c))

/-- The residual row: the second band of 512 products is the sparse heads' 256 and the memory heads' 256. -/
theorem pay2_apply (r : Fin 256) (c : Fin 1024) :
    k0_pay2 x h (View.ld w r0_2) s (View.ld w r0_3) (ix2 r c) = yRow x h s w r c := by
  pointwise [k0_pay2, mixed]
  rw [Fin.sum_univ_two_halves 256 256 rfl (fun k : Fin 512 => s (ix2 r k) * _), add_assoc]
  simp only [← Nat.add_assoc, Nat.reduceAdd]

/-- The normalised row. -/
theorem pay3_apply (r : Fin 256) (c : Fin 1024) :
    k0_pay3 x h (View.ld w r0_2) s (View.ld w r0_3) g (ix2 r c) = normed (yRow x h s w r) (fun k => g (ix2 0 k)) c := by
  pointwise [k0_pay3]
  simp only [pay2_apply]
  rfl

theorem pay4_apply (r : Fin 256) (j : Fin 2816) :
    k0_pay4 x h (View.ld w r0_2) s (View.ld w r0_3) g (View.ld wi r0_5) (ix2 r j)
      = ∑ k : Fin 1024, normed (yRow x h s w r) (fun k => g (ix2 0 k)) k * wi (ix2 k ⟨j, by omega⟩) := by
  pointwise [k0_pay4]
  simp only [pay3_apply]

theorem pay5_apply (r : Fin 256) (j : Fin 2816) :
    k0_pay5 x h (View.ld w r0_2) s (View.ld w r0_3) g (View.ld wi r0_6) (ix2 r j)
      = ∑ k : Fin 1024, normed (yRow x h s w r) (fun k => g (ix2 0 k)) k * wi (ix2 k ⟨2816 + j, by omega⟩) := by
  pointwise [k0_pay5]
  simp only [pay3_apply]

/-- What the body leaves at `(r, c)` of its output block. -/
theorem out_apply (r : Fin 256) (c : Fin 1024) :
    out0_7 x h s w g wi wo (ix2 r c)
      = fed (yRow x h s w r) (fun k => g (ix2 0 k)) (fun k j => wi (ix2 k j)) (fun k j => wo (ix2 k j)) c := by
  frame_out
  pointwise [k0_pay1, k0_pay6]
  simp only [pay2_apply, pay4_apply, pay5_apply]
  rfl

end Cert.Kernel2Ideal.Hand

end
-- ==== Proof.OutReference.lean ====
/-
  The reference's result read at an index, set beside the row definitions.
-/
module

public import proofs.«01_k».proof.Proof.Gen.Reference2Ideal.Run
public import proofs.«01_k».proof.Proof.OutRow
public import Idealize.ShloMosaic.Lib.Pipeline.ValueKit

@[expose] public section

set_option maxRecDepth 16384

noncomputable section

namespace Cert.Reference2Ideal.Hand

open Cert.Reference2Ideal Cert.Reference2Ideal.Gen Idealize.ShloMosaic Idealize.ShloMosaic.TcCoe Idealize.SL.Sem
open Cert.OutRow

variable (x : FVec Ideal S1x16384x1024 .f32) (h : FVec Ideal S1x16384x512 .f32) (s p : FVec Ideal S1x16384x256 .f32)
  (w : FVec Ideal S1024x1024 .f32) (g : FVec Ideal S1024 .f32) (wi : FVec Ideal S1024x5632 .f32)
  (wo : FVec Ideal S2816x1024 .f32)

/-- The heads projected and added to the input. -/
def sum : FVec Ideal S1x16384x1024 .f32 :=
  addf x (Host.dotGeneral dot_S1x16384x1024_S1024x1024_S1x16384x1024_2_0_01_1_n_n none
    (concatenate S1x16384x1024 2 [⟨S1x16384x512, h⟩, ⟨S1x16384x256, s⟩, ⟨S1x16384x256, p⟩]
      concatenates_S1x16384x512_S1x16384x256_S1x16384x256_S1x16384x1024_d2) w)

/-- The normalised rows of `y`. -/
def norm (y : FVec Ideal S1x16384x1024 .f32) : FVec Ideal S1x16384x1024 .f32 :=
  mulf (mulf y (broadcastInDim S1x16384x1024 ![0, 1, 2] bcast_S1x16384x1_S1x16384x1024_0_1_2
    (Host.rsqrt (addf (Host.divf (broadcastInDim S1x16384x1 ![0, 1] bcast_S1x16384_S1x16384x1_0_1
      (Host.reduceAdd (mulf y y) (constant S_ .f32 0x00000000#32) reducesTo_S1x16384x1024_S1x16384_d2 h_S_))
      (broadcastInDim S1x16384x1 ![] bcast_S_S1x16384x1 (constant S_ .f32 0x44800000#32)))
      (broadcastInDim S1x16384x1 ![] bcast_S_S1x16384x1 (constant S_ .f32 0x358637BD#32))))))
    (broadcastInDim S1x16384x1024 ![0, 1, 2] bcast_S1x1x1024_S1x16384x1024_0_1_2
      (broadcastInDim S1x1x1024 ![2] bcast_S1024_S1x1x1024_2 g))

/-- The gated hidden layer of the rows `n`. -/
def gated (n : FVec Ideal S1x16384x1024 .f32) : FVec Ideal S1x16384x2816 .f32 :=
  mulf (mulf (extractStridedSlice S1x16384x2816 ![0, 0, 0]
      (Host.dotGeneral dot_S1x16384x1024_S1024x5632_S1x16384x5632_2_0_01_1_n_n none n wi)
      slices_S1x16384x5632_S1x16384x2816_0_0_0)
    (Host.divf (broadcastInDim S1x16384x2816 ![] bcast_S_S1x16384x2816 (constant S_ .f32 0x3F800000#32))
      (addf (broadcastInDim S1x16384x2816 ![] bcast_S_S1x16384x2816 (constant S_ .f32 0x3F800000#32))
        (Host.exp (Host.negf (extractStridedSlice S1x16384x2816 ![0, 0, 0]
          (Host.dotGeneral dot_S1x16384x1024_S1024x5632_S1x16384x5632_2_0_01_1_n_n none n wi)
          slices_S1x16384x5632_S1x16384x2816_0_0_0))))))
    (extractStridedSlice S1x16384x2816 ![0, 0, 2816]
      (Host.dotGeneral dot_S1x16384x1024_S1024x5632_S1x16384x5632_2_0_01_1_n_n none n wi)
      slices_S1x16384x5632_S1x16384x2816_0_0_2816)

/-- The reference's result, in stages. -/
def result : FVec Ideal S16384x1024 .f32 :=
  shapeCast _ (addf (sum x h s p w) (Host.dotGeneral dot_S1x16384x2816_S2816x1024_S1x16384x1024_2_0_01_1_n_n none
    (gated wi (norm g (sum x h s p w))) wo)) shapeCasts_S1x16384x1024_S16384x1024

/-- Row `r` of the arrays after the output projection is added. -/
abbrev yRow (r : Fin 16384) : Fin 1024 → EReal :=
  mixed (fun k => x (ix3 0 r k)) (fun k => h (ix3 0 r k)) (fun k => s (ix3 0 r k)) (fun k => p (ix3 0 r k))
    (fun k c => w (ix2 k c))

theorem sum_apply (r : Fin 16384) (c : Fin 1024) : sum x h s p w (ix3 0 r c) = yRow x h s p w r c := by
  pointwise [sum, mixed]
  rw [sum_bands]
  refine congrArg (_ + ·) (congrArg₂ (· + ·) ?_ (congrArg₂ (· + ·) ?_ ?_)) <;> refine Finset.sum_congr rfl fun k _ => ?_
  · rw [dif_pos (show (k : ℕ) < 512 by omega)]
  · rw [dif_neg (show ¬512 + (k : ℕ) < 512 by omega), dif_pos (show 512 + (k : ℕ) - 512 < 256 by omega)]
    simp only [Nat.add_sub_cancel_left]
  · rw [dif_neg (show ¬768 + (k : ℕ) < 512 by omega), dif_neg (show ¬768 + (k : ℕ) - 512 < 256 by omega)]
    simp only [show 768 + (k : ℕ) - 512 - 256 = k by omega]

theorem norm_apply (y : FVec Ideal S1x16384x1024 .f32) (r : Fin 16384) (c : Fin 1024) :
    norm g y (ix3 0 r c) = normed (fun k => y (ix3 0 r k)) (fun k => g (ix1 k)) c := by
  pointwise [norm, normed]

theorem gated_apply (n : FVec Ideal S1x16384x1024 .f32) (r : Fin 16384) (j : Fin 2816) :
    gated wi n (ix3 0 r j) = gate (fun k => n (ix3 0 r k)) (fun k j => wi (ix2 k j)) j := by
  pointwise [gated, gate, Ideal.logistic]

theorem result_apply (r : Fin 16384) (c : Fin 1024) :
    result x h s p w g wi wo (ix2 r c)
      = fed (yRow x h s p w r) (fun k => g (ix1 k)) (fun k j => wi (ix2 k j)) (fun k j => wo (ix2 k j)) c := by
  pointwise [result, fed]
  simp only [sum_apply, norm_apply, gated_apply]

end Cert.Reference2Ideal.Hand

end
-- ==== Proof.OutWhole.lean ====
/-
  The result array after the run: each grid point writes 256 rows of it, and every row is the row definitions' at the
  argument arrays.
-/
module

public import proofs.«01_k».proof.Proof.OutKernel
public import proofs.«01_k».proof.Proof.OutReference

@[expose] public section

set_option maxRecDepth 16384

noncomputable section

namespace Cert.Kernel2Ideal.Hand

open Cert.Kernel2Ideal Cert.Kernel2Ideal.Gen Idealize.ShloMosaic Idealize.ShloMosaic.TcCoe Idealize.SL.Sem
open Cert.OutRow

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

variable (t : Fin cfg0.N) (r : Fin 256)

theorem lt_rows : 256 * t.val + r.val < 16384 := by
  have := t.isLt; have : cfg0.N = 64 := rfl; omega

abbrev at_ : Fin 16384 := ⟨256 * t.val + r.val, lt_rows t r⟩

theorem read_x (k : Fin 1024) : (iblk m c 0 t : Vec Ideal S256x1024 .f32) (ix2 r k)
    = (m ((c : Thread nD τ).loc main_arg0) : FVec Ideal S1x16384x1024 .f32) (ix3 0 (at_ t r) k) := by
  blk_ext! [iblk, V, idx t]

theorem read_h (k : Fin 512) : (iblk m c 1 t : Vec Ideal S256x512 .bf16) (ix2 r k)
    = (m ((c : Thread nD τ).loc main_arg1) : FVec Ideal S1x16384x512 .f32) (ix3 0 (at_ t r) k) := by
  blk_ext! [iblk, V, idx t]

/-- The sparse and the memory heads are staged side by side. -/
theorem read_pair (k : Fin 512) : (iblk m c 2 t : Vec Ideal S256x512 .bf16) (ix2 r k)
    = (V m c main_v3 : FVec Ideal S16384x512 .bf16) (ix2 (at_ t r) k) := by
  unfold iblk
  blk_ext [idx t]

theorem read_s (k : Fin 256) : (iblk m c 2 t : Vec Ideal S256x512 .bf16) (ix2 r ⟨k, by omega⟩)
    = (m ((c : Thread nD τ).loc main_arg2) : FVec Ideal S1x16384x256 .f32) (ix3 0 (at_ t r) k) := by
  rw [read_pair]
  entry_read
  pointwise

theorem read_p (k : Fin 256) : (iblk m c 2 t : Vec Ideal S256x512 .bf16) (ix2 r ⟨256 + k, by omega⟩)
    = (m ((c : Thread nD τ).loc main_arg3) : FVec Ideal S1x16384x256 .f32) (ix3 0 (at_ t r) k) := by
  rw [read_pair]
  entry_read
  pointwise

theorem read_w (i j : Fin 1024) : (iblk m c 3 t : Vec Ideal S1024x1024 .bf16) (ix2 i j)
    = (m ((c : Thread nD τ).loc main_arg4) : FVec Ideal S1024x1024 .f32) (ix2 i j) := by
  blk_ext! [iblk, V, idx t]

theorem read_g (k : Fin 1024) : (iblk m c 4 t : Vec Ideal S1x1024 .f32) (ix2 0 k)
    = (m ((c : Thread nD τ).loc main_arg5) : FVec Ideal S1024 .f32) (ix1 k) := by
  blk_ext! [iblk, V, idx t]

theorem read_wi (i : Fin 1024) (j : Fin 5632) : (iblk m c 5 t : Vec Ideal S1024x5632 .bf16) (ix2 i j)
    = (m ((c : Thread nD τ).loc main_arg6) : FVec Ideal S1024x5632 .f32) (ix2 i j) := by
  blk_ext! [iblk, V, idx t]

theorem read_wo (i : Fin 2816) (j : Fin 1024) : (iblk m c 6 t : Vec Ideal S2816x1024 .bf16) (ix2 i j)
    = (m ((c : Thread nD τ).loc main_arg7) : FVec Ideal S2816x1024 .f32) (ix2 i j) := by
  blk_ext! [iblk, V, idx t]

/-- Row `256 t + r` of the arrays is what point `t` computes from row `r` of its blocks. -/
theorem rows (j : Fin 1024) :
    out0_7 (iblk m c 0 t) (iblk m c 1 t) (iblk m c 2 t) (iblk m c 3 t) (iblk m c 4 t) (iblk m c 5 t) (iblk m c 6 t)
        (ix2 r j)
      = Cert.Reference2Ideal.Hand.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) (ix2 (at_ t r) j) := by
  refine (out_apply (iblk m c 0 t) (iblk m c 1 t) (iblk m c 2 t) (iblk m c 3 t) (iblk m c 4 t) (iblk m c 5 t)
    (iblk m c 6 t) r j).trans (Eq.trans ?_ (Cert.Reference2Ideal.Hand.result_apply _ _ _ _ _ _ _ _ (at_ t r) j).symm)
  simp only [yRow, Cert.Reference2Ideal.Hand.yRow, read_x, read_h, read_s, read_p, read_w, read_g, read_wi, read_wo]

/-- The result array after the run is the reference's result at the argument arrays. -/
theorem final : (dats m 0 c).arrAt 7 (cfgs 0).N
    = Cert.Reference2Ideal.Hand.result (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (dats m 0 c).arrAt_eq_of_covers 7 _ (by decide +kernel) fun t hf y => ?_
  blk_simp
  rw [after0_7]
  obtain ⟨r, j, rfl⟩ : ∃ (r : Fin 256) (j : Fin 1024), y = ix2 r j := ⟨y 0, y 1, eq_ix2 y⟩
  refine (rows m c t r j).trans (congrArg _ ?_)
  blk_ext [idx t]

end Cert.Kernel2Ideal.Hand

end
-- ==== Proof.InRow.lean ====
/-
  One row of the projection call over the extended reals: the normalised row's products with the weight columns, the
  norm of a head's 64 columns, and the sums that the call takes over three parts of a number.
-/
module

public import proofs.«01_k».proof.Proof.OutRow
public import Idealize.ShloMosaic.PureOps.Ideal.Laws
public import Idealize.ShloMosaic.Lib.IdealHost

@[expose] public section

noncomputable section

namespace Cert.InRow

open Idealize.ShloMosaic

/-- A real number, not an infinity. -/
def Real' (x : EReal) : Prop := ∃ r : ℝ, x = r

theorem Real'.add {x y : EReal} (hx : Real' x) (hy : Real' y) : Real' (x + y) := by
  obtain ⟨a, rfl⟩ := hx; obtain ⟨b, rfl⟩ := hy; exact ⟨a + b, by norm_cast⟩

theorem Real'.mul {x y : EReal} (hx : Real' x) (hy : Real' y) : Real' (x * y) := by
  obtain ⟨a, rfl⟩ := hx; obtain ⟨b, rfl⟩ := hy; exact ⟨a * b, by norm_cast⟩

theorem Real'.sum {ι : Type} [Fintype ι] {f : ι → EReal} (h : ∀ i, Real' (f i)) : Real' (∑ i, f i) := by
  choose r hr using h
  exact ⟨∑ i, r i, by simp only [hr]; exact (map_sum (⟨⟨Real.toEReal, rfl⟩, EReal.coe_add⟩ : ℝ →+ EReal) r Finset.univ).symm⟩

theorem Real'.sub_self {x : EReal} (hx : Real' x) : x - x = 0 := by
  obtain ⟨a, rfl⟩ := hx
  norm_cast; simp

/-- The small constant under the roots is a positive real. -/
theorem eps_pos : ∃ e : ℝ, 0 < e ∧ Ideal.ofBits .f32 0x358637BD#32 = e := by
  refine ⟨_, ?_, by simp [Ideal.ofBits, Ideal.ieee]; rfl⟩
  norm_num

theorem width : Ideal.ofBits .f32 0x44800000#32 = ((1024 : ℝ) : EReal) := by
  simp [Ideal.ofBits, Ideal.ieee, -EReal.coe_mul]; norm_num

theorem head : Ideal.ofBits .f32 0x42800000#32 = ((64 : ℝ) : EReal) := by
  simp [Ideal.ofBits, Ideal.ieee, -EReal.coe_mul]; norm_num

theorem head_inv : Ideal.ofBits .f32 0x3C800000#32 = ((1 / 64 : ℝ) : EReal) := by
  simp [Ideal.ofBits, Ideal.ieee, -EReal.coe_mul]; norm_num

/-- The scale of the index weights is a positive real. -/
theorem scale_pos : ∃ e : ℝ, 0 < e ∧ Ideal.ofBits .f32 0x3D3504F3#32 = e := by
  refine ⟨_, ?_, by simp [Ideal.ofBits, Ideal.ieee]; rfl⟩
  norm_num

/-- The normalised row of real numbers with real gains is of real numbers. -/
theorem normed_real {x g : Fin 1024 → EReal} (hx : ∀ k, Real' (x k)) (hg : ∀ k, Real' (g k)) (c : Fin 1024) :
    Real' (OutRow.normed x g c) := by
  refine ((hx c).mul ?_).mul (hg c)
  choose r hr using hx
  obtain ⟨e, he, e'⟩ := eps_pos
  have hs : ∑ k, x k * x k = ((∑ k, r k * r k : ℝ) : EReal) := by
    simp only [hr]
    refine Eq.trans ?_ (map_sum (⟨⟨Real.toEReal, rfl⟩, EReal.coe_add⟩ : ℝ →+ EReal) (fun k => r k * r k) Finset.univ).symm
    exact Finset.sum_congr rfl fun k _ => (EReal.coe_mul _ _).symm
  have hn : 0 ≤ ∑ k, r k * r k := Finset.sum_nonneg fun k _ => mul_self_nonneg _
  have hd : Ideal.div (∑ k, x k * x k) (Ideal.ofBits .f32 0x44800000#32) + Ideal.ofBits .f32 0x358637BD#32
      = (((∑ k, r k * r k) * (1024 : ℝ)⁻¹ + e : ℝ) : EReal) := by
    rw [hs, width, e', Ideal.div, if_neg (by norm_num)]
    norm_cast
  have hp : 0 < (∑ k, r k * r k) * (1024 : ℝ)⁻¹ + e := by positivity
  rw [hd, Ideal.rsqrt_coe, if_neg hp.not_gt, if_neg hp.ne']
  exact ⟨_, rfl⟩

/-- Column `c` of the projected row. -/
def proj (x g : Fin 1024 → EReal) (w : Fin 1024 → Fin 3656 → EReal) (c : Fin 3656) : EReal :=
  ∑ k : Fin 1024, OutRow.normed x g k * w k c

theorem proj_real {x g : Fin 1024 → EReal} {w : Fin 1024 → Fin 3656 → EReal} (hx : ∀ k, Real' (x k)) (hg : ∀ k, Real' (g k))
    (hw : ∀ k c, Real' (w k c)) (c : Fin 3656) : Real' (proj x g w c) :=
  Real'.sum fun k => (normed_real hx hg k).mul (hw k c)

/-- Entry `j` of a head's 64 columns divided by their root mean square, times the gains. -/
def headed (t g : Fin 64 → EReal) (j : Fin 64) : EReal :=
  t j * Ideal.rsqrt (Ideal.div (∑ k : Fin 64, t k * t k) (Ideal.ofBits .f32 0x42800000#32)
    + Ideal.ofBits .f32 0x358637BD#32) * g j

/-- One in 64 of a number is its quotient by 64. -/
theorem mul_head (s : EReal) : s * Ideal.ofBits .f32 0x3C800000#32 = Ideal.div s (Ideal.ofBits .f32 0x42800000#32) := by
  rw [head, head_inv, Ideal.div, if_neg (by norm_num), one_div, EReal.coe_inv]

/-- A product summed over a number's three parts: of a real number the second and the third are zero. -/
theorem three_parts {ι : Type} [Fintype ι] (f m : ι → EReal) (hf : ∀ i, Real' (f i)) :
    (∑ i, f i * m i) + (∑ i, (f i - f i) * m i) + (∑ i, (f i - f i - (f i - f i)) * m i) = ∑ i, f i * m i := by
  have h0 : ∀ i, f i - f i = 0 := fun i => (hf i).sub_self
  simp only [h0, sub_zero, zero_mul, Finset.sum_const_zero, add_zero]

/-- A sum over 256 columns of those in one head of 64. -/
theorem sum_head (f : Fin 256 → EReal) (c : Fin 256) :
    ∑ k : Fin 256, f k * (if k.val / 64 = c.val / 64 then 1 else 0) = ∑ j : Fin 64, f ⟨64 * (c.val / 64) + j, by omega⟩ := by
  rw [← Equiv.sum_comp (finProdFinEquiv (m := 4) (n := 64)), Fintype.sum_prod_type,
    Finset.sum_eq_single (⟨c.val / 64, by omega⟩ : Fin 4)]
  · refine Finset.sum_congr rfl fun j _ => ?_
    rw [if_pos (by show (j.val + 64 * (c.val / 64)) / 64 = _; omega), mul_one]
    exact congrArg f (Fin.ext (by show j.val + 64 * (c.val / 64) = 64 * (c.val / 64) + j.val; omega))
  · intro a _ ha
    refine Finset.sum_eq_zero fun j _ => ?_
    rw [if_neg, mul_zero]
    intro h
    refine ha (Fin.ext ?_)
    have : (j.val + 64 * a.val) / 64 = c.val / 64 := h
    show a.val = c.val / 64
    omega
  · intro h; exact absurd (Finset.mem_univ _) h

/-- A sum that keeps one term. -/
theorem sum_pick {n : ℕ} (f : Fin n → EReal) (p : Fin n → Prop) [DecidablePred p] (a : Fin n) (h : ∀ k, p k ↔ k = a) :
    ∑ k : Fin n, f k * (if p k then 1 else 0) = f a := by
  rw [Finset.sum_eq_single a]
  · rw [if_pos ((h a).2 rfl), mul_one]
  · intro k _ hk; rw [if_neg (fun hp => hk ((h k).1 hp)), mul_zero]
  · intro h; exact absurd (Finset.mem_univ _) h

/-- The absolute value of a real number is a real number. -/
theorem Real'.abs {x : EReal} (hx : Real' x) : Real' (max x (-x)) := by
  obtain ⟨a, rfl⟩ := hx
  exact ⟨max a (-a), by rw [← EReal.coe_neg]; exact (EReal.coe_strictMono.monotone.map_max).symm⟩

end Cert.InRow

end
-- ==== Proof.InKernel.lean ====
/-
  The values the projection call's body computes, read at an index and set beside the row definitions.
-/
module

public import proofs.«01_k».proof.Proof.Gen.Kernel3Ideal.Frame
public import proofs.«01_k».proof.Proof.Gen.Kernel3Ideal.Value
public import proofs.«01_k».proof.Proof.InRow
public import Idealize.ShloMosaic.Lib.Pipeline.ValueKit

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Cert.InRow

variable (x : Vec Ideal S512x1024 .f32) (g : Vec Ideal S1x1024 .f32) (w : Vec Ideal S1024x3712 .bf16)
  (gq gk gm : Vec Ideal S1x256 .f32) (e : Vec Ideal S256x256 .bf16) (ex : Vec Ideal S128x512 .bf16)

/-- Column `c` of the projected row `r` of the block. -/
abbrev col (r : Fin 512) (c : Fin 3712) : EReal :=
  ∑ k : Fin 1024, OutRow.normed (fun k => x (ix2 r k)) (fun k => g (ix2 0 k)) k * w (ix2 k c)

/-- The projected block. -/
theorem pay2_apply (r : Fin 512) (c : Fin 3712) : k0_pay2 x g w (ix2 r c) = col x g w r c := by
  pointwise [k0_pay2]
  rfl

/-- The call reads its blocks whole. -/
theorem col_ld (r : Fin 512) (c : Fin 3712) :
    col (View.ld x r0_0) (View.ld g r0_1) (View.ld w r0_2) r c = col x g w r c := by
  rw [show View.ld x r0_0 = x from View.ld_unit_lit _ x (by decide), show View.ld g r0_1 = g from View.ld_unit_lit _ g (by decide),
    show View.ld w r0_2 = w from View.ld_unit_lit _ w (by decide)]

theorem out8_apply (r : Fin 512) (c : Fin 2048) :
    out0_8 x g w gq gk gm e ex (ix2 r c) = col x g w r ⟨c, by omega⟩ := by
  frame_out
  pointwise [k0_pay3]
  exact pay2_apply ..

theorem out11_apply (c : Fin 256) (r : Fin 512) :
    out0_11 x g w gq gk gm e ex (ix2 c r) = col x g w r ⟨2560 + c, by omega⟩ := by
  frame_out
  pointwise [k0_pay20, k0_pay6]
  exact pay2_apply ..

theorem out13_apply (r : Fin 512) (c : Fin 64) :
    out0_13 x g w gq gk gm e ex (ix2 r c) = col x g w r ⟨3584 + c, by omega⟩ := by
  frame_out
  pointwise [k0_pay22, k0_pay25, k0_pay9]
  exact (pay2_apply ..).trans (col_ld ..)

theorem out14_apply (h : Fin 8) (r : Fin 512) :
    out0_14 x g w gq gk gm e ex (ix2 h r)
      = if 0 ≤ col x g w r ⟨3648 + h, by omega⟩ then 1 else Ideal.ofBits .f32 0xBF800000#32 := by
  frame_out
  pointwise [k0_pay23, k0_pay25, k0_pay9]
  simp only [pay2_apply, col_ld, ← Nat.add_assoc, Nat.reduceAdd]

/-- The mean square that the call divides by, of the columns `t`, from the three parts of their squares. -/
abbrev denom (t : Fin 256 → EReal) (c : Fin 256) : EReal :=
  ((∑ k : Fin 256, t k * t k * e (ix2 k c)) + (∑ k : Fin 256, (t k * t k - t k * t k) * e (ix2 k c))
    + (∑ k : Fin 256, (t k * t k - t k * t k - (t k * t k - t k * t k)) * e (ix2 k c))) * Ideal.ofBits .f32 0x3C800000#32

theorem out10_apply (r : Fin 512) (c : Fin 256) :
    out0_10 x g w gq gk gm e ex (ix2 r c)
      = col x g w r ⟨2304 + c, by omega⟩ * Ideal.rsqrt (denom e (fun k => col x g w r ⟨2304 + k, by omega⟩) c
        + Ideal.ofBits .f32 0x358637BD#32) * gk (ix2 0 c) := by
  frame_out
  pointwise [k0_pay19, k0_pay5, k0_pay10, k0_pay26]
  simp only [pay2_apply]

theorem out9_apply (c : Fin 256) (r : Fin 512) :
    out0_9 x g w gq gk gm e ex (ix2 c r)
      = col x g w r ⟨2048 + c, by omega⟩ * Ideal.rsqrt (denom e (fun k => col x g w r ⟨2048 + k, by omega⟩) c
        + Ideal.ofBits .f32 0x358637BD#32) * gq (ix2 0 c) * Ideal.ofBits .f32 0x3E38AA3B#32 := by
  frame_out
  pointwise [k0_pay18, k0_pay17, k0_pay16, k0_pay15, k0_pay14, k0_pay13, k0_pay12, k0_pay11, k0_pay10, k0_pay4, k0_pay26]
  simp only [pay2_apply]

theorem out15_apply (c : Fin 256) (r : Fin 512) :
    out0_15 x g w gq gk gm e ex (ix2 c r)
      = col x g w r ⟨3328 + c, by omega⟩ * Ideal.rsqrt (denom e (fun k => col x g w r ⟨3328 + k, by omega⟩) c
        + Ideal.ofBits .f32 0x358637BD#32) * gm (ix2 0 c) * Ideal.ofBits .f32 0x3E38AA3B#32 := by
  frame_out
  pointwise [k0_pay1, k0_pay24, k0_pay10, k0_pay8, k0_pay26]
  simp only [pay2_apply]

/-- The size of an index weight spread over its head's columns, from the three parts of the sizes. -/
abbrev sized (t : Fin 128 → EReal) (c : Fin 512) : EReal :=
  (∑ k : Fin 128, t k * ex (ix2 k c)) + (∑ k : Fin 128, (t k - t k) * ex (ix2 k c))
    + ∑ k : Fin 128, (t k - t k - (t k - t k)) * ex (ix2 k c)

theorem out12_apply (c : Fin 512) (r : Fin 512) :
    out0_12 x g w gq gk gm e ex (ix2 c r)
      = col x g w r ⟨2816 + c, by omega⟩ * (sized ex (fun k => max (col x g w r ⟨3584 + k, by omega⟩)
          (-col x g w r ⟨3584 + k, by omega⟩)) c * Ideal.ofBits .f32 0x3D3504F3#32) := by
  frame_out
  pointwise [k0_pay21, k0_pay25, k0_pay7, k0_pay9]
  simp only [pay2_apply, col_ld]
  rfl

end Cert.Kernel3Ideal.Hand

end
-- ==== Proof.InReference.lean ====
/-
  The projection reference's results read at an index, set beside the row definitions.
-/
module

public import proofs.«01_k».proof.Proof.Gen.Reference3Ideal.Run
public import proofs.«01_k».proof.Proof.InRow
public import Idealize.ShloMosaic.Lib.Pipeline.ValueKit

@[expose] public section

set_option maxRecDepth 16384

noncomputable section

namespace Cert.Reference3Ideal.Hand

open Cert.Reference3Ideal Cert.Reference3Ideal.Gen Idealize.ShloMosaic Idealize.ShloMosaic.TcCoe Idealize.SL.Sem
open Cert.InRow

variable (x : FVec Ideal S1x16384x1024 .f32) (w : FVec Ideal S1024x3656 .f32) (g : FVec Ideal S1024 .f32)
  (gq gk gm : FVec Ideal S64 .f32)

/-- The projected rows. -/
def projected : FVec Ideal S1x16384x3656 .f32 :=
  Host.dotGeneral dot_S1x16384x1024_S1024x3656_S1x16384x3656_2_0_01_1_n_n none
    (mulf (mulf x (broadcastInDim S1x16384x1024 ![0, 1, 2] bcast_S1x16384x1_S1x16384x1024_0_1_2
    (Host.rsqrt (addf (Host.divf (broadcastInDim S1x16384x1 ![0, 1] bcast_S1x16384_S1x16384x1_0_1
      (Host.reduceAdd (mulf x x) (constant S_ .f32 0x00000000#32) reducesTo_S1x16384x1024_S1x16384_d2 h_S_))
      (broadcastInDim S1x16384x1 ![] bcast_S_S1x16384x1 (constant S_ .f32 0x44800000#32)))
      (broadcastInDim S1x16384x1 ![] bcast_S_S1x16384x1 (constant S_ .f32 0x358637BD#32))))))
    (broadcastInDim S1x16384x1024 ![0, 1, 2] bcast_S1x1x1024_S1x16384x1024_0_1_2
      (broadcastInDim S1x1x1024 ![2] bcast_S1024_S1x1x1024_2 g))) w

/-- The heads of `t` divided by their root mean squares, times the gains `g`. -/
def heads (t : FVec Ideal S1x16384x256 .f32) (g : FVec Ideal S64 .f32) : FVec Ideal S1x16384x4x64 .f32 :=
  let y : FVec Ideal S1x16384x4x64 .f32 := shapeCast _ t shapeCasts_S1x16384x256_S1x16384x4x64
  mulf (mulf y (broadcastInDim S1x16384x4x64 ![0, 1, 2, 3] bcast_S1x16384x4x1_S1x16384x4x64_0_1_2_3
    (Host.rsqrt (addf (Host.divf (broadcastInDim S1x16384x4x1 ![0, 1, 2] bcast_S1x16384x4_S1x16384x4x1_0_1_2
      (Host.reduceAdd (mulf y y) (constant S_ .f32 0x00000000#32) reducesTo_S1x16384x4x64_S1x16384x4_d3 h_S_))
      (broadcastInDim S1x16384x4x1 ![] bcast_S_S1x16384x4x1 (constant S_ .f32 0x42800000#32)))
      (broadcastInDim S1x16384x4x1 ![] bcast_S_S1x16384x4x1 (constant S_ .f32 0x358637BD#32))))))
    (broadcastInDim S1x16384x4x64 ![0, 1, 2, 3] bcast_S1x1x1x64_S1x16384x4x64_0_1_2_3
      (broadcastInDim S1x1x1x64 ![3] bcast_S64_S1x1x1x64_3 g))

/-- Heads in the units of the base-two exponent, one column for each row. -/
def scaled (y : FVec Ideal S1x16384x4x64 .f32) : FVec Ideal S256x16384 .bf16 :=
  truncf .bf16 (transpose S256x16384 [1, 0] (shapeCast _ (mulf y
    (broadcastInDim S1x16384x4x64 ![] bcast_S_S1x16384x4x64 (constant S_ .f32 0x3E38AA3B#32)))
    shapeCasts_S1x16384x4x64_S16384x256) transposes_S16384x256_S256x16384_1_0) bitsLt_bf16_f32

/-- The scaled index weights of the projected rows `p`. -/
def weights (p : FVec Ideal S1x16384x3656 .f32) : FVec Ideal S1x16384x8 .f32 :=
  mulf (extractStridedSlice S1x16384x8 ![0, 0, 3392] p slices_S1x16384x3656_S1x16384x8_0_0_3392)
    (broadcastInDim S1x16384x8 ![] bcast_S_S1x16384x8 (constant S_ .f32 0x3D3504F3#32))

/-- The index queries times the sizes of their weights, one column for each row. -/
def queries (p : FVec Ideal S1x16384x3656 .f32) : FVec Ideal S512x16384 .bf16 :=
  truncf .bf16 (transpose S512x16384 [1, 0] (shapeCast _ (mulf (shapeCast _
    (extractStridedSlice S1x16384x512 ![0, 0, 2816] p slices_S1x16384x3656_S1x16384x512_0_0_2816)
    shapeCasts_S1x16384x512_S1x16384x8x64)
    (broadcastInDim S1x16384x8x64 ![0, 1, 2, 3] bcast_S1x16384x8x1_S1x16384x8x64_0_1_2_3
      (broadcastInDim S1x16384x8x1 ![0, 1, 2] bcast_S1x16384x8_S1x16384x8x1_0_1_2 (Host.absf (weights p)))))
    shapeCasts_S1x16384x8x64_S16384x512) transposes_S16384x512_S512x16384_1_0) bitsLt_bf16_f32

/-- The signs of the index weights, one column for each row. -/
def signs (p : FVec Ideal S1x16384x3656 .f32) : FVec Ideal S8x16384 .f32 :=
  transpose S8x16384 [1, 0] (shapeCast _ (select (cmpf .oge (weights p)
    (broadcastInDim S1x16384x8 ![] bcast_S_S1x16384x8 (constant S_ .f32 0x00000000#32)))
    (broadcastInDim S1x16384x8 ![] bcast_S_S1x16384x8 (constant S_ .f32 0x3F800000#32))
    (broadcastInDim S1x16384x8 ![] bcast_S_S1x16384x8 (constant S_ .f32 0xBF800000#32)))
    shapeCasts_S1x16384x8_S16384x8) transposes_S16384x8_S8x16384_1_0

/-- The recurrence's four bands of the projected rows. -/
def bands (p : FVec Ideal S1x16384x3656 .f32) : FVec Ideal S16384x2048 .f32 :=
  shapeCast _ (concatenate S1x16384x2048 2
    [⟨S1x16384x512, extractStridedSlice S1x16384x512 ![0, 0, 0] p slices_S1x16384x3656_S1x16384x512_0_0_0⟩,
     ⟨S1x16384x512, extractStridedSlice S1x16384x512 ![0, 0, 512] p slices_S1x16384x3656_S1x16384x512_0_0_512⟩,
     ⟨S1x16384x512, extractStridedSlice S1x16384x512 ![0, 0, 1024] p slices_S1x16384x3656_S1x16384x512_0_0_1024⟩,
     ⟨S1x16384x512, extractStridedSlice S1x16384x512 ![0, 0, 1536] p slices_S1x16384x3656_S1x16384x512_0_0_1536⟩]
    concatenates_S1x16384x512_S1x16384x512_S1x16384x512_S1x16384x512_S1x16384x2048_d2) shapeCasts_S1x16384x2048_S16384x2048

/-- The reference's eight results. -/
def res0 : FVec Ideal S16384x2048 .f32 := bands (projected x w g)
def res1 : FVec Ideal S256x16384 .bf16 := scaled (heads (extractStridedSlice S1x16384x256 ![0, 0, 2048] (projected x w g) slices_S1x16384x3656_S1x16384x256_0_0_2048) gq)
def res2 : FVec Ideal S16384x256 .bf16 := truncf .bf16 (shapeCast _ (heads (extractStridedSlice S1x16384x256 ![0, 0, 2304] (projected x w g) slices_S1x16384x3656_S1x16384x256_0_0_2304) gk) shapeCasts_S1x16384x4x64_S16384x256) bitsLt_bf16_f32
def res3 : FVec Ideal S256x16384 .bf16 := truncf .bf16 (transpose S256x16384 [1, 0] (shapeCast _ (extractStridedSlice S1x16384x256 ![0, 0, 2560] (projected x w g) slices_S1x16384x3656_S1x16384x256_0_0_2560) shapeCasts_S1x16384x256_S16384x256) transposes_S16384x256_S256x16384_1_0) bitsLt_bf16_f32
def res4 : FVec Ideal S512x16384 .bf16 := queries (projected x w g)
def res5 : FVec Ideal S16384x64 .bf16 := truncf .bf16 (shapeCast _ (extractStridedSlice S1x16384x64 ![0, 0, 3328] (projected x w g) slices_S1x16384x3656_S1x16384x64_0_0_3328) shapeCasts_S1x16384x64_S16384x64) bitsLt_bf16_f32
def res6 : FVec Ideal S8x16384 .f32 := signs (projected x w g)
def res7 : FVec Ideal S256x16384 .bf16 := scaled (heads (extractStridedSlice S1x16384x256 ![0, 0, 3400] (projected x w g) slices_S1x16384x3656_S1x16384x256_0_0_3400) gm)

/-- Column `c` of the projected row `r`. -/
abbrev col (r : Fin 16384) (c : Fin 3656) : EReal :=
  proj (fun k => x (ix3 0 r k)) (fun k => g (ix1 k)) (fun k c => w (ix2 k c)) c

theorem projected_apply (r : Fin 16384) (c : Fin 3656) : projected x w g (ix3 0 r c) = col x w g r c := by
  pointwise [projected]
  rfl

theorem heads_apply (t : FVec Ideal S1x16384x256 .f32) (r : Fin 16384) (h : Fin 4) (j : Fin 64) :
    heads t gq (ix4 0 r h j) = headed (fun k => t (ix3 0 r ⟨64 * h + k, by omega⟩)) (fun k => gq (ix1 k)) j := by
  pointwise [heads]
  simp only [headed, Nat.mul_comm _ 64]

theorem res0_apply (r : Fin 16384) (c : Fin 2048) : res0 x w g (ix2 r c) = col x w g r ⟨c, by omega⟩ := by
  pointwise [res0, bands]
  simp only [projected_apply]
  split_ifs <;> congr 2 <;> omega

theorem res1_apply (r : Fin 16384) (c : Fin 256) : res1 x w g gq (ix2 c r)
    = headed (fun k => col x w g r ⟨2048 + (64 * (c / 64) + k), by omega⟩) (fun k => gq (ix1 k)) ⟨c % 64, by omega⟩ * Ideal.ofBits .f32 0x3E38AA3B#32 := by
  pointwise [res1, scaled]
  simp only [heads_apply]
  congr 2
  funext k
  pointwise
  exact projected_apply ..

theorem res2_apply (r : Fin 16384) (c : Fin 256) : res2 x w g gk (ix2 r c)
    = headed (fun k => col x w g r ⟨2304 + (64 * (c / 64) + k), by omega⟩) (fun k => gk (ix1 k)) ⟨c % 64, by omega⟩ := by
  pointwise [res2]
  rw [heads_apply]
  congr 1
  funext k
  pointwise
  exact projected_apply ..

theorem res3_apply (r : Fin 16384) (c : Fin 256) : res3 x w g (ix2 c r) = col x w g r ⟨2560 + c, by omega⟩ := by
  pointwise [res3]
  exact projected_apply ..

theorem res4_apply (r : Fin 16384) (c : Fin 512) : res4 x w g (ix2 c r) = col x w g r ⟨2816 + c, by omega⟩
    * max (col x w g r ⟨3392 + c / 64, by omega⟩ * Ideal.ofBits .f32 0x3D3504F3#32)
      (-(col x w g r ⟨3392 + c / 64, by omega⟩ * Ideal.ofBits .f32 0x3D3504F3#32)) := by
  pointwise [res4, queries, weights]
  simp only [projected_apply]
  rfl

theorem res5_apply (r : Fin 16384) (c : Fin 64) : res5 x w g (ix2 r c) = col x w g r ⟨3328 + c, by omega⟩ := by
  pointwise [res5]
  exact projected_apply ..

theorem res6_apply (r : Fin 16384) (h : Fin 8) : res6 x w g (ix2 h r)
    = if 0 ≤ col x w g r ⟨3392 + h, by omega⟩ * Ideal.ofBits .f32 0x3D3504F3#32 then 1 else Ideal.ofBits .f32 0xBF800000#32 := by
  pointwise [res6, signs, weights]
  simp only [projected_apply]

theorem res7_apply (r : Fin 16384) (c : Fin 256) : res7 x w g gm (ix2 c r)
    = headed (fun k => col x w g r ⟨3400 + (64 * (c / 64) + k), by omega⟩) (fun k => gm (ix1 k)) ⟨c % 64, by omega⟩ * Ideal.ofBits .f32 0x3E38AA3B#32 := by
  pointwise [res7, scaled]
  simp only [heads_apply]
  congr 2
  funext k
  pointwise
  exact projected_apply ..

end Cert.Reference3Ideal.Hand

end
-- ==== Proof.InWhole.lean ====
/-
  The result arrays of the projection call after the run: each grid point writes its 512 rows of them, and every entry
  is the row definitions' at the argument arrays.
-/
module

public import proofs.«01_k».proof.Proof.InKernel
public import proofs.«01_k».proof.Proof.InReference
public import Idealize.ShloMosaic.Lib.StableHlo.RunRead

@[expose] public section

set_option maxRecDepth 16384

noncomputable section

namespace Cert.Kernel3Ideal.Hand

open Cert.Kernel3Ideal Cert.Kernel3Ideal.Gen Idealize.ShloMosaic Idealize.ShloMosaic.TcCoe Idealize.SL.Sem
open Cert.InRow

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![0, t.val]
    ∧ win0_10.index t = ![t.val, 0] ∧ win0_11.index t = ![0, t.val] ∧ win0_12.index t = ![0, t.val]
    ∧ win0_13.index t = ![t.val, 0] ∧ win0_14.index t = ![0, t.val] ∧ win0_15.index t = ![0, t.val] :=
  (by decide +kernel : ∀ t : Fin grid0.N, _)

variable (t : Fin cfg0.N) (r : Fin 512)

theorem lt_rows : 512 * t.val + r.val < 16384 := by
  have := t.isLt; have : cfg0.N = 32 := rfl; omega

abbrev at_ : Fin 16384 := ⟨512 * t.val + r.val, lt_rows t r⟩

/-- The argument arrays. -/
abbrev ax : FVec Ideal S1x16384x1024 .f32 := m ((c : Thread nD τ).loc main_arg0)
abbrev aw : FVec Ideal S1024x3656 .f32 := m ((c : Thread nD τ).loc main_arg1)
abbrev ag : FVec Ideal S1024 .f32 := m ((c : Thread nD τ).loc main_arg2)
abbrev aq : FVec Ideal S64 .f32 := m ((c : Thread nD τ).loc main_arg3)
abbrev ak : FVec Ideal S64 .f32 := m ((c : Thread nD τ).loc main_arg4)
abbrev am : FVec Ideal S64 .f32 := m ((c : Thread nD τ).loc main_arg5)

/-- The host's lines one after another. -/
theorem staged (b : Ref sig .tc) : V m c b = StableHlo.after (hostOps0 ++ (hostOps0_1 ++ (hostOps0_2 ++ (hostOps0_3 ++ hostOps0_4))))
    (fun b => m (c, b)) (Proc.tc.devRef b) := by
  simp only [V, List.flatten_cons, List.flatten_nil, List.append_nil]

set_option maxHeartbeats 1600000 in
theorem stage_x : (V m c main_v24 : FVec Ideal S16384x1024 .f32) = shapeCast S16384x1024 (ax m c) shapeCasts_S1x16384x1024_S16384x1024 := by
  rw [staged]
  simp only [hostOps0, hostOps0_1, hostOps0_2, hostOps0_3, hostOps0_4, List.cons_append, List.nil_append]
  after_reads_simp
  rfl

set_option maxHeartbeats 1600000 in
theorem stage_g : (V m c main_v25 : FVec Ideal S1x1024 .f32) = broadcastInDim S1x1024 ![1] bcast_S1024_S1x1024_1 (ag m c) := by
  rw [staged]
  simp only [hostOps0, hostOps0_1, hostOps0_2, hostOps0_3, hostOps0_4, List.cons_append, List.nil_append]
  after_reads_simp

set_option maxHeartbeats 1600000 in
theorem stage_w : (V m c main_v23 : FVec Ideal S1024x3712 .bf16) = truncf .bf16 (concatenate S1024x3712 1
    [⟨S1024x3328, extractStridedSlice S1024x3328 ![0, 0] (aw m c) slices_S1024x3656_S1024x3328_0_0⟩,
     ⟨S1024x256, extractStridedSlice S1024x256 ![0, 3400] (aw m c) slices_S1024x3656_S1024x256_0_3400⟩,
     ⟨S1024x72, extractStridedSlice S1024x72 ![0, 3328] (aw m c) slices_S1024x3656_S1024x72_0_3328⟩,
     ⟨S1024x56, broadcastInDim S1024x56 ![] bcast_S_S1024x56 (constant S_ .f32 0x00000000#32 : FVec Ideal S_ .f32)⟩]
    concatenates_S1024x3328_S1024x256_S1024x72_S1024x56_S1024x3712_d1) bitsLt_bf16_f32 := by
  rw [staged]
  simp only [hostOps0, hostOps0_1, hostOps0_2, hostOps0_3, hostOps0_4, List.cons_append, List.nil_append]
  after_reads_simp
  rfl

/-- One head's gains for the four heads. -/
abbrev tiled (g : FVec Ideal S64 .f32) : FVec Ideal S1x256 .f32 :=
  broadcastInDim S1x256 ![1] bcast_S256_S1x256_1 (shapeCast S256 (broadcastInDim S4x64 ![0, 1] bcast_S1x64_S4x64_0_1
    (shapeCast S1x64 g shapeCasts_S64_S1x64)) shapeCasts_S4x64_S256)

set_option maxHeartbeats 1600000 in
theorem stage_q : (V m c main_v29 : FVec Ideal S1x256 .f32) = tiled (aq m c) := by
  rw [staged]
  simp only [hostOps0, hostOps0_1, hostOps0_2, hostOps0_3, hostOps0_4, List.cons_append, List.nil_append]
  after_reads_simp
  rfl

set_option maxHeartbeats 1600000 in
theorem stage_k : (V m c main_v33 : FVec Ideal S1x256 .f32) = tiled (ak m c) := by
  rw [staged]
  simp only [hostOps0, hostOps0_1, hostOps0_2, hostOps0_3, hostOps0_4, List.cons_append, List.nil_append]
  after_reads_simp
  rfl

set_option maxHeartbeats 1600000 in
theorem stage_m : (V m c main_v37 : FVec Ideal S1x256 .f32) = tiled (am m c) := by
  rw [staged]
  simp only [hostOps0, hostOps0_1, hostOps0_2, hostOps0_3, hostOps0_4, List.cons_append, List.nil_append]
  after_reads_simp
  rfl

set_option maxHeartbeats 1600000 in
theorem stage_e : (V m c main_v8 : FVec Ideal S256x256 .bf16) = truncf .bf16 (select (cmpi .eq
      (Host.divsi (iotaInDim S256x256 32 0) (broadcastInDim S256x256 ![] bcast_S_S256x256 (constantI S_ 32 64#32)))
      (Host.divsi (iotaInDim S256x256 32 1) (broadcastInDim S256x256 ![] bcast_S_S256x256 (constantI S_ 32 64#32))))
    (broadcastInDim S256x256 ![] bcast_S_S256x256 (constant S_ .f32 0x3F800000#32))
    (broadcastInDim S256x256 ![] bcast_S_S256x256 (constant S_ .f32 0x00000000#32)) : FVec Ideal S256x256 .f32) bitsLt_bf16_f32 := by
  rw [staged]
  simp only [hostOps0, hostOps0_1, hostOps0_2, hostOps0_3, hostOps0_4, List.cons_append, List.nil_append]
  after_reads_simp
  rfl

set_option maxHeartbeats 1600000 in
theorem stage_ex : (V m c main_v17 : FVec Ideal S128x512 .bf16) = truncf .bf16 (select (cmpi .eq
      (subi (iotaInDim S128x512 32 0) (broadcastInDim S128x512 ![] bcast_S_S128x512 (constantI S_ 32 64#32)))
      (Host.divsi (iotaInDim S128x512 32 1) (broadcastInDim S128x512 ![] bcast_S_S128x512 (constantI S_ 32 64#32))))
    (broadcastInDim S128x512 ![] bcast_S_S128x512 (constant S_ .f32 0x3F800000#32))
    (broadcastInDim S128x512 ![] bcast_S_S128x512 (constant S_ .f32 0x00000000#32)) : FVec Ideal S128x512 .f32) bitsLt_bf16_f32 := by
  rw [staged]
  simp only [hostOps0, hostOps0_1, hostOps0_2, hostOps0_3, hostOps0_4, List.cons_append, List.nil_append]
  after_reads_simp
  rfl

theorem read_x (k : Fin 1024) : (iblk m c 0 t : Vec Ideal S512x1024 .f32) (ix2 r k) = ax m c (ix3 0 (at_ t r) k) := by
  have h : (iblk m c 0 t : Vec Ideal S512x1024 .f32) (ix2 r k) = (V m c main_v24 : FVec Ideal S16384x1024 .f32) (ix2 (at_ t r) k) := by
    unfold iblk
    blk_ext [idx t]
  rw [h, stage_x]
  pointwise

theorem read_g (k : Fin 1024) : (iblk m c 1 t : Vec Ideal S1x1024 .f32) (ix2 0 k) = ag m c (ix1 k) := by
  have h : (iblk m c 1 t : Vec Ideal S1x1024 .f32) (ix2 0 k) = (V m c main_v25 : FVec Ideal S1x1024 .f32) (ix2 0 k) := by
    unfold iblk
    blk_ext [idx t]
  rw [h, stage_g]
  pointwise

theorem read_w (i : Fin 1024) (j : Fin 3712) : (iblk m c 2 t : Vec Ideal S1024x3712 .bf16) (ix2 i j)
    = if h : j.val < 3328 then aw m c (ix2 i ⟨j, by omega⟩)
      else if h' : j.val < 3584 then aw m c (ix2 i ⟨j + 72, by omega⟩)
      else if h'' : j.val < 3656 then aw m c (ix2 i ⟨j - 256, by omega⟩) else (0 : EReal) := by
  have h : (iblk m c 2 t : Vec Ideal S1024x3712 .bf16) (ix2 i j) = (V m c main_v23 : FVec Ideal S1024x3712 .bf16) (ix2 i j) := by
    unfold iblk
    blk_ext [idx t]
  rw [h, stage_w]
  pointwise
  by_cases h1 : j.val < 3328
  · simp only [dif_pos h1]
  · by_cases h2 : j.val < 3584
    · have e : 3400 + (j.val - 3328) = j.val + 72 := by omega
      simp only [dif_neg h1, dif_pos h2, dif_pos (show j.val - 3328 < 256 by omega), e]
    · by_cases h3 : j.val < 3656
      · have e : 3328 + (j.val - 3328 - 256) = j.val - 256 := by omega
        simp only [dif_neg h1, dif_neg h2, dif_pos h3, dif_neg (show ¬ j.val - 3328 < 256 by omega),
          dif_pos (show j.val - 3328 - 256 < 72 by omega), e]
      · simp only [dif_neg h1, dif_neg h2, dif_neg h3, dif_neg (show ¬ j.val - 3328 < 256 by omega),
          dif_neg (show ¬ j.val - 3328 - 256 < 72 by omega)]

theorem tiled_apply (g : FVec Ideal S64 .f32) (j : Fin 256) : tiled g (ix2 0 j) = g (ix1 ⟨j % 64, by omega⟩) := by
  pointwise [tiled]

theorem read_q (j : Fin 256) : (iblk m c 3 t : Vec Ideal S1x256 .f32) (ix2 0 j) = aq m c (ix1 ⟨j % 64, by omega⟩) := by
  have h : (iblk m c 3 t : Vec Ideal S1x256 .f32) (ix2 0 j) = (V m c main_v29 : FVec Ideal S1x256 .f32) (ix2 0 j) := by
    unfold iblk
    blk_ext [idx t]
  rw [h, stage_q, tiled_apply]

theorem read_k (j : Fin 256) : (iblk m c 4 t : Vec Ideal S1x256 .f32) (ix2 0 j) = ak m c (ix1 ⟨j % 64, by omega⟩) := by
  have h : (iblk m c 4 t : Vec Ideal S1x256 .f32) (ix2 0 j) = (V m c main_v33 : FVec Ideal S1x256 .f32) (ix2 0 j) := by
    unfold iblk
    blk_ext [idx t]
  rw [h, stage_k, tiled_apply]

theorem read_m (j : Fin 256) : (iblk m c 5 t : Vec Ideal S1x256 .f32) (ix2 0 j) = am m c (ix1 ⟨j % 64, by omega⟩) := by
  have h : (iblk m c 5 t : Vec Ideal S1x256 .f32) (ix2 0 j) = (V m c main_v37 : FVec Ideal S1x256 .f32) (ix2 0 j) := by
    unfold iblk
    blk_ext [idx t]
  rw [h, stage_m, tiled_apply]

/-- A small word's quotient by 64. -/
theorem quot : ∀ a : Fin 512, IntOp.divsi .host (BitVec.ofNat 32 a) 64#32 = BitVec.ofNat 32 (a / 64) := by
  decide +kernel

theorem same : ∀ a b : Fin 8, IntOp.cmpi .eq (BitVec.ofNat 32 a) (BitVec.ofNat 32 b) = if a = b then 1#1 else 0#1 := by
  decide +kernel

theorem after64 : ∀ (i : Fin 128) (q : Fin 8), IntOp.cmpi .eq (IntOp.subi (BitVec.ofNat 32 i) 64#32) (BitVec.ofNat 32 q)
    = if i.val = 64 + q.val then 1#1 else 0#1 := by
  decide +kernel

theorem read_e (i j : Fin 256) : (iblk m c 6 t : Vec Ideal S256x256 .bf16) (ix2 i j)
    = (if i.val / 64 = j.val / 64 then 1 else 0 : EReal) := by
  have h : (iblk m c 6 t : Vec Ideal S256x256 .bf16) (ix2 i j) = (V m c main_v8 : FVec Ideal S256x256 .bf16) (ix2 i j) := by
    unfold iblk
    blk_ext [idx t]
  rw [h, stage_e]
  pointwise
  rw [quot ⟨i, by omega⟩, quot ⟨j, by omega⟩, same ⟨i / 64, by omega⟩ ⟨j / 64, by omega⟩]
  simp only [Fin.mk.injEq]
  split_ifs <;> rfl

theorem read_ex (i : Fin 128) (j : Fin 512) : (iblk m c 7 t : Vec Ideal S128x512 .bf16) (ix2 i j)
    = (if i.val = 64 + j.val / 64 then 1 else 0 : EReal) := by
  have h : (iblk m c 7 t : Vec Ideal S128x512 .bf16) (ix2 i j) = (V m c main_v17 : FVec Ideal S128x512 .bf16) (ix2 i j) := by
    unfold iblk
    blk_ext [idx t]
  rw [h, stage_ex]
  pointwise
  rw [quot j, after64 i ⟨j / 64, by omega⟩]
  split_ifs <;> rfl

/-- Column `j` of the reference's row that row `r` of point `t`'s block is. -/
abbrev rcol (j : Fin 3656) : EReal := Cert.Reference3Ideal.Hand.col (ax m c) (aw m c) (ag m c) (at_ t r) j

/-- The staged weights' first columns are the argument's. -/
theorem col_low (j : Fin 3712) (h : j.val < 3328) :
    col (iblk m c 0 t) (iblk m c 1 t) (iblk m c 2 t) r j = rcol m c t r ⟨j, by omega⟩ := by
  simp only [col, read_x, read_g, read_w, dif_pos h]
  rfl

/-- The memory queries' columns are brought forward. -/
theorem col_memory (j : Fin 3712) (h : 3328 ≤ j.val) (h' : j.val < 3584) :
    col (iblk m c 0 t) (iblk m c 1 t) (iblk m c 2 t) r j = rcol m c t r ⟨j + 72, by omega⟩ := by
  simp only [col, read_x, read_g, read_w, dif_neg (Nat.not_lt.2 h), dif_pos h']
  rfl

/-- The index keys' and weights' columns come after them. -/
theorem col_index (j : Fin 3712) (h : 3584 ≤ j.val) (h' : j.val < 3656) :
    col (iblk m c 0 t) (iblk m c 1 t) (iblk m c 2 t) r j = rcol m c t r ⟨j - 256, by omega⟩ := by
  simp only [col, read_x, read_g, read_w, dif_neg (show ¬ j.val < 3328 by omega), dif_neg (Nat.not_lt.2 h), dif_pos h']
  rfl

/-- The last columns are zero. -/
theorem col_zero (j : Fin 3712) (h : 3656 ≤ j.val) :
    col (iblk m c 0 t) (iblk m c 1 t) (iblk m c 2 t) r j = 0 := by
  simp only [col, read_x, read_g, read_w, dif_neg (show ¬ j.val < 3328 by omega), dif_neg (show ¬ j.val < 3584 by omega),
    dif_neg (Nat.not_lt.2 h), mul_zero, Finset.sum_const_zero]

/-- The rows, the weights and the rows' gains are real numbers. -/
def Finite : Prop := (∀ i, Real' (ax m c i)) ∧ (∀ i, Real' (aw m c i)) ∧ ∀ i, Real' (ag m c i)

variable {m c} in
theorem rcol_real (hf : Finite m c) (j : Fin 3656) : Real' (rcol m c t r j) :=
  proj_real (fun _ => hf.1 _) (fun _ => hf.2.2 _) (fun _ _ => hf.2.1 _) j

/-- The call's norm of a head is the plain one: the squares are real, so their second and third parts are zero. -/
theorem head_eq (f : Fin 256 → EReal) (hf : ∀ k, Real' (f k)) (g : Fin 64 → EReal) (j : Fin 256) :
    f j * Ideal.rsqrt (denom (iblk m c 6 t) f j + Ideal.ofBits .f32 0x358637BD#32) * g ⟨j % 64, by omega⟩
      = headed (fun k => f ⟨64 * (j / 64) + k, by omega⟩) g ⟨j % 64, by omega⟩ := by
  simp only [denom, read_e, headed]
  rw [three_parts (fun k => f k * f k) _ fun k => (hf k).mul (hf k), sum_head (fun k => f k * f k), mul_head]
  simp only [Nat.div_add_mod]

/-- The spread size of an index weight. -/
theorem sized_eq (hf : Finite m c) (j : Fin 512) :
    sized (iblk m c 7 t) (fun k => max (col (iblk m c 0 t) (iblk m c 1 t) (iblk m c 2 t) r ⟨3584 + k, by omega⟩)
        (-col (iblk m c 0 t) (iblk m c 1 t) (iblk m c 2 t) r ⟨3584 + k, by omega⟩)) j
      = max (rcol m c t r ⟨3392 + j / 64, by omega⟩) (-rcol m c t r ⟨3392 + j / 64, by omega⟩) := by
  have real (k : Fin 128) : Real' (col (iblk m c 0 t) (iblk m c 1 t) (iblk m c 2 t) r ⟨3584 + k, by omega⟩) := by
    by_cases h : 3584 + k.val < 3656
    · rw [col_index m c t r _ (Nat.le_add_right _ _) h]
      exact rcol_real t r hf _
    · rw [col_zero m c t r _ (Nat.not_lt.1 h)]
      exact ⟨0, rfl⟩
  simp only [sized, read_ex]
  rw [three_parts _ _ fun k => (real k).abs, sum_pick _ _ (⟨64 + j / 64, by omega⟩ : Fin 128) fun k => by simp only [Fin.ext_iff],
    col_index m c t r ⟨3584 + (64 + j / 64), by omega⟩ (by simp only []; omega) (by simp only []; omega)]
  have e : 3584 + (64 + j.val / 64) - 256 = 3392 + j.val / 64 := by omega
  simp only [e]

/-- A positive scale comes out of a size. -/
theorem abs_scale (y : EReal) (hy : Real' y) : max y (-y) * Ideal.ofBits .f32 0x3D3504F3#32
    = max (y * Ideal.ofBits .f32 0x3D3504F3#32) (-(y * Ideal.ofBits .f32 0x3D3504F3#32)) := by
  obtain ⟨y, rfl⟩ := hy
  obtain ⟨e, he, h⟩ := scale_pos
  have abs (z : ℝ) : max (z : EReal) (-z) = (|z| : ℝ) := by
    rw [← EReal.coe_neg]
    exact (EReal.coe_strictMono.monotone.map_max).symm
  rw [h, ← EReal.coe_mul, abs, abs, ← EReal.coe_mul, abs_mul, abs_of_pos he]

/-- A positive scale keeps the sign. -/
theorem sign_scale (y : EReal) (hy : Real' y) : 0 ≤ y * Ideal.ofBits .f32 0x3D3504F3#32 ↔ 0 ≤ y := by
  obtain ⟨y, rfl⟩ := hy
  obtain ⟨e, he, h⟩ := scale_pos
  rw [h]
  norm_cast
  exact mul_nonneg_iff_of_pos_right he

open Cert.Reference3Ideal.Hand

/-- The recurrence's bands. -/
theorem rows8 (j : Fin 2048) : out0_8 (iblk m c 0 t) (iblk m c 1 t) (iblk m c 2 t) (iblk m c 3 t) (iblk m c 4 t) (iblk m c 5 t)
        (iblk m c 6 t) (iblk m c 7 t) (ix2 r j)
      = res0 (ax m c) (aw m c) (ag m c) (ix2 (at_ t r) j) := by
  rw [out8_apply, res0_apply, col_low m c t r _ (by show j.val < _; omega)]

/-- The sparse attention's queries. -/
theorem rows9 (hf : Finite m c) (j : Fin 256) : out0_9 (iblk m c 0 t) (iblk m c 1 t) (iblk m c 2 t) (iblk m c 3 t) (iblk m c 4 t) (iblk m c 5 t)
        (iblk m c 6 t) (iblk m c 7 t) (ix2 j r)
      = res1 (ax m c) (aw m c) (ag m c) (aq m c) (ix2 j (at_ t r)) := by
  have e (k : Fin 256) : col (iblk m c 0 t) (iblk m c 1 t) (iblk m c 2 t) r ⟨2048 + k, by omega⟩
      = rcol m c t r ⟨2048 + k, by omega⟩ := by
    exact col_low m c t r _ (by show _ + k.val < _; omega)
  rw [out9_apply, res1_apply]
  simp only [e, read_q]
  exact congrArg (· * _) (head_eq m c t (fun k => rcol m c t r ⟨2048 + k, by omega⟩) (fun k => rcol_real t r hf _)
    (fun k => aq m c (ix1 k)) j)

/-- The sparse attention's keys. -/
theorem rows10 (hf : Finite m c) (j : Fin 256) : out0_10 (iblk m c 0 t) (iblk m c 1 t) (iblk m c 2 t) (iblk m c 3 t) (iblk m c 4 t) (iblk m c 5 t)
        (iblk m c 6 t) (iblk m c 7 t) (ix2 r j)
      = res2 (ax m c) (aw m c) (ag m c) (ak m c) (ix2 (at_ t r) j) := by
  have e (k : Fin 256) : col (iblk m c 0 t) (iblk m c 1 t) (iblk m c 2 t) r ⟨2304 + k, by omega⟩
      = rcol m c t r ⟨2304 + k, by omega⟩ := by
    exact col_low m c t r _ (by show _ + k.val < _; omega)
  rw [out10_apply, res2_apply]
  simp only [e, read_k]
  exact head_eq m c t (fun k => rcol m c t r ⟨2304 + k, by omega⟩) (fun k => rcol_real t r hf _)
    (fun k => ak m c (ix1 k)) j

/-- The sparse attention's values. -/
theorem rows11 (j : Fin 256) : out0_11 (iblk m c 0 t) (iblk m c 1 t) (iblk m c 2 t) (iblk m c 3 t) (iblk m c 4 t) (iblk m c 5 t)
        (iblk m c 6 t) (iblk m c 7 t) (ix2 j r)
      = res3 (ax m c) (aw m c) (ag m c) (ix2 j (at_ t r)) := by
  rw [out11_apply, res3_apply, col_low m c t r _ (by show _ + j.val < _; omega)]

/-- The index queries. -/
theorem rows12 (hf : Finite m c) (j : Fin 512) : out0_12 (iblk m c 0 t) (iblk m c 1 t) (iblk m c 2 t) (iblk m c 3 t) (iblk m c 4 t) (iblk m c 5 t)
        (iblk m c 6 t) (iblk m c 7 t) (ix2 j r)
      = res4 (ax m c) (aw m c) (ag m c) (ix2 j (at_ t r)) := by
  rw [out12_apply, res4_apply, col_low m c t r _ (by show _ + j.val < _; omega), sized_eq m c t r hf,
    abs_scale _ (rcol_real t r hf _)]

/-- The index keys. -/
theorem rows13 (j : Fin 64) : out0_13 (iblk m c 0 t) (iblk m c 1 t) (iblk m c 2 t) (iblk m c 3 t) (iblk m c 4 t) (iblk m c 5 t)
        (iblk m c 6 t) (iblk m c 7 t) (ix2 r j)
      = res5 (ax m c) (aw m c) (ag m c) (ix2 (at_ t r) j) := by
  rw [out13_apply, res5_apply, col_index m c t r _ (Nat.le_add_right _ _) (by show _ + j.val < _; omega)]
  simp only [show 3584 + j.val - 256 = 3328 + j.val by omega]

/-- The signs of the index weights. -/
theorem rows14 (hf : Finite m c) (h : Fin 8) : out0_14 (iblk m c 0 t) (iblk m c 1 t) (iblk m c 2 t) (iblk m c 3 t) (iblk m c 4 t) (iblk m c 5 t)
        (iblk m c 6 t) (iblk m c 7 t) (ix2 h r)
      = res6 (ax m c) (aw m c) (ag m c) (ix2 h (at_ t r)) := by
  rw [out14_apply, res6_apply, col_index m c t r _ (by show _ ≤ _ + h.val; omega) (by show _ + h.val < _; omega)]
  simp only [show 3648 + h.val - 256 = 3392 + h.val by omega, sign_scale _ (rcol_real t r hf _)]

/-- The memory attention's queries. -/
theorem rows15 (hf : Finite m c) (j : Fin 256) : out0_15 (iblk m c 0 t) (iblk m c 1 t) (iblk m c 2 t) (iblk m c 3 t) (iblk m c 4 t) (iblk m c 5 t)
        (iblk m c 6 t) (iblk m c 7 t) (ix2 j r)
      = res7 (ax m c) (aw m c) (ag m c) (am m c) (ix2 j (at_ t r)) := by
  have e (k : Fin 256) : col (iblk m c 0 t) (iblk m c 1 t) (iblk m c 2 t) r ⟨3328 + k, by omega⟩
      = rcol m c t r ⟨3400 + k, by omega⟩ := by
    have := col_memory m c t r ⟨3328 + k, by omega⟩ (Nat.le_add_right _ _) (by show _ + k.val < _; omega)
    simp only [show 3328 + k.val + 72 = 3400 + k.val by omega] at this
    exact this
  rw [out15_apply, res7_apply]
  simp only [e, read_m]
  exact congrArg (· * _) (head_eq m c t (fun k => rcol m c t r ⟨3400 + k, by omega⟩) (fun k => rcol_real t r hf _)
    (fun k => am m c (ix1 k)) j)

/-! The result arrays after the run are the reference's results at the argument arrays. -/

theorem final8 : (dats m 0 c).arrAt 8 (cfgs 0).N = res0 (ax m c) (aw m c) (ag m c) := by
  refine (dats m 0 c).arrAt_eq_of_covers 8 _ (by decide +kernel) fun t _ y => ?_
  blk_simp
  rw [after0_8]
  obtain ⟨r, j, rfl⟩ : ∃ (r : Fin 512) (j : Fin 2048), y = ix2 r j := ⟨y 0, y 1, eq_ix2 y⟩
  refine (rows8 m c t r j).trans (congrArg _ ?_)
  blk_ext [idx t]

theorem final9 (hf : Finite m c) : (dats m 0 c).arrAt 9 (cfgs 0).N = res1 (ax m c) (aw m c) (ag m c) (aq m c) := by
  refine (dats m 0 c).arrAt_eq_of_covers 9 _ (by decide +kernel) fun t _ y => ?_
  blk_simp
  rw [after0_9]
  obtain ⟨j, r, rfl⟩ : ∃ (j : Fin 256) (r : Fin 512), y = ix2 j r := ⟨y 0, y 1, eq_ix2 y⟩
  refine (rows9 m c t r hf j).trans (congrArg _ ?_)
  blk_ext [idx t]

theorem final10 (hf : Finite m c) : (dats m 0 c).arrAt 10 (cfgs 0).N = res2 (ax m c) (aw m c) (ag m c) (ak m c) := by
  refine (dats m 0 c).arrAt_eq_of_covers 10 _ (by decide +kernel) fun t _ y => ?_
  blk_simp
  rw [after0_10]
  obtain ⟨r, j, rfl⟩ : ∃ (r : Fin 512) (j : Fin 256), y = ix2 r j := ⟨y 0, y 1, eq_ix2 y⟩
  refine (rows10 m c t r hf j).trans (congrArg _ ?_)
  blk_ext [idx t]

theorem final11 : (dats m 0 c).arrAt 11 (cfgs 0).N = res3 (ax m c) (aw m c) (ag m c) := by
  refine (dats m 0 c).arrAt_eq_of_covers 11 _ (by decide +kernel) fun t _ y => ?_
  blk_simp
  rw [after0_11]
  obtain ⟨j, r, rfl⟩ : ∃ (j : Fin 256) (r : Fin 512), y = ix2 j r := ⟨y 0, y 1, eq_ix2 y⟩
  refine (rows11 m c t r j).trans (congrArg _ ?_)
  blk_ext [idx t]

theorem final12 (hf : Finite m c) : (dats m 0 c).arrAt 12 (cfgs 0).N = res4 (ax m c) (aw m c) (ag m c) := by
  refine (dats m 0 c).arrAt_eq_of_covers 12 _ (by decide +kernel) fun t _ y => ?_
  blk_simp
  rw [after0_12]
  obtain ⟨j, r, rfl⟩ : ∃ (j : Fin 512) (r : Fin 512), y = ix2 j r := ⟨y 0, y 1, eq_ix2 y⟩
  refine (rows12 m c t r hf j).trans (congrArg _ ?_)
  blk_ext [idx t]

theorem final13 : (dats m 0 c).arrAt 13 (cfgs 0).N = res5 (ax m c) (aw m c) (ag m c) := by
  refine (dats m 0 c).arrAt_eq_of_covers 13 _ (by decide +kernel) fun t _ y => ?_
  blk_simp
  rw [after0_13]
  obtain ⟨r, j, rfl⟩ : ∃ (r : Fin 512) (j : Fin 64), y = ix2 r j := ⟨y 0, y 1, eq_ix2 y⟩
  refine (rows13 m c t r j).trans (congrArg _ ?_)
  blk_ext [idx t]

theorem final14 (hf : Finite m c) : (dats m 0 c).arrAt 14 (cfgs 0).N = res6 (ax m c) (aw m c) (ag m c) := by
  refine (dats m 0 c).arrAt_eq_of_covers 14 _ (by decide +kernel) fun t _ y => ?_
  blk_simp
  rw [after0_14]
  obtain ⟨j, r, rfl⟩ : ∃ (j : Fin 8) (r : Fin 512), y = ix2 j r := ⟨y 0, y 1, eq_ix2 y⟩
  refine (rows14 m c t r hf j).trans (congrArg _ ?_)
  blk_ext [idx t]

theorem final15 (hf : Finite m c) : (dats m 0 c).arrAt 15 (cfgs 0).N = res7 (ax m c) (aw m c) (ag m c) (am m c) := by
  refine (dats m 0 c).arrAt_eq_of_covers 15 _ (by decide +kernel) fun t _ y => ?_
  blk_simp
  rw [after0_15]
  obtain ⟨j, r, rfl⟩ : ∃ (j : Fin 256) (r : Fin 512), y = ix2 j r := ⟨y 0, y 1, eq_ix2 y⟩
  refine (rows15 m c t r hf j).trans (congrArg _ ?_)
  blk_ext [idx t]

end Cert.Kernel3Ideal.Hand

end
-- ==== Proof.InPre.lean ====
/-
  The projection's precondition read: the rows, the weights and the rows' gains are real numbers.
-/
module

public import proofs.«01_k».proof.Pre_finite
public import proofs.«01_k».proof.Proof.InRow
public import Idealize.ShloMosaic.Lib.ReduceAll
public import Idealize.ShloMosaic.Lib.Pipeline.ValueKit

@[expose] public section

noncomputable section

namespace Cert.Pre_finite.Hand

open Cert.Pre_finite Idealize.ShloMosaic
open Cert.InRow

/-- The shapes of the precondition's operations fit. -/
instance facts : Facts where
  bcast_S_S1x16384x1024 := by decide
  reducesTo_S1x16384x1024_S_d0_1_2 := by decide
  h_S_ := by decide
  bcast_S_S1024x3656 := by decide
  reducesTo_S1024x3656_S_d0_1 := by decide
  bcast_S_S1024 := by decide
  reducesTo_S1024_S_d0 := by decide

/-- A number whose size is below infinity is real. -/
theorem real_of_lt {x : EReal} (h : max x (-x) < ⊤) : Real' x := by
  have h1 : x ≠ ⊤ := fun e => by rw [e] at h; simp at h
  have h2 : x ≠ ⊥ := fun e => by rw [e] at h; simp at h
  exact ⟨x.toReal, (EReal.coe_toReal h1 h2).symm⟩

/-- The word of infinity. -/
theorem infinity : Ideal.ofBits .f32 0x7F800000#32 = ⊤ := by
  simp [Ideal.ofBits, Ideal.ieee]

/-- A test of all entries below infinity says each is real. -/
theorem real_of_all {s : Shape} (x : FVec Ideal s .f32) (b : S_.BroadcastsInDim s (![] : Fin 0 → Fin s.rank)) (i : s.Idx)
    (h : cmpf .olt (Host.absf x) (broadcastInDim s ![] b (constant S_ .f32 0x7F800000#32)) i = 1#1) : Real' (x i) := by
  have h' : Ideal.cmp .olt (max (x i) (-x i)) (Ideal.ofBits .f32 0x7F800000#32) = 1#1 := h
  rw [infinity] at h'
  refine real_of_lt ?_
  by_contra hn
  simp [Ideal.cmp, hn] at h'

theorem read (x : FVec Ideal S1x16384x1024 .f32) (w : FVec Ideal S1024x3656 .f32) (g : FVec Ideal S1024 .f32)
    (a b c : FVec Ideal S64 .f32) (h : fn x w g a b c = fun _ => 1#1) :
    (∀ i, Real' (x i)) ∧ (∀ i, Real' (w i)) ∧ ∀ i, Real' (g i) := by
  have h0 := congrFun h ix0
  obtain ⟨h1, h2⟩ := IntOp.andi_eq_one.1 h0
  obtain ⟨h3, h4⟩ := IntOp.andi_eq_one.1 h1
  have : Subsingleton S_.Idx := ⟨fun a b => funext fun i => i.elim0⟩
  exact ⟨fun i => real_of_all x _ i (Host.reduce_andi_all _ _ _ _ _ h3 i), fun i => real_of_all w _ i (Host.reduce_andi_all _ _ _ _ _ h4 i),
    fun i => real_of_all g _ i (Host.reduce_andi_all _ _ _ _ _ h2 i)⟩

end Cert.Pre_finite.Hand

end
-- ==== Proof.HgRow.lean ====
/-
  The gated recurrence over the reals: a state that decays by a factor and takes in a product at every step, written for
  128 steps at once, and the scalar functions of its gates.
-/
module

public import proofs.«01_k».proof.Proof.InRow

@[expose] public section

noncomputable section

namespace Cert.HgRow

open Idealize.ShloMosaic

theorem coe_sum {ι : Type} [Fintype ι] (f : ι → ℝ) : ∑ i, (f i : EReal) = ((∑ i, f i : ℝ) : EReal) :=
  (map_sum (⟨⟨Real.toEReal, rfl⟩, EReal.coe_add⟩ : ℝ →+ EReal) f Finset.univ).symm

/-! ## The gates -/

/-- The logistic function. -/
def sig (x : ℝ) : ℝ := 1 / (1 + Real.exp (-x))

theorem sig_pos (x : ℝ) : 0 < sig x := by unfold sig; positivity

theorem div_coe {a b : ℝ} (hb : b ≠ 0) : Ideal.div (a : EReal) (b : EReal) = ((a / b : ℝ) : EReal) := by
  rw [Ideal.div, if_neg (by exact_mod_cast hb), ← EReal.coe_inv, ← EReal.coe_mul, div_eq_mul_inv]

theorem exp_coe (x : ℝ) : Ideal.exp (x : EReal) = (Real.exp x : EReal) := rfl

theorem log_coe {x : ℝ} (h : 0 < x) : Ideal.log (x : EReal) = (Real.log x : EReal) := if_neg h.not_ge

theorem log1p_coe {x : ℝ} (h : 0 < 1 + x) : Ideal.log1p (x : EReal) = (Real.log (1 + x) : EReal) := by
  unfold Ideal.log1p
  rw [show (1 : EReal) + (x : EReal) = ((1 + x : ℝ) : EReal) by norm_cast, log_coe h]

theorem quotient_sig (x : ℝ) : Ideal.div 1 (1 + Ideal.exp (-(x : EReal))) = (sig x : EReal) := by
  rw [← EReal.coe_neg, exp_coe, show (1 : EReal) + (Real.exp (-x) : EReal) = ((1 + Real.exp (-x) : ℝ) : EReal) by norm_cast,
    ← EReal.coe_one, div_coe (by positivity)]
  rfl

theorem logistic_sig (x : ℝ) : Ideal.logistic (x : EReal) = (sig x : EReal) := quotient_sig x

/-- The decay of a step: the lower bound plus the rest of the gate. -/
def decay (l x : ℝ) : ℝ := l + (1 - l) * sig x

theorem decay_pos {l : ℝ} (h0 : 0 ≤ l) (h1 : l < 1) (x : ℝ) : 0 < decay l x :=
  add_pos_of_nonneg_of_pos h0 (mul_pos (by linarith) (sig_pos x))

/-- The larger of two numbers plus the correction is the logarithm of the sum of their exponentials. -/
theorem log_add (a b : ℝ) : max a b + Real.log (1 + Real.exp (-(max (a - b) (-(a - b))))) = Real.log (Real.exp a + Real.exp b) := by
  have key (a b : ℝ) (h : b ≤ a) : a + Real.log (1 + Real.exp (-(a - b))) = Real.log (Real.exp a + Real.exp b) := by
    rw [show Real.exp a + Real.exp b = Real.exp a * (1 + Real.exp (-(a - b))) by
      rw [mul_add, mul_one, ← Real.exp_add]; congr 2; ring, Real.log_mul (by positivity) (by positivity), Real.log_exp]
  rcases le_total b a with h | h
  · rw [max_eq_left h, max_eq_left (by linarith), key a b h]
  · rw [max_eq_right h, max_eq_right (by linarith), add_comm (Real.exp a), ← key b a h, neg_sub]

/-- The logarithm of the logistic function by a minimum and a correction. -/
theorem log_sig (x : ℝ) : min x 0 - Real.log (1 + Real.exp (-(max x (-x)))) = Real.log (sig x) := by
  unfold sig
  rw [Real.log_div one_ne_zero (by positivity), Real.log_one, zero_sub]
  rcases le_total 0 x with h | h
  · rw [min_eq_right h, max_eq_left (by linarith), zero_sub]
  · rw [min_eq_left h, max_eq_right (by linarith), neg_neg,
      show 1 + Real.exp (-x) = Real.exp (-x) * (1 + Real.exp x) by rw [mul_add, ← Real.exp_add]; simp [add_comm],
      Real.log_mul (by positivity) (by positivity), Real.log_exp]
    ring

/-- The logarithm of the decay, as the call computes it. -/
theorem log_decay {l : ℝ} (h0 : 0 ≤ l) (h1 : l < 1) (x : ℝ) :
    max (Ideal.log l) (Ideal.log1p (0 - (l : EReal)) + (min (x : EReal) 0 - Ideal.log1p (Ideal.exp (0 - max (x : EReal) (-x)))))
      + Ideal.log1p (Ideal.exp (0 - max (Ideal.log l - (Ideal.log1p (0 - (l : EReal)) + (min (x : EReal) 0
        - Ideal.log1p (Ideal.exp (0 - max (x : EReal) (-x)))))) (-(Ideal.log l - (Ideal.log1p (0 - (l : EReal)) + (min (x : EReal) 0
        - Ideal.log1p (Ideal.exp (0 - max (x : EReal) (-x)))))))))
      = (Real.log (decay l x) : EReal) := by
  have h2 : 0 < 1 - l := by linarith
  have e1 : Ideal.log1p (0 - (l : EReal)) = (Real.log (1 - l) : EReal) := by
    rw [show (0 : EReal) - (l : EReal) = ((-l : ℝ) : EReal) by rw [zero_sub, EReal.coe_neg], log1p_coe (by linarith), sub_eq_add_neg]
  have mx (a b : ℝ) : max (a : EReal) (b : EReal) = ((max a b : ℝ) : EReal) := (EReal.coe_strictMono.monotone.map_max).symm
  have mn (a b : ℝ) : min (a : EReal) (b : EReal) = ((min a b : ℝ) : EReal) := (EReal.coe_strictMono.monotone.map_min).symm
  have e2 (y : ℝ) : Ideal.log1p (Ideal.exp (0 - max (y : EReal) (-y))) = (Real.log (1 + Real.exp (-(max y (-y)))) : EReal) := by
    rw [← EReal.coe_neg, mx, zero_sub, ← EReal.coe_neg, exp_coe, log1p_coe (by positivity)]
  have e3 : min (x : EReal) 0 - Ideal.log1p (Ideal.exp (0 - max (x : EReal) (-x))) = (Real.log (sig x) : EReal) := by
    rw [e2, ← EReal.coe_zero, mn, ← EReal.coe_sub, log_sig]
  rw [e3, e1]
  rcases h0.eq_or_lt with rfl | h0
  · rw [show Ideal.log ((0 : ℝ) : EReal) = ⊥ from if_pos le_rfl, ← EReal.coe_add, EReal.bot_sub, EReal.neg_bot, max_bot_left, max_top_right,
      zero_sub, EReal.neg_top, show Ideal.exp ⊥ = ((0 : ℝ) : EReal) from rfl, log1p_coe (by norm_num), ← EReal.coe_add]
    simp [decay]
  rw [log_coe h0, ← EReal.coe_add, ← EReal.coe_sub, e2, mx, ← EReal.coe_add, log_add, Real.exp_log h0,
    Real.exp_add, Real.exp_log h2, Real.exp_log (sig_pos x)]
  rfl

/-! ## The recurrence -/

/-- The sum of the entries up to `j`. -/
def cum (a : Fin 128 → ℝ) (j : Fin 128) : ℝ := ∑ r : Fin 128, if r ≤ j then a r else 0

theorem sum_upto (a : ℕ → ℝ) (j : Fin 128) : (∑ r : Fin 128, if r ≤ j then a r else 0) = ∑ r ∈ Finset.range (j + 1), a r := by
  rw [← Finset.sum_filter, Finset.sum_range fun r => a r]
  refine Finset.sum_nbij' (fun r => if h : r.val < j + 1 then ⟨r, h⟩ else 0) (fun r => ⟨r, by omega⟩) ?_ ?_ ?_ ?_ ?_
  · intro r _; exact Finset.mem_univ _
  · intro r _; rw [Finset.mem_filter]; exact ⟨Finset.mem_univ _, by show r.val ≤ j.val; omega⟩
  · intro r hr; rw [Finset.mem_filter] at hr; have : r.val ≤ j.val := hr.2; simp [show r.val < j + 1 by omega]
  · intro r _; have := r.isLt; simp [show r.val < j.val + 1 from r.isLt]
  · intro r hr; rw [Finset.mem_filter] at hr; have : r.val ≤ j.val := hr.2; simp [show r.val < j + 1 by omega]

/-- The state after the steps up to `j` of a stretch, from the state before it. -/
theorem unrolled (lf b S : ℕ → ℝ) (h : ∀ t, S (t + 1) = Real.exp (lf t) * S t + b t) (t0 j : ℕ) :
    S (t0 + (j + 1)) = Real.exp (∑ r ∈ Finset.range (j + 1), lf (t0 + r)) * S t0
      + ∑ s ∈ Finset.range (j + 1), Real.exp ((∑ r ∈ Finset.range (j + 1), lf (t0 + r)) - ∑ r ∈ Finset.range (s + 1), lf (t0 + r))
        * b (t0 + s) := by
  induction j with
  | zero => simp [h]
  | succ j ih =>
    rw [← Nat.add_assoc t0 (j + 1) 1, h, ih, Finset.sum_range_succ (fun s => Real.exp _ * b (t0 + s)) (j + 1),
      Finset.sum_range_succ (fun r => lf (t0 + r)) (j + 1), sub_self, Real.exp_zero, one_mul, mul_add, Finset.mul_sum,
      ← mul_assoc, ← Real.exp_add, add_comm (lf _), add_assoc]
    congr 2
    refine Finset.sum_congr rfl fun s _ => ?_
    rw [← mul_assoc, ← Real.exp_add]
    congr 2
    ring

/-- The same with the stretch's steps as 128 rows. -/
theorem unrolled_rows (lf b S : ℕ → ℝ) (h : ∀ t, S (t + 1) = Real.exp (lf t) * S t + b t) (t0 : ℕ) (j : Fin 128) :
    S (t0 + (j + 1)) = Real.exp (cum (fun r => lf (t0 + r)) j) * S t0
      + ∑ s : Fin 128, if s ≤ j then Real.exp (cum (fun r => lf (t0 + r)) j - cum (fun r => lf (t0 + r)) s) * b (t0 + s) else 0 := by
  rw [unrolled lf b S h t0 j]
  unfold cum
  simp only [sum_upto fun r => lf (t0 + r)]
  exact congrArg _ (sum_upto (fun s => Real.exp ((∑ r ∈ Finset.range (j + 1), lf (t0 + r))
    - ∑ r ∈ Finset.range (s + 1), lf (t0 + r)) * b (t0 + s)) j).symm

/-! ## Sums between two rows -/

/-- The rows from the start of `t`'s block of `h` to `t`, and those after `s` in the block before it, are the rows between. -/
theorem blocks_sum (a : Fin 128 → ℝ) (h : ℕ) (t s : Fin 128) (hts : t.val / h = s.val / h + 1) (hh : 0 < h) :
    (∑ r : Fin 128, if t.val / h * h ≤ r.val ∧ r.val ≤ t.val then a r else 0)
      + (∑ r : Fin 128, if s.val < r.val ∧ r.val ≤ s.val / h * h + h - 1 then a r else 0) = cum a t - cum a s := by
  unfold cum
  rw [← Finset.sum_add_distrib, ← Finset.sum_sub_distrib]
  have e : t.val / h * h = s.val / h * h + h := by rw [hts, Nat.add_mul, one_mul]
  have h1 : s.val < s.val / h * h + h := Nat.lt_div_mul_add hh
  have h2 : t.val / h * h ≤ t.val := Nat.div_mul_le_self _ _
  refine Finset.sum_congr rfl fun r _ => ?_
  simp only [Fin.le_def]
  rw [e]
  rw [e] at h2
  by_cases c1 : r.val ≤ s.val
  · rw [if_neg (by omega), if_neg (by omega), if_pos (by omega), if_pos c1]; ring
  · by_cases c2 : r.val ≤ t.val
    · by_cases c3 : s.val / h * h + h ≤ r.val
      · rw [if_pos ⟨c3, c2⟩, if_neg (by omega), if_pos c2, if_neg c1]; ring
      · rw [if_neg (by omega), if_pos (by omega), if_pos c2, if_neg c1]; ring
    · rw [if_neg (by omega), if_neg (by omega), if_neg c2, if_neg c1]; ring

/-- Two neighbouring prefix sums differ by the entry between. -/
theorem cum_step (a : Fin 128 → ℝ) {t s : Fin 128} (h : t.val = s.val + 1) : a t = cum a t - cum a s := by
  have e := blocks_sum a 1 t s (by simpa using h) one_pos
  rw [← e, Finset.sum_eq_single t, Finset.sum_eq_zero, add_zero]
  · rw [if_pos (by omega)]
  · intro r _; rw [if_neg (by omega)]
  · intro r _ hr; have : r.val ≠ t.val := fun h => hr (Fin.ext h); rw [if_neg (by omega)]
  · intro hr; exact absurd (Finset.mem_univ _) hr

/-! ## The rows of a stretch -/

section Stretch

variable (l : Fin 128 → ℝ) (q z v : Fin 128 → Fin 128 → ℝ) (s : Fin 128 → Fin 128 → ℝ)

/-- The logarithm of the decay of key `k` at row `t`. -/
def lf (k t : Fin 128) : ℝ := Real.log (decay (l k) (z t k))

/-- The weight of a query. -/
def wq (x : ℝ) : ℝ := x * sig x

/-- The weight of a key: what the decay leaves of one. -/
def wk (l x : ℝ) : ℝ := (1 - l) * sig (-x)

/-- The weight with which row `t` takes the value of row `r`. -/
def att (t r : Fin 128) : ℝ :=
  if r ≤ t then ∑ x, wq (q t x) * wk (l x) (z r x) * Real.exp (cum (lf l z x) t - cum (lf l z x) r) else 0

/-- What row `t` reads: the state before the stretch, decayed, and the values of the stretch's rows up to `t`. -/
def mixed (t d : Fin 128) : ℝ :=
  (∑ x, wq (q t x) * Real.exp (cum (lf l z x) t) * s d x) + ∑ r, att l q z t r * v r d

/-- The state after the stretch. -/
def carried (d k : Fin 128) : ℝ :=
  s d k * Real.exp (cum (lf l z k) 127) + ∑ r, v r d * (wk (l k) (z r k) * Real.exp (cum (lf l z k) 127 - cum (lf l z k) r))

end Stretch

section Recurrence

variable (l : Fin 128 → ℝ) (q z v : ℕ → Fin 128 → ℝ)

/-- The state before row `t`: nothing before the first; every row decays it and adds the product of its key and value. -/
def state : ℕ → Fin 128 → Fin 128 → ℝ
  | 0, _, _ => 0
  | t + 1, k, d => decay (l k) (z t k) * state t k d + wk (l k) (z t k) * v t d

/-- What row `t` reads of the state it leaves. -/
def read (t : ℕ) (d : Fin 128) : ℝ := ∑ k, wq (q t k) * state l z v (t + 1) k d

theorem state_rows (h0 : ∀ k, 0 ≤ l k) (h1 : ∀ k, l k < 1) (n : ℕ) (j k d : Fin 128) :
    state l z v (128 * n + (j + 1)) k d = Real.exp (cum (lf l (fun r => z (128 * n + r)) k) j) * state l z v (128 * n) k d
      + ∑ r : Fin 128, if r ≤ j then Real.exp (cum (lf l (fun r => z (128 * n + r)) k) j - cum (lf l (fun r => z (128 * n + r)) k) r)
          * (wk (l k) (z (128 * n + r) k) * v (128 * n + r) d) else 0 :=
  unrolled_rows (fun t => Real.log (decay (l k) (z t k))) (fun t => wk (l k) (z t k) * v t d) (fun t => state l z v t k d)
    (fun t => by rw [Real.exp_log (decay_pos (h0 k) (h1 k) _)]; rfl) (128 * n) j

/-- A stretch of 128 rows carries the state from its start to the next. -/
theorem carried_state (h0 : ∀ k, 0 ≤ l k) (h1 : ∀ k, l k < 1) (n : ℕ) (d k : Fin 128) :
    carried l (fun r => z (128 * n + r)) (fun r => v (128 * n + r)) (fun d k => state l z v (128 * n) k d) d k
      = state l z v (128 * (n + 1)) k d := by
  rw [show 128 * (n + 1) = 128 * n + (((127 : Fin 128) : ℕ) + 1) from rfl, state_rows l z v h0 h1, carried, mul_comm (state _ _ _ _ _ _)]
  refine congrArg _ (Finset.sum_congr rfl fun r _ => ?_)
  rw [if_pos (show r ≤ 127 from Fin.le_last r)]
  ring

/-- What the rows of a stretch read is what the recurrence's rows read. -/
theorem mixed_read (h0 : ∀ k, 0 ≤ l k) (h1 : ∀ k, l k < 1) (n : ℕ) (t d : Fin 128) :
    mixed l (fun r => q (128 * n + r)) (fun r => z (128 * n + r)) (fun r => v (128 * n + r)) (fun d k => state l z v (128 * n) k d) t d
      = read l q z v (128 * n + t) d := by
  unfold read mixed
  simp only [Nat.add_assoc, state_rows l z v h0 h1, mul_add, Finset.sum_add_distrib, Finset.mul_sum]
  congr 1
  · exact Finset.sum_congr rfl fun k _ => by ring
  · rw [Finset.sum_comm]
    refine Finset.sum_congr rfl fun r _ => ?_
    unfold att
    by_cases h : r ≤ t
    · simp only [if_pos h, Finset.sum_mul]
      exact Finset.sum_congr rfl fun k _ => by ring
    · simp only [if_neg h, zero_mul, mul_zero, Finset.sum_const_zero]

end Recurrence

/-! ## A row's end -/

/-- The root-mean-square norm of a row, with its gain, times the gate's product with its logistic function. -/
def finished (o gain g : Fin 128 → EReal) (d : Fin 128) : EReal :=
  o d * Ideal.rsqrt (Ideal.div (∑ x, o x * o x) (Ideal.ofBits .f32 1124073472#32) + Ideal.ofBits .f32 897988541#32) * gain d
    * (g d * Ideal.logistic (g d))

end Cert.HgRow

end
-- ==== Proof.HgHead.lean ====
/-
  One head of the recurrent call at one grid point, over real entries: what the body's values hold, and that the weights it
  selects level by level are those of the recurrence.
-/
module

public import proofs.«01_k».proof.Proof.Gen.Kernel4Ideal.Skeleton
public import proofs.«01_k».proof.Proof.HgRow
public import Idealize.ShloMosaic.Lib.Pipeline.ValueKit

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Cert.HgRow

/-- The rows of the stack that sum a row's logarithms: between it and its block's ends, for blocks of two and of four, and
    from the stretch's start. -/
def picks (r : Fin 640) (t : Fin 128) : Prop :=
  if r.val < 128 then r.val / 2 * 2 ≤ t.val ∧ t.val ≤ r.val
  else if r.val < 256 then r.val - 128 < t.val ∧ t.val ≤ (r.val - 128) / 2 * 2 + 2 - 1
  else if r.val < 384 then (r.val - 256) / 4 * 4 ≤ t.val ∧ t.val ≤ r.val - 256
  else if r.val < 512 then r.val - 384 < t.val ∧ t.val ≤ (r.val - 384) / 4 * 4 + 4 - 1
  else t.val ≤ r.val - 512

instance (r : Fin 640) (t : Fin 128) : Decidable (picks r t) := by unfold picks; infer_instance

/-- The level of a pair of rows, as the table holds it: the first at which their blocks are neighbours. -/
def Level (w : BitVec 32) (t s : Fin 128) : Prop :=
  (s ≤ t ∧ ((w = 0 ∧ t = s) ∨ (w = 1 ∧ t.val = s.val + 1) ∨ (w = 2 ∧ t.val / 2 = s.val / 2 + 1)
    ∨ (w = 3 ∧ t.val / 4 = s.val / 4 + 1) ∨ (w = 4 ∧ t.val / 8 = s.val / 8 + 1) ∨ (w = 5 ∧ t.val / 16 = s.val / 16 + 1)
    ∨ (w = 6 ∧ t.val / 32 = s.val / 32 + 1) ∨ (w = 7 ∧ t.val / 64 = s.val / 64 + 1))) ∨ (w = -1 ∧ ¬s ≤ t)

section Head

variable (l : Fin 128 → ℝ) (q z v : Fin 128 → Fin 128 → ℝ) (s : Fin 128 → Fin 128 → ℝ)
  (lb gain : FVec Ideal S1x128 .f32) (Q Z V G St : FVec Ideal S128x128 .f32) (M : FVec Ideal S640x128 .bf16) (lvl : IVec S128x128 32)

/-- The logarithms of the decays, as the body computes them. -/
abbrev logs : FVec Ideal S128x128 .f32 := k0_pay12 lb (k0_pay10 (F := Ideal) Z) (k0_pay11 (F := Ideal) Z) (FloatOps.ofBits .f32 0#32)

/-- Their sums by the stack. -/
abbrev sums : FVec Ideal S640x128 .f32 := k0_pay16 lb M (k0_pay10 (F := Ideal) Z) (k0_pay11 (F := Ideal) Z) (FloatOps.ofBits .f32 0#32)

/-- Their prefix sums. -/
abbrev upto : FVec Ideal S128x128 .f32 := k0_pay17 lb M (k0_pay10 (F := Ideal) Z) (k0_pay11 (F := Ideal) Z) (FloatOps.ofBits .f32 0#32)

abbrev keys : FVec Ideal S128x128 .f32 := k0_pay13 (F := Ideal) lb Z
abbrev queries : FVec Ideal S128x128 .f32 := k0_pay14 (F := Ideal) Q

/-- The state one head leaves. -/
def headState : FVec Ideal S128x128 .f32 := k0_pay30 St (keys lb Z) (k0_pay15 (F := Ideal) V) (upto lb Z M)

/-- The rows one head leaves. -/
def headRows : FVec Ideal S128x128 .bf16 :=
  k0_pay33 (k0_pay31 (F := Ideal) G gain lvl St (keys lb Z) (queries Q) (k0_pay15 (F := Ideal) V) (upto lb Z M)
    (k0_pay25 lvl (keys lb Z) (queries Q) (upto lb Z M)
      (k0_pay22 lvl (logs lb Z) (keys lb Z) (queries Q) (sums lb Z M) (k0_pay18 (F := Ideal) lb Z) (k0_pay19 lvl)
        (k0_pay20 (F := Ideal) lb Q Z) k0_pay21)
      (k0_pay23 (keys lb Z) (queries Q) (upto lb Z M)) k0_pay24)
    (k0_pay26 (upto lb Z M)) (k0_pay28 (upto lb Z M)) (k0_pay29 (upto lb Z M)))

theorem picks_two (t u : Fin 128) : picks ⟨t.val, by omega⟩ u ↔ t.val / 2 * 2 ≤ u.val ∧ u.val ≤ t.val := by
  unfold picks; rw [if_pos t.isLt]

theorem picks_two' (s u : Fin 128) : picks ⟨128 + s.val, by omega⟩ u ↔ s.val < u.val ∧ u.val ≤ s.val / 2 * 2 + 2 - 1 := by
  unfold picks; dsimp only; split_ifs <;> omega

theorem picks_four (t u : Fin 128) : picks ⟨256 + t.val, by omega⟩ u ↔ t.val / 4 * 4 ≤ u.val ∧ u.val ≤ t.val := by
  unfold picks; dsimp only; split_ifs <;> omega

theorem picks_four' (s u : Fin 128) : picks ⟨384 + s.val, by omega⟩ u ↔ s.val < u.val ∧ u.val ≤ s.val / 4 * 4 + 4 - 1 := by
  unfold picks; dsimp only; split_ifs <;> omega

theorem picks_start (t u : Fin 128) : picks ⟨512 + t.val, by omega⟩ u ↔ u ≤ t := by
  unfold picks; dsimp only; rw [Fin.le_def]; split_ifs <;> omega

section
variable (hl : ∀ k, lb (ix2 0 k) = (l k : EReal)) (hz : ∀ t k, Z (ix2 t k) = (z t k : EReal)) (h0 : ∀ k, 0 ≤ l k) (h1 : ∀ k, l k < 1)
include hl hz h0 h1

theorem logs_at (t k : Fin 128) : logs lb Z (ix2 t k) = (lf l z k t : EReal) := by
  pointwise [logs, k0_pay12, k0_pay10, k0_pay11]
  rw [hl, hz]
  exact log_decay (h0 k) (h1 k) (z t k)

theorem keys_at (t k : Fin 128) : keys lb Z (ix2 t k) = (wk (l k) (z t k) : EReal) := by
  pointwise [keys, k0_pay13]
  rw [hl, hz, show (0 : EReal) - (z t k : EReal) = ((-z t k : ℝ) : EReal) by rw [zero_sub, EReal.coe_neg], logistic_sig]
  norm_cast

end

theorem queries_at (hq : ∀ t k, Q (ix2 t k) = (q t k : EReal)) (t k : Fin 128) : queries Q (ix2 t k) = (wq (q t k) : EReal) := by
  pointwise [queries, k0_pay14]
  rw [hq, logistic_sig]
  norm_cast

section
variable (hl : ∀ k, lb (ix2 0 k) = (l k : EReal)) (hz : ∀ t k, Z (ix2 t k) = (z t k : EReal)) (h0 : ∀ k, 0 ≤ l k) (h1 : ∀ k, l k < 1)
  (hM : ∀ r t, M (ix2 r t) = if picks r t then 1 else 0)
include hl hz h0 h1 hM

theorem sums_at (r : Fin 640) (k : Fin 128) : sums lb Z M (ix2 r k) = ((∑ t, if picks r t then lf l z k t else 0 : ℝ) : EReal) := by
  have e := logs_at l z lb Z hl hz h0 h1
  revert e
  unfold sums k0_pay16 logs
  generalize k0_pay12 lb (k0_pay10 (F := Ideal) Z) (k0_pay11 (F := Ideal) Z) (FloatOps.ofBits .f32 0#32) = L
  intro e
  pointwise
  simp only [e, hM, ← EReal.coe_sub, sub_self, EReal.coe_zero, sub_zero, mul_zero, Finset.sum_const_zero, add_zero]
  refine Eq.trans (Finset.sum_congr rfl fun t _ => ?_) (coe_sum _)
  split_ifs <;> simp

theorem upto_at (t k : Fin 128) : upto lb Z M (ix2 t k) = (cum (lf l z k) t : EReal) := by
  have e := sums_at l z lb Z M hl hz h0 h1 hM ⟨512 + t.val, by omega⟩ k
  revert e
  unfold upto k0_pay17 sums
  generalize k0_pay16 lb M (k0_pay10 (F := Ideal) Z) (k0_pay11 (F := Ideal) Z) (FloatOps.ofBits .f32 0#32) = E
  intro e
  pointwise
  rw [e, cum]
  refine congrArg _ (Finset.sum_congr rfl fun r _ => ?_)
  simp only [picks_start]

end

/-- A product of weighted rows whose decays' logarithms add up to `c`. -/
theorem product {a b : Fin 128 → EReal} {α β c : Fin 128 → ℝ} (qq kk : Fin 128 → ℝ) (ha : ∀ x, a x = (α x : EReal))
    (hb : ∀ x, b x = (β x : EReal)) (h : ∀ x, α x + β x = c x) :
    ∑ x, (qq x : EReal) * Ideal.exp (a x) * ((kk x : EReal) * Ideal.exp (b x)) = ((∑ x, qq x * kk x * Real.exp (c x) : ℝ) : EReal) := by
  refine Eq.trans (Finset.sum_congr rfl fun x _ => ?_) (coe_sum _)
  rw [ha, hb, exp_coe, exp_coe, ← EReal.coe_mul, ← EReal.coe_mul, ← EReal.coe_mul, ← h x, Real.exp_add]
  congr 1
  ring

/-- The level of a pair of rows selects the term whose blocks are neighbours. -/
theorem select_level {w : BitVec 32} {t r : Fin 128} (h : Level w t r) {T0 T1 T2 T3 T4 T5 T6 T7 X : EReal} (e0 : t = r → T0 = X)
    (e1 : t.val = r.val + 1 → T1 = X) (e2 : t.val / 2 = r.val / 2 + 1 → T2 = X) (e3 : t.val / 4 = r.val / 4 + 1 → T3 = X)
    (e4 : t.val / 8 = r.val / 8 + 1 → T4 = X) (e5 : t.val / 16 = r.val / 16 + 1 → T5 = X) (e6 : t.val / 32 = r.val / 32 + 1 → T6 = X)
    (e7 : t.val / 64 = r.val / 64 + 1 → T7 = X) :
    Scalar.select (IntOp.cmpi CmpIPredicate.eq w 7#32) T7 (Scalar.select (IntOp.cmpi CmpIPredicate.eq w 6#32) T6
      (Scalar.select (IntOp.cmpi CmpIPredicate.eq w 5#32) T5 (Scalar.select (IntOp.cmpi CmpIPredicate.eq w 4#32) T4
      (Scalar.select (IntOp.cmpi CmpIPredicate.eq w 3#32) T3 (Scalar.select (IntOp.cmpi CmpIPredicate.eq w 2#32) T2
      (Scalar.select (IntOp.cmpi CmpIPredicate.eq w 1#32) T1 (Scalar.select (IntOp.cmpi CmpIPredicate.eq w 0#32) T0 0)))))))
      = if r ≤ t then X else 0 := by
  rcases h with ⟨hs, h⟩ | ⟨rfl, hs⟩
  · rw [if_pos hs]
    rcases h with ⟨rfl, h⟩ | ⟨rfl, h⟩ | ⟨rfl, h⟩ | ⟨rfl, h⟩ | ⟨rfl, h⟩ | ⟨rfl, h⟩ | ⟨rfl, h⟩ | ⟨rfl, h⟩
    · exact e0 h
    · exact e1 h
    · exact e2 h
    · exact e3 h
    · exact e4 h
    · exact e5 h
    · exact e6 h
    · exact e7 h
  · rw [if_neg hs]
    rfl

section
variable (hl : ∀ k, lb (ix2 0 k) = (l k : EReal)) (hz : ∀ t k, Z (ix2 t k) = (z t k : EReal)) (h0 : ∀ k, 0 ≤ l k) (h1 : ∀ k, l k < 1)
  (hM : ∀ r t, M (ix2 r t) = if picks r t then 1 else 0) (hq : ∀ t k, Q (ix2 t k) = (q t k : EReal))
  (hw : ∀ t r, Level (lvl (ix2 t r)) t r)
include hl hz h0 h1 hM hq hw

set_option maxHeartbeats 1000000 in
/-- The weights selected level by level are the recurrence's. -/
theorem weights_at (t r : Fin 128) :
    Scalar.select (IntOp.cmpi CmpIPredicate.eq (lvl (ix2 t r)) 7#32)
      (∑ x, queries Q (ix2 t x) * Ideal.exp (k0_pay28 (upto lb Z M) (ix2 t x)) * (keys lb Z (ix2 r x)
        * Ideal.exp (k0_pay29 (upto lb Z M) (ix3 ⟨r.val / 64, by omega⟩ ⟨r.val % 64, by omega⟩ x)
          - k0_pay26 (upto lb Z M) (ix3 ⟨r.val / 64, by omega⟩ ⟨r.val % 64, by omega⟩ x))))
      (k0_pay25 lvl (keys lb Z) (queries Q) (upto lb Z M)
        (k0_pay22 lvl (logs lb Z) (keys lb Z) (queries Q) (sums lb Z M) (k0_pay18 (F := Ideal) lb Z) (k0_pay19 lvl)
          (k0_pay20 (F := Ideal) lb Q Z) k0_pay21)
        (k0_pay23 (keys lb Z) (queries Q) (upto lb Z M)) k0_pay24 (ix2 t r))
      = (att l q z t r : EReal) := by
  have eb := upto_at l z lb Z M hl hz h0 h1 hM
  have es := sums_at l z lb Z M hl hz h0 h1 hM
  have el := logs_at l z lb Z hl hz h0 h1
  have ek := keys_at l z lb Z hl hz h0 h1
  have eq := queries_at q Q hq
  have e18 : k0_pay18 (F := Ideal) lb Z = keys lb Z := rfl
  have e20 (t r : Fin 128) : k0_pay20 (F := Ideal) lb Q Z (ix2 t r) = ∑ x, queries Q (ix2 t x) * keys lb Z (ix2 r x) := by
    unfold k0_pay20; rw [e18]
    show _ = ∑ x, k0_pay14 (F := Ideal) Q (ix2 t x) * keys lb Z (ix2 r x)
    generalize k0_pay14 (F := Ideal) Q = A
    generalize keys lb Z = B
    pointwise
  have w := hw t r
  revert eb es el ek eq e20
  rw [e18]
  generalize upto lb Z M = EB
  generalize sums lb Z M = ES
  generalize logs lb Z = EL
  generalize keys lb Z = EK
  generalize queries Q = EQ
  generalize k0_pay20 (F := Ideal) lb Q Z = E20
  intro eb es el ek eq e20
  pointwise [k0_pay22, k0_pay19, k0_pay21, k0_pay23, k0_pay25, k0_pay24, k0_pay28, k0_pay29, k0_pay26, k0_pay27]
  simp only [e20]
  simp only [eq, ek]
  have hb (h : ℕ) (hh : 0 < h) (n : t.val / h = r.val / h + 1) (x : Fin 128) := blocks_sum (lf l z x) h t r n hh
  refine (select_level (X := ((∑ x, wq (q t x) * wk (l x) (z r x) * Real.exp (cum (lf l z x) t - cum (lf l z x) r) : ℝ) : EReal)) w
    (fun h => ?_) (fun h => ?_) (fun h => ?_) (fun h => ?_) (fun h => ?_) (fun h => ?_) (fun h => ?_) (fun h => ?_)).trans ?_
  · subst h
    refine Eq.trans (Finset.sum_congr rfl fun x _ => ?_) (coe_sum _)
    rw [sub_self, Real.exp_zero, mul_one, EReal.coe_mul]
  · refine Eq.trans (Finset.sum_congr rfl fun x _ => ?_) (coe_sum _)
    rw [el, exp_coe, ← EReal.coe_mul, ← EReal.coe_mul, cum_step (lf l z x) h]
    congr 1
    ring
  · refine product _ _ (fun x => es _ x) (fun x => es _ x) fun x => ?_
    simp only [picks_two, picks_two']
    exact hb 2 (by decide) h x
  · refine product _ _ (fun x => es _ x) (fun x => es _ x) fun x => ?_
    simp only [picks_four, picks_four']
    exact hb 4 (by decide) h x
  · refine product _ _ (fun x => by rw [dif_neg (by omega), eb, eb, ← EReal.coe_sub]) (fun x => by rw [eb, eb, ← EReal.coe_sub]) fun x => ?_
    simp only [show t.val / 8 - 1 = r.val / 8 by omega]
    ring
  · refine product _ _ (fun x => by rw [dif_neg (by omega), eb, eb, ← EReal.coe_sub]) (fun x => by rw [eb, eb, ← EReal.coe_sub]) fun x => ?_
    simp only [show t.val / 16 - 1 = r.val / 16 by omega]
    ring
  · refine product _ _ (fun x => by rw [dif_neg (by omega), eb, eb, ← EReal.coe_sub]) (fun x => by rw [eb, eb, ← EReal.coe_sub]) fun x => ?_
    simp only [show t.val / 32 - 1 = r.val / 32 by omega]
    ring
  · refine product _ _ (fun x => by rw [dif_neg (by omega), eb, eb, ← EReal.coe_sub]) (fun x => by rw [eb, eb, ← EReal.coe_sub]) fun x => ?_
    simp only [show t.val / 64 - 1 = r.val / 64 by omega]
    ring
  · unfold att
    split_ifs <;> rfl

end

section
variable (vb : FVec Ideal S128x128 .bf16) (EK EQ EB A E28 : FVec Ideal S128x128 .f32) (E29 E26 : FVec Ideal S2x64x128 .f32)

/-- The weights of the last selection. -/
abbrev lastSelect (t r : Fin 128) : EReal :=
  Scalar.select (IntOp.cmpi CmpIPredicate.eq (lvl (ix2 t r)) 7#32)
    (∑ x, EQ (ix2 t x) * Ideal.exp (E28 (ix2 t x)) * (EK (ix2 r x)
      * Ideal.exp (E29 (ix3 ⟨r.val / 64, by omega⟩ ⟨r.val % 64, by omega⟩ x)
        - E26 (ix3 ⟨r.val / 64, by omega⟩ ⟨r.val % 64, by omega⟩ x))))
    (A (ix2 t r))

/-- The last stretch of the body: the rows are read, normed and gated. -/
theorem gated_at (t d : Fin 128) :
    k0_pay33 (k0_pay31 (F := Ideal) G gain lvl St EK EQ vb EB A E26 E28 E29) (ix2 t d)
      = finished (fun d => (∑ x, EQ (ix2 t x) * Ideal.exp (EB (ix2 t x)) * St (ix2 d x))
            + ∑ r, lastSelect lvl EK EQ A E28 E29 E26 t r * vb (ix2 r d))
          (fun d => gain (ix2 0 d)) (fun d => G (ix2 t d)) d := by
  pointwise [k0_pay33, k0_pay31]
  rfl

theorem state_at (d k : Fin 128) :
    k0_pay30 (F := Ideal) St EK vb EB (ix2 d k)
      = St (ix2 d k) * Ideal.exp (EB (ix2 127 k)) + ∑ r, vb (ix2 r d) * (EK (ix2 r k) * Ideal.exp (EB (ix2 127 k) - EB (ix2 r k))) := by
  pointwise [k0_pay30]

end

section
variable (hl : ∀ k, lb (ix2 0 k) = (l k : EReal)) (hz : ∀ t k, Z (ix2 t k) = (z t k : EReal)) (h0 : ∀ k, 0 ≤ l k) (h1 : ∀ k, l k < 1)
  (hM : ∀ r t, M (ix2 r t) = if picks r t then 1 else 0) (hv : ∀ t k, V (ix2 t k) = (v t k : EReal)) (hs : ∀ d k, St (ix2 d k) = (s d k : EReal))
include hl hz h0 h1 hM hv hs

/-- The state a head leaves is the recurrence's. -/
theorem headState_at (d k : Fin 128) : headState lb Z V St M (ix2 d k) = (carried l z v s d k : EReal) := by
  have ev (t k : Fin 128) : k0_pay15 (F := Ideal) V (ix2 t k) = (v t k : EReal) := hv t k
  rw [headState, state_at]
  simp only [upto_at l z lb Z M hl hz h0 h1 hM, keys_at l z lb Z hl hz h0 h1, ev, hs, ← EReal.coe_sub, exp_coe, ← EReal.coe_mul, coe_sum,
    ← EReal.coe_add]
  rfl

variable (hq : ∀ t k, Q (ix2 t k) = (q t k : EReal)) (hw : ∀ t r, Level (lvl (ix2 t r)) t r)
include hq hw

/-- The rows a head leaves are the recurrence's, normed and gated. -/
theorem headRows_at (t d : Fin 128) : headRows lb gain Q Z V G St M lvl (ix2 t d)
    = finished (fun d => (mixed l q z v s t d : EReal)) (fun d => gain (ix2 0 d)) (fun d => G (ix2 t d)) d := by
  have ev (t k : Fin 128) : k0_pay15 (F := Ideal) V (ix2 t k) = (v t k : EReal) := hv t k
  rw [headRows, gated_at]
  refine congrArg (fun o => finished o _ _ d) (funext fun d => ?_)
  unfold lastSelect
  simp only [weights_at l q z lb Q Z M lvl hl hz h0 h1 hM hq hw]
  simp only [upto_at l z lb Z M hl hz h0 h1 hM, queries_at q Q hq, ev, hs, exp_coe, ← EReal.coe_mul, coe_sum, ← EReal.coe_add]
  rfl

end

end Head

end Cert.Kernel4Ideal.Hand

end
-- ==== Proof.HgKernel.lean ====
/-
  What one grid point of the recurrent call leaves: each head's rows and state are the same function of the head's columns.
-/
module

public import proofs.«01_k».proof.Proof.Gen.Kernel4Ideal.Value
public import proofs.«01_k».proof.Proof.HgHead
public import Idealize.ShloMosaic.Lib.Pipeline.ReadBack
public import Idealize.ShloMosaic.Lib.Pipeline.ValueKit

@[expose] public section

set_option maxRecDepth 16384

noncomputable section

namespace Cert.Kernel4Ideal.Hand

open Cert.Kernel4Ideal Cert.Kernel4Ideal.Gen Idealize.ShloMosaic Idealize.ShloMosaic.TcCoe Idealize.SL.Sem

/-! ## A head's columns -/

/-- Column `j` of head `h`. -/
def at4 (h : Fin 4) (j : Fin 128) : Fin 512 := ⟨128 * h.val + j.val, by omega⟩

/-- The lower bounds of a head. -/
def lbOf (h : Fin 4) (L : FVec Ideal S1x512 .f32) : FVec Ideal S1x128 .f32 := fun j => L (ix2 0 (at4 h (j 1)))

/-- The columns of a head. -/
def colsOf (h : Fin 4) (X : Vec Ideal S128x512 .f32) : FVec Ideal S128x128 .f32 := fun j => X (ix2 (j 0) (at4 h (j 1)))

/-- The state of a head. -/
def stateOf (h : Fin 4) (X : Vec Ideal S4x128x128 .f32) : FVec Ideal S128x128 .f32 := fun j => X (ix3 h (j 0) (j 1))

section Parts

variable (L : FVec Ideal S1x512 .f32) (X : Vec Ideal S128x512 .f32) (S : Vec Ideal S4x128x128 .f32)

theorem lb0 : extractStridedSlice S1x128 ![0, 0] L slices_S1x512_o0_0_S1x128 = lbOf 0 L := by funext j; unfold lbOf at4; pointwise

theorem lb1 : k0_pay34 (F := Ideal) L = lbOf 1 L := by funext j; unfold lbOf at4; pointwise [k0_pay34]
theorem lb2 : k0_pay62 (F := Ideal) L = lbOf 2 L := by funext j; unfold lbOf at4; pointwise [k0_pay62]
theorem lb3 : k0_pay87 (F := Ideal) L = lbOf 3 L := by funext j; unfold lbOf at4; pointwise [k0_pay87]

theorem cols0 : View.ld X (Rect.unit ![0, 0] ![128, 128] inb_S128x512_S128x128_0_0) = colsOf 0 X := by
  funext j; unfold colsOf at4; pointwise
theorem cols1 : View.ld X (Rect.unit ![0, 128] ![128, 128] inb_S128x512_S128x128_0_128) = colsOf 1 X := by
  funext j; unfold colsOf at4; pointwise
theorem cols2 : View.ld X (Rect.unit ![0, 256] ![128, 128] inb_S128x512_S128x128_0_256) = colsOf 2 X := by
  funext j; unfold colsOf at4; pointwise
theorem cols3 : View.ld X (Rect.unit ![0, 384] ![128, 128] inb_S128x512_S128x128_0_384) = colsOf 3 X := by
  funext j; unfold colsOf at4; pointwise

theorem state0 : k0_pay9 (F := Ideal) (View.ld S (Rect.unit ![0, 0, 0] ![1, 128, 128] inb_S4x128x128_S1x128x128_0_0_0)) = stateOf 0 S := by
  funext j; unfold stateOf; pointwise [k0_pay9]
theorem state1 : k0_pay38 (F := Ideal) (View.ld S (Rect.unit ![1, 0, 0] ![1, 128, 128] inb_S4x128x128_S1x128x128_1_0_0)) = stateOf 1 S := by
  funext j; unfold stateOf; pointwise [k0_pay38]
theorem state2 : k0_pay66 (F := Ideal) (View.ld S (Rect.unit ![2, 0, 0] ![1, 128, 128] inb_S4x128x128_S1x128x128_2_0_0)) = stateOf 2 S := by
  funext j; unfold stateOf; pointwise [k0_pay66]
theorem state3 : k0_pay91 (F := Ideal) (View.ld S (Rect.unit ![3, 0, 0] ![1, 128, 128] inb_S4x128x128_S1x128x128_3_0_0)) = stateOf 3 S := by
  funext j; unfold stateOf; pointwise [k0_pay91]

/-- A matrix under a unit axis. -/
theorem lifted (H : FVec Ideal S128x128 .f32) (x : S1x128x128.Idx) :
    shapeCast S1x128x128 H shapeCasts_S128x128_S1x128x128 x = H (ix2 (x 1) (x 2)) := by pointwise

end Parts

/-! ## Four stores are one array -/

/-- Four states stored one under another. -/
theorem four_states (G : S4x128x128.Idx → EReal) (p0 p1 p2 p3 : S1x128x128.Idx → Elt Ideal .f32)
    (P : List (View.Piece (Elt Ideal) S4x128x128 .f32))
    (h0 : ∀ x, p0 x = G (ix3 0 (x 1) (x 2))) (h1 : ∀ x, p1 x = G (ix3 1 (x 1) (x 2))) (h2 : ∀ x, p2 x = G (ix3 2 (x 1) (x 2)))
    (h3 : ∀ x, p3 x = G (ix3 3 (x 1) (x 2))) :
    View.canon (([⟨Rect.unit ![3, 0, 0] ![1, 128, 128] inb_S4x128x128_S1x128x128_3_0_0, p3⟩,
      ⟨Rect.unit ![2, 0, 0] ![1, 128, 128] inb_S4x128x128_S1x128x128_2_0_0, p2⟩,
      ⟨Rect.unit ![1, 0, 0] ![1, 128, 128] inb_S4x128x128_S1x128x128_1_0_0, p1⟩,
      ⟨Rect.unit ![0, 0, 0] ![1, 128, 128] inb_S4x128x128_S1x128x128_0_0_0, p0⟩] : List (View.Piece (Elt Ideal) S4x128x128 .f32)) ++ P) = G := by
  funext y
  have place (n : Fin 4) (inb) (x : S1x128x128.Idx) :
      (Rect.unit (s := S4x128x128) ![n.val, 0, 0] ![1, 128, 128] inb).emb x = ix3 n (x 1) (x 2) := by
    have hx : (x 0).val = 0 := by have : (x 0).val < 1 := (x 0).isLt; omega
    funext a
    match a with
    | ⟨0, _⟩ => apply Fin.ext; show n.val + 1 * (x 0).val = n.val; omega
    | ⟨1, _⟩ => apply Fin.ext; show 0 + 1 * (x 1).val = (x 1).val; omega
    | ⟨2, _⟩ => apply Fin.ext; show 0 + 1 * (x 2).val = (x 2).val; omega
  refine View.canon_append_of_piecesOf (Val := Elt Ideal) (e := .f32) G P _ ?_ y ?_
  rotate_left
  · exact View.cover_of_tiledL _ ![1, 128, 128] (by sl_kernel_rfl) y
  refine ⟨fun x => ?_, fun x => ?_, fun x => ?_, fun x => ?_, trivial⟩
  · exact (h3 x).trans (congrArg G (place 3 inb_S4x128x128_S1x128x128_3_0_0 x).symm)
  · exact (h2 x).trans (congrArg G (place 2 inb_S4x128x128_S1x128x128_2_0_0 x).symm)
  · exact (h1 x).trans (congrArg G (place 1 inb_S4x128x128_S1x128x128_1_0_0 x).symm)
  · exact (h0 x).trans (congrArg G (place 0 inb_S4x128x128_S1x128x128_0_0_0 x).symm)

/-- Four heads' rows stored side by side. -/
theorem four_rows (G : S128x512.Idx → EReal) (p0 p1 p2 p3 : S128x128.Idx → Elt Ideal .bf16)
    (h0 : ∀ x, p0 x = G (ix2 (x 0) (at4 0 (x 1)))) (h1 : ∀ x, p1 x = G (ix2 (x 0) (at4 1 (x 1))))
    (h2 : ∀ x, p2 x = G (ix2 (x 0) (at4 2 (x 1)))) (h3 : ∀ x, p3 x = G (ix2 (x 0) (at4 3 (x 1)))) :
    View.canon (([⟨Rect.unit ![0, 384] ![128, 128] inb_S128x512_S128x128_0_384, p3⟩,
      ⟨Rect.unit ![0, 256] ![128, 128] inb_S128x512_S128x128_0_256, p2⟩,
      ⟨Rect.unit ![0, 128] ![128, 128] inb_S128x512_S128x128_0_128, p1⟩,
      ⟨Rect.unit ![0, 0] ![128, 128] inb_S128x512_S128x128_0_0, p0⟩] : List (View.Piece (Elt Ideal) S128x512 .bf16)) ++ []) = G := by
  funext y
  have place (n : Fin 4) (inb) (x : S128x128.Idx) :
      (Rect.unit (s := S128x512) ![0, 128 * n.val] ![128, 128] inb).emb x = ix2 (x 0) (at4 n (x 1)) := by
    funext a
    match a with
    | ⟨0, _⟩ => apply Fin.ext; show 0 + 1 * (x 0).val = (x 0).val; omega
    | ⟨1, _⟩ => apply Fin.ext; show 128 * n.val + 1 * (x 1).val = 128 * n.val + (x 1).val; omega
  refine View.canon_append_of_piecesOf (Val := Elt Ideal) (e := .bf16) G [] _ ?_ y ?_
  rotate_left
  · exact View.cover_of_tiledL _ ![128, 128] (by sl_kernel_rfl) y
  refine ⟨fun x => ?_, fun x => ?_, fun x => ?_, fun x => ?_, trivial⟩
  · exact (h3 x).trans (congrArg G (place 3 inb_S128x512_S128x128_0_384 x).symm)
  · exact (h2 x).trans (congrArg G (place 2 inb_S128x512_S128x128_0_256 x).symm)
  · exact (h1 x).trans (congrArg G (place 1 inb_S128x512_S128x128_0_128 x).symm)
  · exact (h0 x).trans (congrArg G (place 0 inb_S128x512_S128x128_0_0 x).symm)

/-! ## A grid point -/

section Point

variable (X0 X1 X2 X3 : Vec Ideal S128x512 .f32) (L : FVec Ideal S1x512 .f32) (X5 : Vec Ideal S1x128 .f32) (X6 : Vec Ideal S640x128 .bf16)
  (X7 : Vec Ideal S128x128 .i32) (S : Vec Ideal S4x128x128 .f32)

/-- The state head `h` leaves, of the blocks and the state it finds. -/
def stateBy (h : Fin 4) : FVec Ideal S128x128 .f32 :=
  headState (lbOf h L) (colsOf h X1) (colsOf h X2) (stateOf h S) (k0_pay7 (F := Ideal) X6)

/-- The rows head `h` leaves, of the blocks and the state it finds. -/
def rowsBy (h : Fin 4) : FVec Ideal S128x128 .bf16 :=
  headRows (lbOf h L) (k0_pay6 (F := Ideal) X5) (colsOf h X0) (colsOf h X1) (colsOf h X2) (colsOf h X3) (stateOf h S)
    (k0_pay7 (F := Ideal) X6) (k0_pay8 (F := Ideal) X7)

/-- The state a point leaves. -/
def pointState : Vec Ideal S4x128x128 .f32 := fun y => stateBy X1 X2 L X6 S (y 0) (ix2 (y 1) (y 2))

/-- The rows a point leaves. -/
def pointRows : Vec Ideal S128x512 .bf16 := fun y =>
  rowsBy X0 X1 X2 X3 L X5 X6 X7 S ⟨(y 1).val / 128, by have : (y 1).val < 512 := (y 1).isLt; omega⟩ (ix2 (y 0) ⟨(y 1).val % 128, by omega⟩)

theorem lifted_at (h : Fin 4) (x : S1x128x128.Idx) :
    shapeCast S1x128x128 (stateBy X1 X2 L X6 S h) shapeCasts_S128x128_S1x128x128 x
      = pointState X1 X2 L X6 S (ix3 h (x 1) (x 2)) := lifted _ x

theorem pointRows_at (h : Fin 4) (x : S128x128.Idx) :
    pointRows X0 X1 X2 X3 L X5 X6 X7 S (ix2 (x 0) (at4 h (x 1))) = rowsBy X0 X1 X2 X3 L X5 X6 X7 S h x := by
  have hx : (x 1).val < 128 := (x 1).isLt
  have e1 : (⟨(at4 h (x 1)).val / 128, by have := (at4 h (x 1)).isLt; omega⟩ : Fin 4) = h := by
    apply Fin.ext; show (128 * h.val + (x 1).val) / 128 = h.val; omega
  have e2 : (⟨(at4 h (x 1)).val % 128, by omega⟩ : Fin 128) = x 1 := by
    apply Fin.ext; show (128 * h.val + (x 1).val) % 128 = (x 1).val; omega
  show rowsBy X0 X1 X2 X3 L X5 X6 X7 S ⟨(at4 h (x 1)).val / 128, _⟩ (ix2 (x 0) ⟨(at4 h (x 1)).val % 128, _⟩) = _
  rw [e1, e2, ← eq_ix2]

end Point

variable (m : (ℓ : Loc nD τ sig) → Buf (Elt Ideal) ℓ)

theorem state_B (c : Dev nD) (t : Fin cfg0.N) (ht : ¬t.val % 128 = 0) :
    (outsAt0 m c t.val t.isLt).2
      = pointState (iblk m c 1 t) (iblk m c 2 t) (k0_pay4 (F := Ideal) (iblk m c 4 t)) (iblk m c 6 t) (outsAt0 m c (t.val - 1) (by omega)).2 := by
  rw [outsAt0_B m c t ht]
  dsimp only
  frame_out
  simp only [read_unread_whole]
  generalize (outsAt0 m c (t.val - 1) _).2 = S
  generalize iblk m c 1 t = X1
  generalize iblk m c 2 t = X2
  generalize iblk m c 4 t = X4
  generalize iblk m c 6 t = X6
  refine four_states (pointState X1 X2 (k0_pay4 (F := Ideal) X4) X6 S) _ _ _ _ [] (fun x => ?_) (fun x => ?_) (fun x => ?_) (fun x => ?_)
  · rw [← lifted_at X1 X2 (k0_pay4 (F := Ideal) X4) X6 S 0, stateBy, ← lb0, ← cols0, ← cols0, ← state0]; rfl
  · rw [← lifted_at X1 X2 (k0_pay4 (F := Ideal) X4) X6 S 1, stateBy, ← lb1, ← cols1, ← cols1, ← state1]; rfl
  · rw [← lifted_at X1 X2 (k0_pay4 (F := Ideal) X4) X6 S 2, stateBy, ← lb2, ← cols2, ← cols2, ← state2]; rfl
  · rw [← lifted_at X1 X2 (k0_pay4 (F := Ideal) X4) X6 S 3, stateBy, ← lb3, ← cols3, ← cols3, ← state3]; rfl

theorem state_A (c : Dev nD) (t : Fin cfg0.N) (ht : t.val % 128 = 0) :
    (outsAt0 m c t.val t.isLt).2
      = pointState (iblk m c 1 t) (iblk m c 2 t) (k0_pay4 (F := Ideal) (iblk m c 4 t)) (iblk m c 6 t) (k0_pay3 (F := Ideal)) := by
  rw [outsAt0_A m c t ht]
  dsimp only
  frame_open
  simp (disch := decide) only [↓ View.readCov_skip, ↓ View.readCov_cons_toLoadRect, ↓ View.readCov_fill]
  frame_out
  generalize iblk m c 1 t = X1
  generalize iblk m c 2 t = X2
  generalize iblk m c 4 t = X4
  generalize iblk m c 6 t = X6
  refine four_states (pointState X1 X2 (k0_pay4 (F := Ideal) X4) X6 (k0_pay3 (F := Ideal))) _ _ _ _ _ (fun x => ?_) (fun x => ?_) (fun x => ?_) (fun x => ?_)
  · rw [← lifted_at X1 X2 (k0_pay4 (F := Ideal) X4) X6 (k0_pay3 (F := Ideal)) 0, stateBy, ← lb0, ← cols0, ← cols0, ← state0]; rfl
  · rw [← lifted_at X1 X2 (k0_pay4 (F := Ideal) X4) X6 (k0_pay3 (F := Ideal)) 1, stateBy, ← lb1, ← cols1, ← cols1, ← state1]; rfl
  · rw [← lifted_at X1 X2 (k0_pay4 (F := Ideal) X4) X6 (k0_pay3 (F := Ideal)) 2, stateBy, ← lb2, ← cols2, ← cols2, ← state2]; rfl
  · rw [← lifted_at X1 X2 (k0_pay4 (F := Ideal) X4) X6 (k0_pay3 (F := Ideal)) 3, stateBy, ← lb3, ← cols3, ← cols3, ← state3]; rfl

theorem rows_B (c : Dev nD) (t : Fin cfg0.N) (ht : ¬t.val % 128 = 0) :
    (outsAt0 m c t.val t.isLt).1
      = pointRows (iblk m c 0 t) (iblk m c 1 t) (iblk m c 2 t) (iblk m c 3 t)
          (k0_pay4 (F := Ideal) (iblk m c 4 t)) (iblk m c 5 t) (iblk m c 6 t) (iblk m c 7 t)
          (outsAt0 m c (t.val - 1) (by omega)).2 := by
  rw [outsAt0_B m c t ht]
  dsimp only
  frame_out
  simp only [read_unread_whole]
  generalize (outsAt0 m c (t.val - 1) _).2 = S
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  refine four_rows (pointRows X0 X1 X2 X3 (k0_pay4 (F := Ideal) X4) X5 X6 X7 S) _ _ _ _ (fun x => ?_) (fun x => ?_) (fun x => ?_) (fun x => ?_)
  · rw [pointRows_at, rowsBy, ← lb0, ← cols0, ← cols0, ← cols0, ← cols0, ← state0]; rfl
  · rw [pointRows_at, rowsBy, ← lb1, ← cols1, ← cols1, ← cols1, ← cols1, ← state1]; rfl
  · rw [pointRows_at, rowsBy, ← lb2, ← cols2, ← cols2, ← cols2, ← cols2, ← state2]; rfl
  · rw [pointRows_at, rowsBy, ← lb3, ← cols3, ← cols3, ← cols3, ← cols3, ← state3]; rfl

theorem rows_A (c : Dev nD) (t : Fin cfg0.N) (ht : t.val % 128 = 0) :
    (outsAt0 m c t.val t.isLt).1
      = pointRows (iblk m c 0 t) (iblk m c 1 t) (iblk m c 2 t) (iblk m c 3 t)
          (k0_pay4 (F := Ideal) (iblk m c 4 t)) (iblk m c 5 t) (iblk m c 6 t) (iblk m c 7 t)
          (k0_pay3 (F := Ideal)) := by
  rw [outsAt0_A m c t ht]
  dsimp only
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  refine four_rows (pointRows X0 X1 X2 X3 (k0_pay4 (F := Ideal) X4) X5 X6 X7 (k0_pay3 (F := Ideal))) _ _ _ _ (fun x => ?_) (fun x => ?_) (fun x => ?_) (fun x => ?_)
  · rw [pointRows_at, rowsBy, ← lb0, ← cols0, ← cols0, ← cols0, ← cols0, ← state0]; rfl
  · rw [pointRows_at, rowsBy, ← lb1, ← cols1, ← cols1, ← cols1, ← cols1, ← state1]; rfl
  · rw [pointRows_at, rowsBy, ← lb2, ← cols2, ← cols2, ← cols2, ← cols2, ← state2]; rfl
  · rw [pointRows_at, rowsBy, ← lb3, ← cols3, ← cols3, ← cols3, ← cols3, ← state3]; rfl

end Cert.Kernel4Ideal.Hand

end
-- ==== Proof.HgCall.lean ====
/-
  The recurrent call's result, entry by entry: the row definitions at the call's argument arrays.
-/
module

public import proofs.«01_k».proof.Proof.HgRow

@[expose] public section

noncomputable section

namespace Cert.HgCall

open Idealize.ShloMosaic Cert.InRow Cert.HgRow

/-! ## The lower bounds -/

/-- The second of two numbers' softmax. -/
def low (a b : ℝ) : ℝ := Real.exp (b - max a b) / (Real.exp (a - max a b) + Real.exp (b - max a b))

theorem low_pos (a b : ℝ) : 0 < low a b := by unfold low; positivity

theorem low_lt (a b : ℝ) : low a b < 1 := by
  unfold low
  rw [div_lt_one (by positivity)]
  have := Real.exp_pos (a - max a b)
  linarith

theorem bottom : Ideal.ofBits .f32 4286578688#32 = ⊥ := by
  simp [Ideal.ofBits, Ideal.ieee]

/-- The largest of two real numbers, folded from below all of them. -/
theorem largest (f : Fin 2 → EReal) (a b : ℝ) (h0 : f 0 = a) (h1 : f 1 = b) :
    Finset.fold max (Ideal.ofBits .f32 4286578688#32) f Finset.univ = ((max a b : ℝ) : EReal) := by
  rw [show (Finset.univ : Finset (Fin 2)) = {0, 1} from rfl, Finset.fold_insert (by decide), Finset.fold_singleton, bottom, h0, h1,
    max_bot_right]
  exact (Monotone.map_max EReal.coe_strictMono.monotone).symm

theorem softmax_low (f : Fin 2 → EReal) (hf : ∀ i, Real' (f i)) :
    Ideal.div (Ideal.exp (f 1 - Finset.fold max (Ideal.ofBits .f32 4286578688#32) f Finset.univ))
      (∑ x, Ideal.exp (f x - Finset.fold max (Ideal.ofBits .f32 4286578688#32) f Finset.univ))
    = (low (f 0).toReal (f 1).toReal : EReal) := by
  obtain ⟨a, ha⟩ := hf 0
  obtain ⟨b, hb⟩ := hf 1
  rw [largest f a b ha hb, Fin.sum_univ_two, ha, hb, EReal.toReal_coe, EReal.toReal_coe, ← EReal.coe_sub, ← EReal.coe_sub, exp_coe,
    exp_coe, ← EReal.coe_add, div_coe (by positivity)]
  rfl

theorem bottom_max (x : EReal) : max (Ideal.ofBits .f32 4286578688#32) x = x := by rw [bottom, max_bot_left]

/-! ## The call -/

variable (X : Fin 16384 → Fin 2048 → EReal) (L : Fin 2 → Fin 512 → EReal) (B : Fin 4 → Fin 128 → ℝ) (G : Fin 128 → EReal)

/-- Column `k` of head `h` in part `p` of a row's four parts. -/
def place (p h : Fin 4) (k : Fin 128) : Fin 2048 := ⟨512 * p.val + 128 * h.val + k.val, by omega⟩

/-- Column `k` of head `h`. -/
def column (h : Fin 4) (k : Fin 128) : Fin 512 := ⟨128 * h.val + k.val, by omega⟩

/-- An entry of row `t`. -/
def part (p h : Fin 4) (t : ℕ) (k : Fin 128) : ℝ := if ht : t < 16384 then (X ⟨t, ht⟩ (place p h k)).toReal else 0

theorem part_coe (hX : ∀ i j, Real' (X i j)) (p h : Fin 4) (t : Fin 16384) (k : Fin 128) :
    (part X p h t.val k : EReal) = X t (place p h k) := by
  rw [part, dif_pos t.isLt]
  obtain ⟨r, hr⟩ := hX t (place p h k)
  show (((X t (place p h k)).toReal : ℝ) : EReal) = X t (place p h k)
  rw [hr, EReal.toReal_coe]

/-- A head's lower bounds in the second layer. -/
def bound (h : Fin 4) (k : Fin 128) : ℝ := low (L 0 (column h k)).toReal (L 1 (column h k)).toReal

theorem bound_nonneg (h : Fin 4) (k : Fin 128) : 0 ≤ bound L h k := (low_pos _ _).le
theorem bound_lt (h : Fin 4) (k : Fin 128) : bound L h k < 1 := low_lt _ _

/-- A head's state before row `t`. -/
def held (h : Fin 4) (t : ℕ) (k d : Fin 128) : ℝ := state (B h) (part X 1 h) (part X 2 h) t k d

/-- What a head reads at row `t`. -/
def seen (h : Fin 4) (t : ℕ) (d : Fin 128) : ℝ := read (B h) (part X 0 h) (part X 1 h) (part X 2 h) t d

/-- The call's result at row `t`, column `d` of head `h`, with the heads' lower bounds `B`. -/
def result (t : Fin 16384) (h : Fin 4) (d : Fin 128) : EReal :=
  finished (fun d => (seen X B h t.val d : EReal)) G (fun d => X t (place 3 h d)) d

end Cert.HgCall

end
-- ==== Proof.HgPoint.lean ====
/-
  One grid point of the recurrent call against the recurrence: from the state before the point's 128 rows it leaves the
  state after them, and it writes the rows' results.
-/
module

public import proofs.«01_k».proof.Proof.HgKernel
public import proofs.«01_k».proof.Proof.HgCall

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Cert.InRow Cert.HgRow Cert.HgCall

theorem zero_at (h : Fin 4) (j k : Fin 128) : k0_pay3 (F := Ideal) (ix3 h j k) = (0 : EReal) := by
  pointwise [k0_pay3]

theorem gain_at (X : Vec Ideal S1x128 .f32) (k : Fin 128) : k0_pay6 (F := Ideal) X (ix2 0 k) = X (ix2 0 k) := by
  pointwise [k0_pay6]

theorem stack_at (X : Vec Ideal S640x128 .bf16) (i : Fin 640) (k : Fin 128) : k0_pay7 (F := Ideal) X (ix2 i k) = X (ix2 i k) := by
  pointwise [k0_pay7]

theorem level_at (X : Vec Ideal S128x128 .i32) (i : Fin 128) (k : Fin 128) : k0_pay8 (F := Ideal) X (ix2 i k) = X (ix2 i k) := by
  pointwise [k0_pay8]

variable (X : Fin 16384 → Fin 2048 → EReal) (B : Fin 4 → Fin 128 → ℝ) (G : Fin 128 → EReal)

/-- Row `r` of point `t`. -/
abbrev rowAt (t r : Fin 128) : Fin 16384 := ⟨128 * t.val + r.val, by omega⟩

/-- What point `t` is given besides the state: four blocks of the rows, the lower bounds, the gains and the tables. -/
structure Given (t : Fin 128) (X0 X1 X2 X3 : Vec Ideal S128x512 .f32) (L : FVec Ideal S1x512 .f32) (X5 : Vec Ideal S1x128 .f32)
    (X6 : Vec Ideal S640x128 .bf16) (X7 : Vec Ideal S128x128 .i32) : Prop where
  query : ∀ r j, X0 (ix2 r j) = X (rowAt t r) ⟨j.val, by omega⟩
  gate : ∀ r j, X1 (ix2 r j) = X (rowAt t r) ⟨512 + j.val, by omega⟩
  value : ∀ r j, X2 (ix2 r j) = X (rowAt t r) ⟨1024 + j.val, by omega⟩
  last : ∀ r j, X3 (ix2 r j) = X (rowAt t r) ⟨1536 + j.val, by omega⟩
  low : ∀ h k, L (ix2 0 (at4 h k)) = (B h k : EReal)
  gain : ∀ k, X5 (ix2 0 k) = G k
  stack : ∀ i k, X6 (ix2 i k) = (if picks i k then 1 else 0 : EReal)
  level : ∀ i r, Level (X7 (ix2 i r)) i r

variable {X B G} {t : Fin 128} {X0 X1 X2 X3 : Vec Ideal S128x512 .f32} {L : FVec Ideal S1x512 .f32} {X5 : Vec Ideal S1x128 .f32}
  {X6 : Vec Ideal S640x128 .bf16} {X7 : Vec Ideal S128x128 .i32} {S : Vec Ideal S4x128x128 .f32}

/-- An entry of one of the four blocks is the row's. -/
theorem entry (hx : ∀ i j, Real' (X i j)) (p h : Fin 4) (r k : Fin 128) (j : Fin 2048) (hj : j.val = 512 * p.val + (128 * h.val + k.val)) :
    X (rowAt t r) j = (part X p h (128 * t.val + r.val) k : EReal) := by
  refine Eq.trans ?_ (part_coe X hx p h (rowAt t r) k).symm
  exact congrArg (X (rowAt t r)) (Fin.ext (by simp only [place]; omega))

variable (g : Given X B G t X0 X1 X2 X3 L X5 X6 X7) (hx : ∀ i j, Real' (X i j)) (h0 : ∀ h k, 0 ≤ B h k) (h1 : ∀ h k, B h k < 1)
  (hS : ∀ h d k, S (ix3 h d k) = (held X B h (128 * t.val) k d : EReal))
include g hx h0 h1 hS

theorem pointState_at (h : Fin 4) (d k : Fin 128) :
    pointState X1 X2 L X6 S (ix3 h d k) = (held X B h (128 * (t.val + 1)) k d : EReal) := by
  show stateBy X1 X2 L X6 S h (ix2 d k) = _
  unfold stateBy held
  rw [← carried_state (B h) (part X 1 h) (part X 2 h) (h0 h) (h1 h) t.val d k]
  exact headState_at _ _ _ _ _ _ _ _ _ (g.low h) (fun r k => (g.gate r (at4 h k)).trans (entry hx 1 h r k _ rfl)) (h0 h) (h1 h)
    (fun r i => (stack_at _ r i).trans (g.stack r i)) (fun r k => (g.value r (at4 h k)).trans (entry hx 2 h r k _ rfl))
    (fun d k => hS h d k) d k

theorem pointRows_result (r : Fin 128) (h : Fin 4) (d : Fin 128) :
    pointRows X0 X1 X2 X3 L X5 X6 X7 S (ix2 r (at4 h d)) = result X B G (rowAt t r) h d := by
  refine (pointRows_at _ _ _ _ _ _ _ _ S h (ix2 r d)).trans ?_
  refine Eq.trans (headRows_at (B h) (fun r => part X 0 h (128 * t.val + r)) (fun r => part X 1 h (128 * t.val + r))
    (fun r => part X 2 h (128 * t.val + r)) (fun d k => held X B h (128 * t.val) k d) _ _ _ _ _ _ _ _ _ (g.low h)
    (fun r k => (g.gate r (at4 h k)).trans (entry hx 1 h r k _ rfl)) (h0 h) (h1 h)
    (fun r i => (stack_at _ r i).trans (g.stack r i)) (fun r k => (g.value r (at4 h k)).trans (entry hx 2 h r k _ rfl))
    (fun d k => hS h d k) (fun r k => (g.query r (at4 h k)).trans (entry hx 0 h r k _ ?_))
    (fun i r => by rw [level_at]; exact g.level i r) r d) ?_
  · show 128 * h.val + k.val = 512 * 0 + (128 * h.val + k.val)
    omega
  unfold result
  have e (d : Fin 128) : mixed (B h) (fun r => part X 0 h (128 * t.val + r)) (fun r => part X 1 h (128 * t.val + r))
      (fun r => part X 2 h (128 * t.val + r)) (fun d k => held X B h (128 * t.val) k d) r d = seen X B h (rowAt t r).val d :=
    mixed_read _ _ _ _ (h0 h) (h1 h) t.val r d
  have eg (d : Fin 128) : colsOf h X3 (ix2 r d) = X (rowAt t r) (place 3 h d) := by
    refine (g.last r (at4 h d)).trans (congrArg (X (rowAt t r)) (Fin.ext ?_))
    show 1536 + (128 * h.val + d.val) = 512 * 3 + 128 * h.val + d.val
    omega
  have en (d : Fin 128) : k0_pay6 (F := Ideal) X5 (ix2 0 d) = G d := (gain_at _ d).trans (g.gain d)
  simp only [e, eg, en]

end Cert.Kernel4Ideal.Hand

end
-- ==== Proof.HgTables.lean ====
/-
  The two constant tables the host lays out for the recurrent call: which rows each sum of logarithms takes, and at which
  level two rows meet.
-/
module

public import proofs.«01_k».proof.Proof.HgPoint
public import Idealize.ShloMosaic.Lib.StableHlo.RunRead

@[expose] public section

set_option maxRecDepth 16384

noncomputable section

namespace Cert.Kernel4Ideal.Hand

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-! ## The tables as the host writes them -/

/-- The later row's number. -/
abbrev later : IVec S128x128 32 := iotaInDim S128x128 32 0
/-- The earlier row's number. -/
abbrev earlier : IVec S128x128 32 := iotaInDim S128x128 32 1
/-- One word everywhere. -/
abbrev splat (w : BitVec 32) : IVec S128x128 32 := broadcastInDim S128x128 ![] bcast_S_S128x128 (constantI S_ 32 w)
/-- Where the later row's block of `w` rows begins. -/
abbrev first (w : BitVec 32) : IVec S128x128 32 := muli (Host.divsi later (splat w)) (splat w)
/-- One where the mask is set, else zero. -/
abbrev ones (b : IVec S128x128 1) : FVec Ideal S128x128 .f32 :=
  select b (broadcastInDim S128x128 ![] bcast_S_S128x128 (constant S_ .f32 0x3F800000#32))
    (broadcastInDim S128x128 ![] bcast_S_S128x128 (constant S_ .f32 0x00000000#32))
/-- The rows of the block up to the later row. -/
abbrev before (w : BitVec 32) : FVec Ideal S128x128 .f32 := ones (andi (cmpi .sge earlier (first w)) (cmpi .sle earlier later))
/-- The rows of the block after it. -/
abbrev behind (w : BitVec 32) : FVec Ideal S128x128 .f32 :=
  ones (andi (cmpi .sgt earlier later) (cmpi .sle earlier (subi (addi (first w) (splat w)) (splat 1#32))))
/-- One where the rows lie in different blocks of `w` rows. -/
abbrev apart (w : BitVec 32) : IVec S128x128 32 :=
  select (cmpi .eq (Host.divsi later (splat w)) (Host.divsi earlier (splat w))) (splat 0#32) (splat 1#32)
/-- The levels. -/
abbrev levels : IVec S128x128 32 :=
  select (cmpi .sgt earlier later) (splat 4294967295#32)
    (addi (addi (addi (addi (addi (addi (addi (splat 0#32) (apart 1#32)) (apart 2#32)) (apart 4#32)) (apart 8#32)) (apart 16#32))
      (apart 32#32)) (apart 64#32))

/-- The stack of matrices. -/
abbrev stack : FVec Ideal S640x128 .bf16 :=
  truncf .bf16 (concatenate S640x128 0
    [⟨S128x128, before 2#32⟩, ⟨S128x128, behind 2#32⟩, ⟨S128x128, before 4#32⟩, ⟨S128x128, behind 4#32⟩,
      ⟨S128x128, ones (cmpi .sle earlier later)⟩]
    concatenates_S128x128_S128x128_S128x128_S128x128_S128x128_S640x128_d0) bitsLt_bf16_f32

/-- The host's lines one after another. -/
abbrev lines : List (HloOp τ sig (Elt Ideal)) :=
  hostOps0 ++ (hostOps0_1 ++ (hostOps0_2 ++ (hostOps0_3 ++ (hostOps0_4 ++ (hostOps0_5 ++ (hostOps0_6 ++ (hostOps0_7 ++ (hostOps0_8 ++
  (hostOps0_9 ++ (hostOps0_10 ++ (hostOps0_11 ++ (hostOps0_12 ++ (hostOps0_13 ++ (hostOps0_14 ++ (hostOps0_15 ++ (hostOps0_16 ++
  (hostOps0_17 ++ (hostOps0_18 ++ (hostOps0_19 ++ (hostOps0_20 ++ (hostOps0_21 ++ (hostOps0_22 ++ (hostOps0_23 ++ (hostOps0_24 ++
  (hostOps0_25 ++ hostOps0_26)))))))))))))))))))))))))

theorem staged (b : Ref sig .tc) : V m c b = StableHlo.after lines (fun b => m (c, b)) (Proc.tc.devRef b) := by
  simp only [V, List.flatten_cons, List.flatten_nil, List.append_nil]

set_option maxHeartbeats 4000000 in
theorem stage_gain : (V m c main_v96 : FVec Ideal S1x128 .f32)
    = broadcastInDim S1x128 ![1] bcast_S128_S1x128_1 (m ((c : Thread nD τ).loc main_arg2) : FVec Ideal S128 .f32) := by
  rw [staged]
  simp only [lines, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19,
    hostOps0_20, hostOps0_21, hostOps0_22, hostOps0_23, hostOps0_24, hostOps0_25, hostOps0_26, List.cons_append, List.nil_append]
  after_reads_simp

set_option maxHeartbeats 4000000 in
theorem stage_levels : (V m c main_v95 : IVec S128x128 32) = levels := by
  rw [staged]
  simp only [lines, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19,
    hostOps0_20, hostOps0_21, hostOps0_22, hostOps0_23, hostOps0_24, hostOps0_25, hostOps0_26, List.cons_append, List.nil_append]
  after_reads_simp
  rfl

/-- Five matrices one under another, each known by another name. -/
theorem five {a b c d e a' b' c' d' e' : FVec Ideal S128x128 .f32} (ha : a = a') (hb : b = b') (hc : c = c') (hd : d = d') (he : e = e') :
    (concatenate S640x128 0 [⟨S128x128, a⟩, ⟨S128x128, b⟩, ⟨S128x128, c⟩, ⟨S128x128, d⟩, ⟨S128x128, e⟩]
      concatenates_S128x128_S128x128_S128x128_S128x128_S128x128_S640x128_d0 : FVec Ideal S640x128 .f32)
    = concatenate S640x128 0 [⟨S128x128, a'⟩, ⟨S128x128, b'⟩, ⟨S128x128, c'⟩, ⟨S128x128, d'⟩, ⟨S128x128, e'⟩]
      concatenates_S128x128_S128x128_S128x128_S128x128_S128x128_S640x128_d0 := by
  subst ha hb hc hd he; rfl

set_option maxHeartbeats 4000000 in
theorem stage_stack : (V m c main_v97 : FVec Ideal S640x128 .bf16) = stack := by
  rw [staged]
  simp only [lines, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19,
    hostOps0_20, hostOps0_21, hostOps0_22, hostOps0_23, hostOps0_24, hostOps0_25, hostOps0_26, List.cons_append, List.nil_append]
  after_reads_simp
  refine congrArg (fun x : FVec Ideal S640x128 .f32 => truncf .bf16 x bitsLt_bf16_f32) (five ?_ ?_ ?_ ?_ ?_)
  · show StableHlo.upto _ _ _ (Proc.tc.devRef main_v9) = _
    after_reads_simp
    rfl
  · show StableHlo.upto _ _ _ (Proc.tc.devRef main_v17) = _
    after_reads_simp
    rfl
  · show StableHlo.upto _ _ _ (Proc.tc.devRef main_v25) = _
    after_reads_simp
    rfl
  · show StableHlo.upto _ _ _ (Proc.tc.devRef main_v33) = _
    after_reads_simp
    rfl
  · show StableHlo.upto _ _ _ (Proc.tc.devRef main_v35) = _
    after_reads_simp
    rfl

/-! ## Their entries -/

theorem levels_word : ∀ t r : Fin 128, Level (levels (ix2 t r)) t r := by
  intro t r
  pointwise
  revert t r
  unfold Level
  decide +kernel

theorem before2 : ∀ t r : Fin 128, IntOp.andi
    (IntOp.cmpi .sge (BitVec.ofNat 32 r) (IntOp.muli (IntOp.divsi ArithUnit.host (BitVec.ofNat 32 t) 2#32) 2#32))
    (IntOp.cmpi .sle (BitVec.ofNat 32 r) (BitVec.ofNat 32 t)) = if t.val / 2 * 2 ≤ r.val ∧ r.val ≤ t.val then 1#1 else 0#1 := by
  decide +kernel

theorem before4 : ∀ t r : Fin 128, IntOp.andi
    (IntOp.cmpi .sge (BitVec.ofNat 32 r) (IntOp.muli (IntOp.divsi ArithUnit.host (BitVec.ofNat 32 t) 4#32) 4#32))
    (IntOp.cmpi .sle (BitVec.ofNat 32 r) (BitVec.ofNat 32 t)) = if t.val / 4 * 4 ≤ r.val ∧ r.val ≤ t.val then 1#1 else 0#1 := by
  decide +kernel

theorem behind2 : ∀ t r : Fin 128, IntOp.andi (IntOp.cmpi .sgt (BitVec.ofNat 32 r) (BitVec.ofNat 32 t))
    (IntOp.cmpi .sle (BitVec.ofNat 32 r)
      (IntOp.subi (IntOp.addi (IntOp.muli (IntOp.divsi ArithUnit.host (BitVec.ofNat 32 t) 2#32) 2#32) 2#32) 1#32))
    = if t.val < r.val ∧ r.val ≤ t.val / 2 * 2 + 2 - 1 then 1#1 else 0#1 := by
  decide +kernel

theorem behind4 : ∀ t r : Fin 128, IntOp.andi (IntOp.cmpi .sgt (BitVec.ofNat 32 r) (BitVec.ofNat 32 t))
    (IntOp.cmpi .sle (BitVec.ofNat 32 r)
      (IntOp.subi (IntOp.addi (IntOp.muli (IntOp.divsi ArithUnit.host (BitVec.ofNat 32 t) 4#32) 4#32) 4#32) 1#32))
    = if t.val < r.val ∧ r.val ≤ t.val / 4 * 4 + 4 - 1 then 1#1 else 0#1 := by
  decide +kernel

theorem upto_row : ∀ t r : Fin 128, IntOp.cmpi .sle (BitVec.ofNat 32 r) (BitVec.ofNat 32 t)
    = if r.val ≤ t.val then 1#1 else 0#1 := by
  decide +kernel

/-- A choice by a mask's bit. -/
theorem pick (p : Prop) [Decidable p] : Scalar.select (if p then 1#1 else 0#1) (1 : EReal) 0 = if p then 1 else 0 := by
  split_ifs <;> rfl

theorem stack_picks (r : Fin 640) (t : Fin 128) : stack (ix2 r t) = (if picks r t then 1 else 0 : EReal) := by
  pointwise
  unfold picks
  by_cases h1 : r.val < 128
  · simp only [dif_pos h1, if_pos h1]
    rw [before2 ⟨r, h1⟩ t, pick]
  · by_cases h2 : r.val < 256
    · simp only [dif_neg h1, if_neg h1, dif_pos (show r.val - 128 < 128 by omega), if_pos h2]
      rw [behind2 ⟨r - 128, by omega⟩ t, pick]
    · by_cases h3 : r.val < 384
      · have e : r.val - 128 - 128 = r.val - 256 := by omega
        simp only [dif_neg h1, if_neg h1, dif_neg (show ¬ r.val - 128 < 128 by omega), if_neg h2, e,
          dif_pos (show r.val - 256 < 128 by omega), if_pos h3]
        rw [before4 ⟨r - 256, by omega⟩ t, pick]
      · by_cases h4 : r.val < 512
        · have e : r.val - 128 - 128 = r.val - 256 := by omega
          have e' : r.val - 256 - 128 = r.val - 384 := by omega
          simp only [dif_neg h1, if_neg h1, dif_neg (show ¬ r.val - 128 < 128 by omega), if_neg h2, e, e',
            dif_neg (show ¬ r.val - 256 < 128 by omega), if_neg h3, dif_pos (show r.val - 384 < 128 by omega), if_pos h4]
          rw [behind4 ⟨r - 384, by omega⟩ t, pick]
        · have e : r.val - 128 - 128 = r.val - 256 := by omega
          have e' : r.val - 256 - 128 = r.val - 384 := by omega
          have e'' : r.val - 384 - 128 = r.val - 512 := by omega
          simp only [dif_neg h1, if_neg h1, dif_neg (show ¬ r.val - 128 < 128 by omega), if_neg h2, e, e', e'',
            dif_neg (show ¬ r.val - 256 < 128 by omega), if_neg h3, dif_neg (show ¬ r.val - 384 < 128 by omega), if_neg h4]
          rw [upto_row ⟨r - 512, by omega⟩ t, pick]

/-! ## What a grid point is given -/

theorem idx : ∀ t : Fin cfg0.N, win0_0.index t = ![t.val, 0] ∧ win0_1.index t = ![t.val, 1] ∧ win0_2.index t = ![t.val, 2]
    ∧ win0_3.index t = ![t.val, 3] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The argument arrays. -/
abbrev ax : FVec Ideal S16384x2048 .f32 := m ((c : Thread nD τ).loc main_arg0)
abbrev al : FVec Ideal S2x512 .f32 := m ((c : Thread nD τ).loc main_arg1)
abbrev ag : FVec Ideal S128 .f32 := m ((c : Thread nD τ).loc main_arg2)

theorem kept_x : (V m c main_arg0 : FVec Ideal S16384x2048 .f32) = ax m c := by
  rw [staged]
  simp only [lines, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19,
    hostOps0_20, hostOps0_21, hostOps0_22, hostOps0_23, hostOps0_24, hostOps0_25, hostOps0_26, List.cons_append, List.nil_append]
  after_reads_simp

theorem kept_l : (V m c main_arg1 : FVec Ideal S2x512 .f32) = al m c := by
  rw [staged]
  simp only [lines, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19,
    hostOps0_20, hostOps0_21, hostOps0_22, hostOps0_23, hostOps0_24, hostOps0_25, hostOps0_26, List.cons_append, List.nil_append]
  after_reads_simp

variable (t : Fin cfg0.N) (r : Fin 128) (j : Fin 512)

theorem read0 : (iblk m c 0 t : Vec Ideal S128x512 .f32) (ix2 r j) = ax m c (ix2 (rowAt t r) ⟨j.val, by omega⟩) := by
  rw [← kept_x]
  unfold iblk
  blk_ext [idx t]

theorem read1 : (iblk m c 1 t : Vec Ideal S128x512 .f32) (ix2 r j) = ax m c (ix2 (rowAt t r) ⟨512 + j.val, by omega⟩) := by
  rw [← kept_x]
  unfold iblk
  blk_ext [idx t]

theorem read2 : (iblk m c 2 t : Vec Ideal S128x512 .f32) (ix2 r j) = ax m c (ix2 (rowAt t r) ⟨1024 + j.val, by omega⟩) := by
  rw [← kept_x]
  unfold iblk
  blk_ext [idx t]

theorem read3 : (iblk m c 3 t : Vec Ideal S128x512 .f32) (ix2 r j) = ax m c (ix2 (rowAt t r) ⟨1536 + j.val, by omega⟩) := by
  rw [← kept_x]
  unfold iblk
  blk_ext [idx t]

theorem read4 (i : Fin 2) : (iblk m c 4 t : Vec Ideal S2x512 .f32) (ix2 i j) = al m c (ix2 i j) := by
  rw [← kept_l]
  unfold iblk
  blk_ext [idx t]

theorem read5 : (iblk m c 5 t : Vec Ideal S1x128 .f32) (ix2 0 r) = ag m c (ix1 r) := by
  have h : (iblk m c 5 t : Vec Ideal S1x128 .f32) (ix2 0 r) = (V m c main_v96 : FVec Ideal S1x128 .f32) (ix2 0 r) := by
    unfold iblk
    blk_ext [idx t]
  rw [h, stage_gain]
  pointwise

theorem read6 (i : Fin 640) : (iblk m c 6 t : Vec Ideal S640x128 .bf16) (ix2 i r) = (if picks i r then 1 else 0 : EReal) := by
  rw [← stack_picks, ← stage_stack m c]
  unfold iblk
  blk_ext [idx t]

theorem read7 (i : Fin 128) : Level ((iblk m c 7 t : Vec Ideal S128x128 .i32) (ix2 i r)) i r := by
  have h : (iblk m c 7 t : Vec Ideal S128x128 .i32) (ix2 i r) = (V m c main_v95 : IVec S128x128 32) (ix2 i r) := by
    unfold iblk
    blk_ext [idx t]
  rw [h, stage_levels]
  exact levels_word i r

end Cert.Kernel4Ideal.Hand
-- ==== Proof.HgReference.lean ====
/-
  The reference of the recurrent call: each trip of its loop takes one row, carries the state on and writes the row's result.
-/
module

public import proofs.«01_k».proof.Proof.Gen.Reference4Ideal.Run
public import proofs.«01_k».proof.Proof.HgCall
public import Idealize.ShloMosaic.Lib.StableHlo.RunRead
public import Idealize.ShloMosaic.Lib.Pipeline.ValueKit
public import Idealize.ShloMosaic.Lib.Pipeline.Value
public import Idealize.ShloMosaic.Lib.DynamicIndex

@[expose] public section

set_option maxRecDepth 16384

noncomputable section

namespace Cert.Reference4Ideal.Hand

open Cert.Reference4Ideal Cert.Reference4Ideal.Gen Idealize.ShloMosaic Idealize.ShloMosaic.TcCoe Idealize.SL.Sem Idealize.ShloMosaic.StableHlo
open Cert.Reference4Ideal.Value Cert.InRow Cert.HgRow Cert.HgCall

/-! ## One row out of an array and into it -/

theorem taken (X : FVec Ideal S16384x2048 .f32) (start : Fin 2 → Int) (n : Fin 16384) (h0 : start 0 = (n.val : Int)) (h1 : start 1 = 0)
    (p h : Fin 4) (k : Fin 128) :
    shapeCast S4x4x128 (shapeCast S2048 (Host.dynamicSlice S1x2048 X start sliceFits_S16384x2048_S1x2048) shapeCasts_S1x2048_S2048)
      shapeCasts_S2048_S4x4x128 (ix3 p h k) = X (ix2 n (place p h k)) := by
  rw [Host.dynamicSlice_eq_extractStridedSlice S1x2048 X start ![n.val, 0] _ ⟨rfl, by
    intro a
    match a with
    | ⟨0, _⟩ => show n.val + 1 ≤ 16384; omega
    | ⟨1, _⟩ => show 0 + 2048 ≤ 2048; omega⟩ (by
    intro a
    match a with
    | ⟨0, _⟩ => exact h0
    | ⟨1, _⟩ => exact h1)]
  pointwise
  refine congrArg X (congrArg₂ ix2 (Fin.ext ?_) (Fin.ext ?_))
  · show n.val + 0 = n.val; omega
  · simp only [place]; omega

theorem put (O : FVec Ideal S16384x512 .f32) (U : FVec Ideal S1x512 .f32) (start : Fin 2 → Int) (n : Fin 16384)
    (h0 : start 0 = (n.val : Int)) (h1 : start 1 = 0) (i : Fin 16384) (j : Fin 512) :
    Host.dynamicUpdateSlice O U start updateFits_S16384x512_S1x512 (ix2 i j) = if i = n then U (ix2 0 j) else O (ix2 i j) := by
  rw [Host.dynamicUpdateSlice_eq_updateSlice O U start _ ![n.val, 0] (by
    intro a
    match a with
    | ⟨0, _⟩ => show (min (max (start 0) 0) ((16384 - 1 : Nat) : Int)).toNat = n.val; rw [h0]; omega
    | ⟨1, _⟩ => show (min (max (start 1) 0) ((512 - 512 : Nat) : Int)).toNat = 0; rw [h1]; rfl) ⟨rfl, by
    intro a
    match a with
    | ⟨0, _⟩ => show n.val + 1 ≤ 16384; omega
    | ⟨1, _⟩ => show 0 + 512 ≤ 512; omega⟩]
  pointwise
  by_cases h : i = n
  · subst h
    simp only [le_refl, Nat.lt_add_one, and_self, dif_pos, if_true, Nat.sub_self]
    rfl
  · have h' : ¬(n.val ≤ i.val ∧ i.val < n.val + 1) := fun hh => h (Fin.ext (by omega))
    rw [dif_neg h', if_neg h]

/-! ## One trip -/

section Trip

variable (L : FVec Ideal S4x128 .f32) (R : FVec Ideal S4x4x128 .f32) (S : FVec Ideal S4x128x128 .f32) (O : FVec Ideal S4x128 .f32)
  (G : FVec Ideal S128 .f32)

/-- The trip's new row of the result. -/
def rowTerm : FVec Ideal S1x512 .f32 :=
  let W : FVec Ideal S4x128 .f32 := shapeCast S4x128 (extractStridedSlice S1x4x128 ![3, 0, 0] R slices_S4x4x128_S1x4x128_3_0_0) shapeCasts_S1x4x128_S4x128
  broadcastInDim S1x512 ![1] bcast_S512_S1x512_1 (shapeCast S512 (mulf (mulf (mulf O (broadcastInDim S4x128 ![0, 1] bcast_S4x1_S4x128_0_1
    (Host.rsqrt (addf (Host.divf (broadcastInDim S4x1 ![0] bcast_S4_S4x1_0 (Host.reduceAdd (mulf O O) (constant S_ .f32 0x00000000#32)
      reducesTo_S4x128_S4_d1 h_S_)) (broadcastInDim S4x1 ![] bcast_S_S4x1 (constant S_ .f32 0x43000000#32)))
      (broadcastInDim S4x1 ![] bcast_S_S4x1 (constant S_ .f32 0x358637BD#32))))))
    (broadcastInDim S4x128 ![0, 1] bcast_S1x128_S4x128_0_1 (broadcastInDim S1x128 ![1] bcast_S128_S1x128_1 G)))
    (mulf W (Host.divf (broadcastInDim S4x128 ![] bcast_S_S4x128 (constant S_ .f32 0x3F800000#32))
      (addf (broadcastInDim S4x128 ![] bcast_S_S4x128 (constant S_ .f32 0x3F800000#32)) (Host.exp (Host.negf W)))))) shapeCasts_S4x128_S512)

theorem rowTerm_at (h : Fin 4) (d : Fin 128) :
    rowTerm R O G (ix2 0 (column h d)) = finished (fun d => O (ix2 h d)) (fun d => G (ix1 d)) (fun d => R (ix3 3 h d)) d := by
  unfold rowTerm column
  pointwise
  rfl

/-- The state a trip leaves. -/
def stateTerm : FVec Ideal S4x128x128 .f32 :=
  let Z : FVec Ideal S4x128 .f32 := shapeCast S4x128 (extractStridedSlice S1x4x128 ![1, 0, 0] R slices_S4x4x128_S1x4x128_1_0_0) shapeCasts_S1x4x128_S4x128
  addf (mulf (broadcastInDim S4x128x128 ![0, 1, 2] bcast_S4x128x1_S4x128x128_0_1_2 (broadcastInDim S4x128x1 ![0, 1]
    bcast_S4x128_S4x128x1_0_1 (addf L (mulf (subf (broadcastInDim S4x128 ![] bcast_S_S4x128 (constant S_ .f32 0x3F800000#32))
    L) (Host.divf (broadcastInDim S4x128 ![] bcast_S_S4x128 (constant S_ .f32 0x3F800000#32)) (addf (broadcastInDim S4x128 ![]
    bcast_S_S4x128 (constant S_ .f32 0x3F800000#32)) (Host.exp (Host.negf Z)))))))) S) (mulf (broadcastInDim S4x128x128 ![0, 1,
    2] bcast_S4x128x1_S4x128x128_0_1_2 (broadcastInDim S4x128x1 ![0, 1] bcast_S4x128_S4x128x1_0_1 (mulf (subf (broadcastInDim
    S4x128 ![] bcast_S_S4x128 (constant S_ .f32 0x3F800000#32)) L) (Host.divf (broadcastInDim S4x128 ![] bcast_S_S4x128
    (constant S_ .f32 0x3F800000#32)) (addf (broadcastInDim S4x128 ![] bcast_S_S4x128 (constant S_ .f32 0x3F800000#32))
    (Host.exp (Host.negf (Host.negf Z)))))))) (broadcastInDim S4x128x128 ![0, 1, 2] bcast_S4x1x128_S4x128x128_0_1_2
    (broadcastInDim S4x1x128 ![0, 2] bcast_S4x128_S4x1x128_0_2 (shapeCast S4x128 (extractStridedSlice S1x4x128 ![2, 0, 0] R
    slices_S4x4x128_S1x4x128_2_0_0) shapeCasts_S1x4x128_S4x128))))

theorem stateTerm_at (h : Fin 4) (k d : Fin 128) : stateTerm L R S (ix3 h k d)
    = (L (ix2 h k) + (1 - L (ix2 h k)) * Ideal.div 1 (1 + Ideal.exp (-R (ix3 1 h k)))) * S (ix3 h k d)
      + (1 - L (ix2 h k)) * Ideal.div 1 (1 + Ideal.exp (- -R (ix3 1 h k))) * R (ix3 2 h d) := by
  unfold stateTerm
  pointwise

/-- What a trip reads of the state it leaves. -/
def readTerm : FVec Ideal S4x128 .f32 :=
  let Q : FVec Ideal S4x128 .f32 := shapeCast S4x128 (extractStridedSlice S1x4x128 ![0, 0, 0] R slices_S4x4x128_S1x4x128_0_0_0) shapeCasts_S1x4x128_S4x128
  Host.dotGeneral dot_S4x128_S4x128x128_S4x128_1_1_n_2_0_0 none (mulf Q (Host.divf (broadcastInDim S4x128 ![] bcast_S_S4x128
    (constant S_ .f32 0x3F800000#32)) (addf (broadcastInDim S4x128 ![] bcast_S_S4x128 (constant S_ .f32 0x3F800000#32))
    (Host.exp (Host.negf Q))))) S

theorem readTerm_at (h : Fin 4) (d : Fin 128) : readTerm R S (ix2 h d)
    = ∑ x, R (ix3 0 h x) * Ideal.div 1 (1 + Ideal.exp (-R (ix3 0 h x))) * S (ix3 h x d) := by
  unfold readTerm
  pointwise

end Trip

section Rows

variable (X : FVec Ideal S16384x2048 .f32) (L : FVec Ideal S4x128 .f32) (G : FVec Ideal S128 .f32) (B : Fin 4 → Fin 128 → ℝ)

/-- The state is the recurrence's before row `n`, and the rows before it are the recurrence's. -/
structure Good (n : ℕ) (S : FVec Ideal S4x128x128 .f32) (O : FVec Ideal S16384x512 .f32) : Prop where
  s : ∀ h k d, S (ix3 h k d) = (held (fun i j => X (ix2 i j)) B h n k d : EReal)
  o : ∀ (i : Fin 16384) h d, i.val < n → O (ix2 i (column h d)) = result (fun i j => X (ix2 i j)) B (fun d => G (ix1 d)) i h d

variable {X L G B}

/-- A trip takes the recurrence one row on. -/
theorem Good.next {n : ℕ} {S : FVec Ideal S4x128x128 .f32} {O O' : FVec Ideal S16384x512 .f32} (H : Good X G B n S O) (hn : n < 16384)
    (hx : ∀ i, Real' (X i)) (hL : ∀ h k, L (ix2 h k) = (B h k : EReal)) {R : FVec Ideal S4x4x128 .f32}
    (hR : ∀ p h k, R (ix3 p h k) = X (ix2 ⟨n, hn⟩ (place p h k)))
    (hO : ∀ i j, O' (ix2 i j) = if i = ⟨n, hn⟩ then rowTerm R (readTerm R (stateTerm L R S)) G (ix2 0 j) else O (ix2 i j)) :
    Good X G B (n + 1) (stateTerm L R S) O' := by
  have e (p h : Fin 4) (k : Fin 128) : R (ix3 p h k) = (part (fun i j => X (ix2 i j)) p h n k : EReal) :=
    (hR p h k).trans (part_coe (fun i j => X (ix2 i j)) (fun i j => hx _) p h ⟨n, hn⟩ k).symm
  have es (h : Fin 4) (k d : Fin 128) : stateTerm L R S (ix3 h k d) = (held (fun i j => X (ix2 i j)) B h (n + 1) k d : EReal) := by
    rw [stateTerm_at, e, e, hL, H.s, quotient_sig, ← EReal.coe_neg, quotient_sig, ← EReal.coe_one, ← EReal.coe_sub]
    simp only [← EReal.coe_mul, ← EReal.coe_add]
    rfl
  have er (h : Fin 4) (d : Fin 128) : readTerm R (stateTerm L R S) (ix2 h d) = (seen (fun i j => X (ix2 i j)) B h n d : EReal) := by
    rw [readTerm_at]
    unfold seen HgRow.read
    refine Eq.trans (Finset.sum_congr rfl fun x _ => ?_) (coe_sum _)
    rw [e, es, quotient_sig, ← EReal.coe_mul, ← EReal.coe_mul]
    rfl
  refine ⟨es, fun i h d hi => ?_⟩
  rw [hO]
  split_ifs with hin
  · subst hin
    rw [rowTerm_at]
    unfold result
    simp only [hR, er]
  · exact H.o i h d (by have : i.val ≠ n := fun h => hin (Fin.ext h); omega)

end Rows

variable (V0 : Valuation τ sig (Elt Ideal))

abbrev sx : FVec Ideal S16384x2048 .f32 := V0 (Proc.devRef .tc main_v16_0)
abbrev sl : FVec Ideal S4x128 .f32 := V0 (Proc.devRef .tc main_v16_1)
abbrev sg : FVec Ideal S128 .f32 := V0 (Proc.devRef .tc main_v16_2)
abbrev word : IVec S_ 32 := V0 (Proc.devRef .tc main_v16_3)
abbrev ss : FVec Ideal S4x128x128 .f32 := V0 (Proc.devRef .tc main_v16_4)
abbrev so : FVec Ideal S16384x512 .f32 := V0 (Proc.devRef .tc main_v16_5)
/-- The row a trip takes, the state it leaves and what it reads of it. -/
abbrev rowOf : FVec Ideal S4x4x128 .f32 := res_main_while0b_v19 V0
abbrev stateOf : FVec Ideal S4x128x128 .f32 := res_main_while0b_v56 V0
abbrev readOf : FVec Ideal S4x128 .f32 := res_main_while0b_v58 V0

variable {V0} in
theorem word_int {n : ℕ} (hn : word V0 = fun _ => BitVec.ofNat 32 n) (hl : n < 16384) (f : S_.Idx) : (word V0 f).toInt = (n : Int) := by
  rw [hn]; exact toInt_ofNat_of_lt (by omega)

variable {V0} in
theorem row_at (n : Fin 16384) (hn : word V0 = fun _ => BitVec.ofNat 32 n.val) (p h : Fin 4) (k : Fin 128) :
    rowOf V0 (ix3 p h k) = sx V0 (ix2 n (place p h k)) :=
  taken (sx V0) (fun k => (((![V0 (Proc.devRef .tc main_v16_3), constantI S_ 32 0#32] : Fin 2 → IVec S_ 32)) k
    (Shape.Idx.first h_S_)).toInt) n (word_int hn n.isLt _) rfl p h k

theorem state_term : stateOf V0 = stateTerm (sl V0) (rowOf V0) (ss V0) := rfl

theorem read_term : readOf V0 = readTerm (rowOf V0) (stateOf V0) := rfl

variable {V0} in
theorem out_at (n : Fin 16384) (hn : word V0 = fun _ => BitVec.ofNat 32 n.val) (i : Fin 16384) (j : Fin 512) :
    (step_main_v16_5 V0 : FVec Ideal S16384x512 .f32) (ix2 i j)
      = if i = n then rowTerm (rowOf V0) (readOf V0) (sg V0) (ix2 0 j) else so V0 (ix2 i j) :=
  put (so V0) (rowTerm (rowOf V0) (readOf V0) (sg V0))
    (fun k => (((![V0 (Proc.devRef .tc main_v16_3), constantI S_ 32 0#32] : Fin 2 → IVec S_ 32)) k (Shape.Idx.first h_S_)).toInt) n
    (word_int hn n.isLt _) rfl i j

/-! ## The loop -/

variable (m : (ℓ : Loc nD τ sig) → Buf (Elt Ideal) ℓ) (c : Dev nD)

/-- The argument arrays. -/
abbrev ax : FVec Ideal S16384x2048 .f32 := m ((c : Thread nD τ).loc main_arg0)
abbrev al : FVec Ideal S2x512 .f32 := m ((c : Thread nD τ).loc main_arg1)
abbrev ag : FVec Ideal S128 .f32 := m ((c : Thread nD τ).loc main_arg2)

/-- The contents before trip `n`. -/
abbrev before (n : ℕ) : Valuation τ sig (Elt Ideal) := STEP^[n] (entryContents preI m c)

theorem entry_x : sx (before m c 0) = ax m c := by
  show entryContents preI m c (Proc.devRef .tc main_v16_0) = _
  simp only [entryContents, afterL_cons, afterL_nil]
  after_reads_simp
  rfl

theorem entry_g : sg (before m c 0) = ag m c := by
  show entryContents preI m c (Proc.devRef .tc main_v16_2) = _
  simp only [entryContents, afterL_cons, afterL_nil]
  after_reads_simp
  rfl

theorem entry_s (h : Fin 4) (k d : Fin 128) : ss (before m c 0) (ix3 h k d) = (0 : EReal) := by
  show (entryContents preI m c (Proc.devRef .tc main_v16_4) : FVec Ideal S4x128x128 .f32) (ix3 h k d) = _
  simp only [entryContents, afterL_cons, afterL_nil]
  after_reads_simp
  show broadcastInDim S4x128x128 ![] bcast_S_S4x128x128 (constant S_ .f32 0x00000000#32 : FVec Ideal S_ .f32) (ix3 h k d) = (0 : EReal)
  pointwise

/-- The lower bounds, as the program lays them out. -/
abbrev lowTerm (L : FVec Ideal S2x512 .f32) : FVec Ideal S4x128 .f32 :=
  let E : FVec Ideal S2x512 .f32 := Host.exp (subf L (broadcastInDim S2x512 ![0, 1] bcast_S1x512_S2x512_0_1
    (broadcastInDim S1x512 ![1] bcast_S512_S1x512_1 (maximumf (broadcastInDim S512 ![] bcast_S_S512 (constant S_ .f32 0xFF800000#32))
      (Host.reduce max L (constant S_ .f32 0xFF800000#32) reducesTo_S2x512_S512_d0 h_S_)))))
  shapeCast S4x128 (shapeCast S512 (extractStridedSlice S1x512 ![1, 0] (Host.divf E (broadcastInDim S2x512 ![0, 1] bcast_S1x512_S2x512_0_1
    (broadcastInDim S1x512 ![1] bcast_S512_S1x512_1 (Host.reduceAdd E (constant S_ .f32 0x00000000#32) reducesTo_S2x512_S512_d0 h_S_))))
    slices_S2x512_S1x512_1_0) shapeCasts_S1x512_S512) shapeCasts_S512_S4x128

theorem entry_l : sl (before m c 0) = lowTerm (al m c) := by
  show entryContents preI m c (Proc.devRef .tc main_v16_1) = _
  simp only [entryContents, afterL_cons, afterL_nil]
  after_reads_simp
  rfl

theorem lowTerm_at (L : FVec Ideal S2x512 .f32) (hL : ∀ i, Real' (L i)) (h : Fin 4) (k : Fin 128) :
    lowTerm L (ix2 h k) = (bound (fun i j => L (ix2 i j)) h k : EReal) := by
  unfold lowTerm
  pointwise
  have e : (⟨h.val * 128 + k.val, by omega⟩ : Fin 512) = column h k := Fin.ext (by simp only [column]; omega)
  simp only [bottom_max, e]
  exact softmax_low (fun i => L (ix2 i (column h k))) (fun i => hL _)

/-- What is held before trip `n`. -/
structure Held (n : ℕ) : Prop where
  x : sx (before m c n) = ax m c
  l : sl (before m c n) = lowTerm (al m c)
  g : sg (before m c n) = ag m c
  w : word (before m c n) = fun _ => BitVec.ofNat 32 n
  r : Good (ax m c) (ag m c) (bound (fun i j => al m c (ix2 i j))) n (ss (before m c n)) (so (before m c n))

variable {m c}

theorem held_zero : Held m c 0 where
  x := entry_x m c
  l := entry_l m c
  g := entry_g m c
  w := ctr_entry m c
  r := ⟨fun h k d => by rw [entry_s]; rfl, fun i h d hi => absurd hi (Nat.not_lt_zero _)⟩

variable (hx : ∀ i, Real' (ax m c i)) (hl : ∀ i, Real' (al m c i))
include hx hl

theorem held_next {n : ℕ} (H : Held m c n) (hn : n < 16384) : Held m c (n + 1) := by
  have e : before m c (n + 1) = STEP (before m c n) := Function.iterate_succ_apply' _ _ _
  refine ⟨?_, ?_, ?_, ?_, ?_⟩
  · rw [e]; exact (STEP_main_v16_0 _).trans H.x
  · rw [e]; exact (STEP_main_v16_1 _).trans H.l
  · rw [e]; exact (STEP_main_v16_2 _).trans H.g
  · rw [e]
    refine (STEP_main_v16_3 _).trans ?_
    funext f
    show word (before m c n) f + 1#32 = BitVec.ofNat 32 (n + 1)
    rw [H.w, BitVec.ofNat_add]
  · have es : ss (before m c (n + 1)) = stateTerm (sl (before m c n)) (rowOf (before m c n)) (ss (before m c n)) := by
      rw [e]; exact STEP_main_v16_4 _
    rw [es]
    refine H.r.next hn hx (fun h k => by rw [H.l, lowTerm_at _ hl]) (fun p h k => by rw [row_at ⟨n, hn⟩ H.w, H.x]) fun i j => ?_
    rw [e, ← H.g]
    exact (congrFun (STEP_main_v16_5 _) _).trans (out_at ⟨n, hn⟩ H.w i j)

theorem held_all : ∀ n, n ≤ 16384 → Held m c n
  | 0, _ => held_zero
  | n + 1, hn => held_next hx hl (held_all n (by omega)) hn

omit hx hl in
/-- The result as one array. -/
def whole (X : FVec Ideal S16384x2048 .f32) (B : Fin 4 → Fin 128 → ℝ) (G : FVec Ideal S128 .f32) : FVec Ideal S16384x512 .bf16 := fun y =>
  result (fun i j => X (ix2 i j)) B (fun d => G (ix1 d)) (y 0)
    ⟨(y 1).val / 128, by have : (y 1).val < 512 := (y 1).isLt; omega⟩ ⟨(y 1).val % 128, by omega⟩

omit hx hl in
/-- Every column is a column of a head. -/
theorem column_of (j : Fin 512) : column ⟨j.val / 128, by omega⟩ ⟨j.val % 128, by omega⟩ = j :=
  Fin.ext (by simp only [column]; omega)

omit hx hl in
/-- After the last row the array is the whole result. -/
theorem Good.whole {X : FVec Ideal S16384x2048 .f32} {G : FVec Ideal S128 .f32} {B : Fin 4 → Fin 128 → ℝ} {S : FVec Ideal S4x128x128 .f32}
    {O : FVec Ideal S16384x512 .f32} (H : Good X G B 16384 S O) : O = Hand.whole X B G := by
  funext y
  obtain ⟨t, j, rfl⟩ : ∃ (t : Fin 16384) (j : Fin 512), y = ix2 t j := ⟨y 0, y 1, eq_ix2 y⟩
  have h := H.o t ⟨j.val / 128, by omega⟩ ⟨j.val % 128, by omega⟩ t.isLt
  rw [column_of] at h
  exact h

/-- The reference's result. -/
theorem result_whole : (out_main_v17 (STEP^[16384] (entryContents preI m c)) : FVec Ideal S16384x512 .bf16)
    = whole (ax m c) (bound (fun i j => al m c (ix2 i j))) (ag m c) :=
  (held_all hx hl 16384 le_rfl).r.whole

end Cert.Reference4Ideal.Hand

end
-- ==== Proof.HgWhole.lean ====
/-
  The recurrent call's result array after the run: the states carried from grid point to grid point are the recurrence's
  every 128 rows, and the rows each point writes are the row definitions'.
-/
module

public import proofs.«01_k».proof.Proof.HgTables
public import proofs.«01_k».proof.Proof.HgReference

@[expose] public section

set_option maxRecDepth 16384

noncomputable section

namespace Cert.Kernel4Ideal.Hand

open Cert.Kernel4Ideal Cert.Kernel4Ideal.Gen Idealize.ShloMosaic Idealize.ShloMosaic.TcCoe Idealize.SL.Sem
open Cert.InRow Cert.HgRow Cert.HgCall

variable (m : (ℓ : Loc nD τ sig) → Buf (Elt Ideal) ℓ) (c : Dev nD)

theorem low_at (X : Vec Ideal S2x512 .f32) (j : Fin 512) : k0_pay4 (F := Ideal) X (ix2 0 j)
    = Ideal.div (Ideal.exp (X (ix2 1 j) - Finset.fold max (Ideal.ofBits .f32 4286578688#32) (fun x => X (ix2 x j)) Finset.univ))
      (∑ x, Ideal.exp (X (ix2 x j) - Finset.fold max (Ideal.ofBits .f32 4286578688#32) (fun x => X (ix2 x j)) Finset.univ)) := by
  pointwise [k0_pay4]

/-- The arguments as functions of two numbers. -/
abbrev fx : Fin 16384 → Fin 2048 → EReal := fun i j => ax m c (ix2 i j)
abbrev fl : Fin 2 → Fin 512 → EReal := fun i j => al m c (ix2 i j)
abbrev fg : Fin 128 → EReal := fun d => ag m c (ix1 d)

variable {m c}
variable (hx : ∀ i, Real' (ax m c i)) (hl : ∀ i, Real' (al m c i))

include hl in
theorem bound_at (t : Fin cfg0.N) (h : Fin 4) (k : Fin 128) :
    lbOf h (k0_pay4 (F := Ideal) (iblk m c 4 t)) (ix2 0 k) = (bound (fl m c) h k : EReal) := by
  show k0_pay4 (F := Ideal) (iblk m c 4 t) (ix2 0 (at4 h k)) = _
  rw [low_at]
  simp only [read4]
  exact softmax_low (fun i => al m c (ix2 i (at4 h k))) (fun i => hl _)

include hl in
/-- What each point is given. -/
theorem given (t : Fin cfg0.N) : Given (fx m c) (bound (fl m c)) (fg m c) t (iblk m c 0 t) (iblk m c 1 t) (iblk m c 2 t) (iblk m c 3 t)
    (k0_pay4 (F := Ideal) (iblk m c 4 t)) (iblk m c 5 t) (iblk m c 6 t) (iblk m c 7 t) where
  query := read0 m c t
  gate := read1 m c t
  value := read2 m c t
  last := read3 m c t
  low h k := bound_at hl t h k
  gain := read5 m c t
  stack i r := read6 m c t r i
  level i r := read7 m c t r i

include hx hl

/-- The state after each point is the recurrence's. -/
theorem carried_at : ∀ (n : ℕ) (hn : n < cfg0.N) (h : Fin 4) (d k : Fin 128),
    (outsAt0 m c n hn).2 (ix3 h d k) = (held (fx m c) (bound (fl m c)) h (128 * (n + 1)) k d : EReal)
  | 0, hn, h, d, k => by
    rw [state_A m c ⟨0, hn⟩ rfl]
    exact pointState_at (given hl ⟨0, hn⟩) (fun i j => hx _) (bound_nonneg _) (bound_lt _) (fun h d k => zero_at h d k) h d k
  | n + 1, hn, h, d, k => by
    have hN : cfg0.N = 128 := rfl
    rw [state_B m c ⟨n + 1, hn⟩ (by show ¬(n + 1) % 128 = 0; omega)]
    exact pointState_at (given hl ⟨n + 1, hn⟩) (fun i j => hx _) (bound_nonneg _) (bound_lt _) (fun h d k => carried_at n (by omega) h d k) h d k

/-- The rows each point writes are the row definitions'. -/
theorem rows_at (t : Fin cfg0.N) (r : Fin 128) (h : Fin 4) (d : Fin 128) :
    (outsAt0 m c t.val t.isLt).1 (ix2 r (at4 h d)) = result (fx m c) (bound (fl m c)) (fg m c) (rowAt t r) h d := by
  have hN : cfg0.N = 128 := rfl
  by_cases ht : t.val % 128 = 0
  · rw [rows_A m c t ht]
    have h0 : t.val = 0 := by have := t.isLt; omega
    exact pointRows_result (given hl t) (fun i j => hx _) (bound_nonneg _) (bound_lt _) (fun h d k => by rw [zero_at, h0]; rfl) r h d
  · rw [rows_B m c t ht]
    refine pointRows_result (given hl t) (fun i j => hx _) (bound_nonneg _) (bound_lt _) (fun h d k => ?_) r h d
    rw [carried_at hx hl]
    rw [show t.val - 1 + 1 = t.val by omega]

/-- The result array after the run. -/
theorem final : (dats m 0 c).arrAt 8 (cfgs 0).N = Cert.Reference4Ideal.Hand.whole (ax m c) (bound (fl m c)) (ag m c) := by
  refine (dats m 0 c).arrAt_eq_of_covers 8 _ (by decide +kernel) fun t _ y => ?_
  blk_simp
  rw [after0_8]
  obtain ⟨r, j, rfl⟩ : ∃ (r : Fin 128) (j : Fin 512), y = ix2 r j := ⟨y 0, y 1, eq_ix2 y⟩
  have h := rows_at hx hl t r ⟨j.val / 128, by omega⟩ ⟨j.val % 128, by omega⟩
  rw [show at4 ⟨j.val / 128, by omega⟩ ⟨j.val % 128, by omega⟩ = j from Cert.Reference4Ideal.Hand.column_of j] at h
  refine h.trans (Eq.trans ?_ (congrArg (Cert.Reference4Ideal.Hand.whole (ax m c) (bound (fl m c)) (ag m c)) (?_ : ix2 (rowAt t r) j = _)))
  · rfl
  · blk_ext [idx t]

end Cert.Kernel4Ideal.Hand

end
-- ==== Proof.HgPre.lean ====
/-
  The recurrence's precondition read: the projected rows and the lower bounds' logits are real numbers.
-/
module

public import proofs.«01_k».proof.Pre_finite4
public import proofs.«01_k».proof.Proof.InPre

@[expose] public section

noncomputable section

namespace Cert.Pre_finite4.Hand

open Cert.Pre_finite4 Idealize.ShloMosaic
open Cert.InRow

/-- The shapes of the precondition's operations fit. -/
instance facts : Facts where
  bcast_S_S16384x2048 := by decide
  reducesTo_S16384x2048_S_d0_1 := by decide
  h_S_ := by decide
  bcast_S_S2x512 := by decide
  reducesTo_S2x512_S_d0_1 := by decide

theorem read (x : FVec Ideal S16384x2048 .f32) (l : FVec Ideal S2x512 .f32) (g : FVec Ideal S128 .f32)
    (h : fn x l g = fun _ => 1#1) : (∀ i, Real' (x i)) ∧ ∀ i, Real' (l i) := by
  obtain ⟨h1, h2⟩ := IntOp.andi_eq_one.1 (congrFun h ix0)
  have : Subsingleton S_.Idx := ⟨fun a b => funext fun i => i.elim0⟩
  exact ⟨fun i => Cert.Pre_finite.Hand.real_of_all x _ i (Host.reduce_andi_all _ _ _ _ _ h1 i),
    fun i => Cert.Pre_finite.Hand.real_of_all l _ i (Host.reduce_andi_all _ _ _ _ _ h2 i)⟩

end Cert.Pre_finite4.Hand

end
-- ==== Proof.HzKernel.lean ====
/-
  The recurrent call with the first layer's lower bound, which is zero: its grid points leave what the recurrent call's
  leave with a lower bound of zero, and its host lays out the same tables.
-/
module

public import proofs.«01_k».proof.Proof.Gen.Kernel6Ideal.Value
public import proofs.«01_k».proof.Proof.HgTables

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Cert.Kernel4Ideal.Hand (lb0 lb1 lb2 lb3 cols0 cols1 cols2 cols3 state0 state1 state2 state3 stateBy rowsBy pointState pointRows
  lifted_at pointRows_at four_states four_rows levels stack five picks Level rowAt)

variable (m : (ℓ : Loc nD τ sig) → Buf (Elt Ideal) ℓ)

/-! ## A grid point -/

/-- The lower bounds. -/
abbrev zeroLow : FVec Ideal S1x512 .f32 := k0_pay4 (F := Ideal)

theorem state_B (c : Dev nD) (t : Fin cfg0.N) (ht : ¬t.val % 128 = 0) :
    (outsAt0 m c t.val t.isLt).2
      = pointState (iblk m c 1 t) (iblk m c 2 t) zeroLow (iblk m c 6 t) (outsAt0 m c (t.val - 1) (by omega)).2 := by
  rw [outsAt0_B m c t ht]
  dsimp only
  frame_out
  simp only [read_unread_whole]
  generalize (outsAt0 m c (t.val - 1) _).2 = S
  generalize iblk m c 1 t = X1
  generalize iblk m c 2 t = X2
  generalize iblk m c 6 t = X6
  refine four_states (pointState X1 X2 zeroLow X6 S) _ _ _ _ [] (fun x => ?_) (fun x => ?_) (fun x => ?_) (fun x => ?_)
  · rw [← lifted_at X1 X2 zeroLow X6 S 0, stateBy, ← lb0, ← cols0, ← cols0, ← state0]; rfl
  · rw [← lifted_at X1 X2 zeroLow X6 S 1, stateBy, ← lb1, ← cols1, ← cols1, ← state1]; rfl
  · rw [← lifted_at X1 X2 zeroLow X6 S 2, stateBy, ← lb2, ← cols2, ← cols2, ← state2]; rfl
  · rw [← lifted_at X1 X2 zeroLow X6 S 3, stateBy, ← lb3, ← cols3, ← cols3, ← state3]; rfl

theorem state_A (c : Dev nD) (t : Fin cfg0.N) (ht : t.val % 128 = 0) :
    (outsAt0 m c t.val t.isLt).2
      = pointState (iblk m c 1 t) (iblk m c 2 t) zeroLow (iblk m c 6 t) (k0_pay3 (F := Ideal)) := by
  rw [outsAt0_A m c t ht]
  dsimp only
  frame_open
  simp (disch := decide) only [↓ View.readCov_skip, ↓ View.readCov_cons_toLoadRect, ↓ View.readCov_fill]
  frame_out
  generalize iblk m c 1 t = X1
  generalize iblk m c 2 t = X2
  generalize iblk m c 6 t = X6
  refine four_states (pointState X1 X2 zeroLow X6 (k0_pay3 (F := Ideal))) _ _ _ _ _ (fun x => ?_) (fun x => ?_) (fun x => ?_) (fun x => ?_)
  · rw [← lifted_at X1 X2 zeroLow X6 (k0_pay3 (F := Ideal)) 0, stateBy, ← lb0, ← cols0, ← cols0, ← state0]; rfl
  · rw [← lifted_at X1 X2 zeroLow X6 (k0_pay3 (F := Ideal)) 1, stateBy, ← lb1, ← cols1, ← cols1, ← state1]; rfl
  · rw [← lifted_at X1 X2 zeroLow X6 (k0_pay3 (F := Ideal)) 2, stateBy, ← lb2, ← cols2, ← cols2, ← state2]; rfl
  · rw [← lifted_at X1 X2 zeroLow X6 (k0_pay3 (F := Ideal)) 3, stateBy, ← lb3, ← cols3, ← cols3, ← state3]; rfl

theorem rows_B (c : Dev nD) (t : Fin cfg0.N) (ht : ¬t.val % 128 = 0) :
    (outsAt0 m c t.val t.isLt).1
      = pointRows (iblk m c 0 t) (iblk m c 1 t) (iblk m c 2 t) (iblk m c 3 t) zeroLow (iblk m c 5 t) (iblk m c 6 t) (iblk m c 7 t)
          (outsAt0 m c (t.val - 1) (by omega)).2 := by
  rw [outsAt0_B m c t ht]
  dsimp only
  frame_out
  simp only [read_unread_whole]
  generalize (outsAt0 m c (t.val - 1) _).2 = S
  generalize iblk m c 0 t = X0
  generalize iblk m c 1 t = X1
  generalize iblk m c 2 t = X2
  generalize iblk m c 3 t = X3
  generalize iblk m c 5 t = X5
  generalize iblk m c 6 t = X6
  generalize iblk m c 7 t = X7
  refine four_rows (pointRows X0 X1 X2 X3 zeroLow X5 X6 X7 S) _ _ _ _ (fun x => ?_) (fun x => ?_) (fun x => ?_) (fun x => ?_)
  · rw [pointRows_at, rowsBy, ← lb0, ← cols0, ← cols0, ← cols0, ← cols0, ← state0]; rfl
  · rw [pointRows_at, rowsBy, ← lb1, ← cols1, ← cols1, ← cols1, ← cols1, ← state1]; rfl
  · rw [pointRows_at, rowsBy, ← lb2, ← cols2, ← cols2, ← cols2, ← cols2, ← state2]; rfl
  · rw [pointRows_at, rowsBy, ← lb3, ← cols3, ← cols3, ← cols3, ← cols3, ← state3]; rfl

theorem rows_A (c : Dev nD) (t : Fin cfg0.N) (ht : t.val % 128 = 0) :
    (outsAt0 m c t.val t.isLt).1
      = pointRows (iblk m c 0 t) (iblk m c 1 t) (iblk m c 2 t) (iblk m c 3 t) zeroLow (iblk m c 5 t) (iblk m c 6 t) (iblk m c 7 t)
          (k0_pay3 (F := Ideal)) := by
  rw [outsAt0_A m c t ht]
  dsimp only
  frame_open
  simp (disch := decide) only [↓ View.readCov_skip, ↓ View.readCov_cons_toLoadRect, ↓ View.readCov_fill]
  frame_out
  generalize iblk m c 0 t = X0
  generalize iblk m c 1 t = X1
  generalize iblk m c 2 t = X2
  generalize iblk m c 3 t = X3
  generalize iblk m c 5 t = X5
  generalize iblk m c 6 t = X6
  generalize iblk m c 7 t = X7
  refine four_rows (pointRows X0 X1 X2 X3 zeroLow X5 X6 X7 (k0_pay3 (F := Ideal))) _ _ _ _ (fun x => ?_) (fun x => ?_) (fun x => ?_) (fun x => ?_)
  · rw [pointRows_at, rowsBy, ← lb0, ← cols0, ← cols0, ← cols0, ← cols0, ← state0]; rfl
  · rw [pointRows_at, rowsBy, ← lb1, ← cols1, ← cols1, ← cols1, ← cols1, ← state1]; rfl
  · rw [pointRows_at, rowsBy, ← lb2, ← cols2, ← cols2, ← cols2, ← cols2, ← state2]; rfl
  · rw [pointRows_at, rowsBy, ← lb3, ← cols3, ← cols3, ← cols3, ← cols3, ← state3]; rfl

/-! ## The tables -/

variable (c : Dev nD)

/-- The host's lines one after another. -/
abbrev lines : List (HloOp τ sig (Elt Ideal)) :=
  hostOps0 ++ (hostOps0_1 ++ (hostOps0_2 ++ (hostOps0_3 ++ (hostOps0_4 ++ (hostOps0_5 ++ (hostOps0_6 ++ (hostOps0_7 ++ (hostOps0_8 ++
  (hostOps0_9 ++ (hostOps0_10 ++ (hostOps0_11 ++ (hostOps0_12 ++ (hostOps0_13 ++ (hostOps0_14 ++ (hostOps0_15 ++ (hostOps0_16 ++
  (hostOps0_17 ++ (hostOps0_18 ++ (hostOps0_19 ++ (hostOps0_20 ++ (hostOps0_21 ++ (hostOps0_22 ++ (hostOps0_23 ++ (hostOps0_24 ++
  (hostOps0_25 ++ hostOps0_26)))))))))))))))))))))))))

theorem staged (b : Ref sig .tc) : V m c b = StableHlo.after lines (fun b => m (c, b)) (Proc.tc.devRef b) := by
  simp only [V, List.flatten_cons, List.flatten_nil, List.append_nil]

set_option maxHeartbeats 4000000 in
theorem stage_gain : (V m c main_v96 : FVec Ideal S1x128 .f32)
    = broadcastInDim S1x128 ![1] bcast_S128_S1x128_1 (m ((c : Thread nD τ).loc main_arg2) : FVec Ideal S128 .f32) := by
  rw [staged]
  simp only [lines, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19,
    hostOps0_20, hostOps0_21, hostOps0_22, hostOps0_23, hostOps0_24, hostOps0_25, hostOps0_26, List.cons_append, List.nil_append]
  after_reads_simp

set_option maxHeartbeats 4000000 in
theorem stage_levels : (V m c main_v95 : IVec S128x128 32) = levels := by
  rw [staged]
  simp only [lines, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19,
    hostOps0_20, hostOps0_21, hostOps0_22, hostOps0_23, hostOps0_24, hostOps0_25, hostOps0_26, List.cons_append, List.nil_append]
  after_reads_simp
  rfl

set_option maxHeartbeats 4000000 in
theorem stage_stack : (V m c main_v97 : FVec Ideal S640x128 .bf16) = stack := by
  rw [staged]
  simp only [lines, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19,
    hostOps0_20, hostOps0_21, hostOps0_22, hostOps0_23, hostOps0_24, hostOps0_25, hostOps0_26, List.cons_append, List.nil_append]
  after_reads_simp
  refine congrArg (fun x : FVec Ideal S640x128 .f32 => truncf .bf16 x bitsLt_bf16_f32) (five ?_ ?_ ?_ ?_ ?_)
  · show StableHlo.upto _ _ _ (Proc.tc.devRef main_v9) = _
    after_reads_simp
    rfl
  · show StableHlo.upto _ _ _ (Proc.tc.devRef main_v17) = _
    after_reads_simp
    rfl
  · show StableHlo.upto _ _ _ (Proc.tc.devRef main_v25) = _
    after_reads_simp
    rfl
  · show StableHlo.upto _ _ _ (Proc.tc.devRef main_v33) = _
    after_reads_simp
    rfl
  · show StableHlo.upto _ _ _ (Proc.tc.devRef main_v35) = _
    after_reads_simp
    rfl

/-! ## What a grid point is given -/

theorem idx : ∀ t : Fin cfg0.N, win0_0.index t = ![t.val, 0] ∧ win0_1.index t = ![t.val, 1] ∧ win0_2.index t = ![t.val, 2]
    ∧ win0_3.index t = ![t.val, 3] ∧ win0_4.index t = ![0, 0] ∧ win0_5.index t = ![0, 0] ∧ win0_6.index t = ![0, 0]
    ∧ win0_7.index t = ![0, 0] ∧ win0_8.index t = ![t.val, 0] :=
  (by decide +kernel : ∀ t : Fin grid0.N, _)

/-- The argument arrays. -/
abbrev ax : FVec Ideal S16384x2048 .f32 := m ((c : Thread nD τ).loc main_arg0)
abbrev ag : FVec Ideal S128 .f32 := m ((c : Thread nD τ).loc main_arg2)

theorem kept_x : (V m c main_arg0 : FVec Ideal S16384x2048 .f32) = ax m c := by
  rw [staged]
  simp only [lines, hostOps0, hostOps0_1, hostOps0_2, hostOps0_3, hostOps0_4, hostOps0_5, hostOps0_6, hostOps0_7, hostOps0_8, hostOps0_9,
    hostOps0_10, hostOps0_11, hostOps0_12, hostOps0_13, hostOps0_14, hostOps0_15, hostOps0_16, hostOps0_17, hostOps0_18, hostOps0_19,
    hostOps0_20, hostOps0_21, hostOps0_22, hostOps0_23, hostOps0_24, hostOps0_25, hostOps0_26, List.cons_append, List.nil_append]
  after_reads_simp

variable (t : Fin cfg0.N) (r : Fin 128) (j : Fin 512)

theorem read0 : (iblk m c 0 t : Vec Ideal S128x512 .f32) (ix2 r j) = ax m c (ix2 (rowAt t r) ⟨j.val, by omega⟩) := by
  rw [← kept_x]
  unfold iblk
  blk_ext [idx t]

theorem read1 : (iblk m c 1 t : Vec Ideal S128x512 .f32) (ix2 r j) = ax m c (ix2 (rowAt t r) ⟨512 + j.val, by omega⟩) := by
  rw [← kept_x]
  unfold iblk
  blk_ext [idx t]

theorem read2 : (iblk m c 2 t : Vec Ideal S128x512 .f32) (ix2 r j) = ax m c (ix2 (rowAt t r) ⟨1024 + j.val, by omega⟩) := by
  rw [← kept_x]
  unfold iblk
  blk_ext [idx t]

theorem read3 : (iblk m c 3 t : Vec Ideal S128x512 .f32) (ix2 r j) = ax m c (ix2 (rowAt t r) ⟨1536 + j.val, by omega⟩) := by
  rw [← kept_x]
  unfold iblk
  blk_ext [idx t]

theorem read5 : (iblk m c 5 t : Vec Ideal S1x128 .f32) (ix2 0 r) = ag m c (ix1 r) := by
  have h : (iblk m c 5 t : Vec Ideal S1x128 .f32) (ix2 0 r) = (V m c main_v96 : FVec Ideal S1x128 .f32) (ix2 0 r) := by
    unfold iblk
    blk_ext [idx t]
  rw [h, stage_gain]
  pointwise

theorem read6 (i : Fin 640) : (iblk m c 6 t : Vec Ideal S640x128 .bf16) (ix2 i r) = (if picks i r then 1 else 0 : EReal) := by
  rw [← Cert.Kernel4Ideal.Hand.stack_picks, ← stage_stack m c]
  unfold iblk
  blk_ext [idx t]

theorem read7 (i : Fin 128) : Level ((iblk m c 7 t : Vec Ideal S128x128 .i32) (ix2 i r)) i r := by
  have h : (iblk m c 7 t : Vec Ideal S128x128 .i32) (ix2 i r) = (V m c main_v95 : IVec S128x128 32) (ix2 i r) := by
    unfold iblk
    blk_ext [idx t]
  rw [h, stage_levels]
  exact Cert.Kernel4Ideal.Hand.levels_word i r

end Cert.Kernel6Ideal.Hand
-- ==== Proof.HzReference.lean ====
/-
  The reference of the recurrent call with a lower bound of zero: its loop takes the same trips.
-/
module

public import proofs.«01_k».proof.Proof.Gen.Reference6Ideal.Run
public import proofs.«01_k».proof.Proof.HgReference

@[expose] public section

set_option maxRecDepth 16384

noncomputable section

namespace Cert.Reference6Ideal.Hand

open Cert.Reference6Ideal Cert.Reference6Ideal.Gen Idealize.ShloMosaic Idealize.ShloMosaic.TcCoe Idealize.SL.Sem Idealize.ShloMosaic.StableHlo
open Cert.Reference6Ideal.Value Cert.InRow Cert.HgRow Cert.HgCall
open Cert.Reference4Ideal.Hand (taken put rowTerm stateTerm readTerm Good whole)

variable (V0 : Valuation τ sig (Elt Ideal))

abbrev sx : FVec Ideal S16384x2048 .f32 := V0 (Proc.devRef .tc main_v3_0)
abbrev sl : FVec Ideal S4x128 .f32 := V0 (Proc.devRef .tc main_v3_1)
abbrev sg : FVec Ideal S128 .f32 := V0 (Proc.devRef .tc main_v3_2)
abbrev word : IVec S_ 32 := V0 (Proc.devRef .tc main_v3_3)
abbrev ss : FVec Ideal S4x128x128 .f32 := V0 (Proc.devRef .tc main_v3_4)
abbrev so : FVec Ideal S16384x512 .f32 := V0 (Proc.devRef .tc main_v3_5)
/-- The row a trip takes, the state it leaves and what it reads of it. -/
abbrev rowOf : FVec Ideal S4x4x128 .f32 := res_main_while0b_v6 V0
abbrev stateOf : FVec Ideal S4x128x128 .f32 := res_main_while0b_v43 V0
abbrev readOf : FVec Ideal S4x128 .f32 := res_main_while0b_v45 V0

variable {V0} in
theorem word_int {n : ℕ} (hn : word V0 = fun _ => BitVec.ofNat 32 n) (hl : n < 16384) (f : S_.Idx) : (word V0 f).toInt = (n : Int) := by
  rw [hn]; exact toInt_ofNat_of_lt (by omega)

variable {V0} in
theorem row_at (n : Fin 16384) (hn : word V0 = fun _ => BitVec.ofNat 32 n.val) (p h : Fin 4) (k : Fin 128) :
    rowOf V0 (ix3 p h k) = sx V0 (ix2 n (place p h k)) :=
  taken (sx V0) (fun k => (((![V0 (Proc.devRef .tc main_v3_3), constantI S_ 32 0#32] : Fin 2 → IVec S_ 32)) k
    (Shape.Idx.first h_S_)).toInt) n (word_int hn n.isLt _) rfl p h k

theorem state_term : stateOf V0 = stateTerm (sl V0) (rowOf V0) (ss V0) := rfl

theorem read_term : readOf V0 = readTerm (rowOf V0) (stateOf V0) := rfl

variable {V0} in
theorem out_at (n : Fin 16384) (hn : word V0 = fun _ => BitVec.ofNat 32 n.val) (i : Fin 16384) (j : Fin 512) :
    (step_main_v3_5 V0 : FVec Ideal S16384x512 .f32) (ix2 i j)
      = if i = n then rowTerm (rowOf V0) (readOf V0) (sg V0) (ix2 0 j) else so V0 (ix2 i j) :=
  put (so V0) (rowTerm (rowOf V0) (readOf V0) (sg V0))
    (fun k => (((![V0 (Proc.devRef .tc main_v3_3), constantI S_ 32 0#32] : Fin 2 → IVec S_ 32)) k (Shape.Idx.first h_S_)).toInt) n
    (word_int hn n.isLt _) rfl i j

/-! ## The loop -/

variable (m : (ℓ : Loc nD τ sig) → Buf (Elt Ideal) ℓ) (c : Dev nD)

/-- The argument arrays. -/
abbrev ax : FVec Ideal S16384x2048 .f32 := m ((c : Thread nD τ).loc main_arg0)
abbrev ag : FVec Ideal S128 .f32 := m ((c : Thread nD τ).loc main_arg2)

/-- The contents before trip `n`. -/
abbrev before (n : ℕ) : Valuation τ sig (Elt Ideal) := STEP^[n] (entryContents preI m c)

theorem entry_x : sx (before m c 0) = ax m c := by
  show entryContents preI m c (Proc.devRef .tc main_v3_0) = _
  simp only [entryContents, afterL_cons, afterL_nil]
  after_reads_simp
  rfl

theorem entry_g : sg (before m c 0) = ag m c := by
  show entryContents preI m c (Proc.devRef .tc main_v3_2) = _
  simp only [entryContents, afterL_cons, afterL_nil]
  after_reads_simp
  rfl

theorem entry_s (h : Fin 4) (k d : Fin 128) : ss (before m c 0) (ix3 h k d) = (0 : EReal) := by
  show (entryContents preI m c (Proc.devRef .tc main_v3_4) : FVec Ideal S4x128x128 .f32) (ix3 h k d) = _
  simp only [entryContents, afterL_cons, afterL_nil]
  after_reads_simp
  show broadcastInDim S4x128x128 ![] bcast_S_S4x128x128 (constant S_ .f32 0x00000000#32 : FVec Ideal S_ .f32) (ix3 h k d) = (0 : EReal)
  pointwise

theorem entry_l (h : Fin 4) (k : Fin 128) : sl (before m c 0) (ix2 h k) = ((0 : ℝ) : EReal) := by
  show (entryContents preI m c (Proc.devRef .tc main_v3_1) : FVec Ideal S4x128 .f32) (ix2 h k) = _
  simp only [entryContents, afterL_cons, afterL_nil]
  after_reads_simp
  show broadcastInDim S4x128 ![] bcast_S_S4x128 (constant S_ .f32 0x00000000#32 : FVec Ideal S_ .f32) (ix2 h k) = ((0 : ℝ) : EReal)
  pointwise
  rfl

/-- What is held before trip `n`. -/
structure Held (n : ℕ) : Prop where
  x : sx (before m c n) = ax m c
  l : ∀ h k, sl (before m c n) (ix2 h k) = ((0 : ℝ) : EReal)
  g : sg (before m c n) = ag m c
  w : word (before m c n) = fun _ => BitVec.ofNat 32 n
  r : Good (ax m c) (ag m c) (fun _ _ => 0) n (ss (before m c n)) (so (before m c n))

variable {m c}

theorem held_zero : Held m c 0 where
  x := entry_x m c
  l := entry_l m c
  g := entry_g m c
  w := ctr_entry m c
  r := ⟨fun h k d => by rw [entry_s]; rfl, fun i h d hi => absurd hi (Nat.not_lt_zero _)⟩

variable (hx : ∀ i, Real' (ax m c i))
include hx

theorem held_next {n : ℕ} (H : Held m c n) (hn : n < 16384) : Held m c (n + 1) := by
  have e : before m c (n + 1) = STEP (before m c n) := Function.iterate_succ_apply' _ _ _
  refine ⟨?_, ?_, ?_, ?_, ?_⟩
  · rw [e]; exact (STEP_main_v3_0 _).trans H.x
  · rw [e]; exact fun h k => (congrFun (STEP_main_v3_1 _) _).trans (H.l h k)
  · rw [e]; exact (STEP_main_v3_2 _).trans H.g
  · rw [e]
    refine (STEP_main_v3_3 _).trans ?_
    funext f
    show word (before m c n) f + 1#32 = BitVec.ofNat 32 (n + 1)
    rw [H.w, BitVec.ofNat_add]
  · have es : ss (before m c (n + 1)) = stateTerm (sl (before m c n)) (rowOf (before m c n)) (ss (before m c n)) := by
      rw [e]; exact STEP_main_v3_4 _
    rw [es]
    refine H.r.next hn hx H.l (fun p h k => by rw [row_at ⟨n, hn⟩ H.w, H.x]) fun i j => ?_
    rw [e, ← H.g]
    exact (congrFun (STEP_main_v3_5 _) _).trans (out_at ⟨n, hn⟩ H.w i j)

theorem held_all : ∀ n, n ≤ 16384 → Held m c n
  | 0, _ => held_zero
  | n + 1, hn => held_next hx (held_all n (by omega)) hn

/-- The reference's result. -/
theorem result_whole : (out_main_v4 (STEP^[16384] (entryContents preI m c)) : FVec Ideal S16384x512 .bf16)
    = whole (ax m c) (fun _ _ => 0) (ag m c) :=
  (held_all hx 16384 le_rfl).r.whole

end Cert.Reference6Ideal.Hand

end
-- ==== Proof.HzWhole.lean ====
/-
  The result array of the recurrent call with a lower bound of zero, after the run.
-/
module

public import proofs.«01_k».proof.Proof.HzKernel
public import proofs.«01_k».proof.Proof.HzReference

@[expose] public section

set_option maxRecDepth 16384

noncomputable section

namespace Cert.Kernel6Ideal.Hand

open Cert.Kernel6Ideal Cert.Kernel6Ideal.Gen Idealize.ShloMosaic Idealize.ShloMosaic.TcCoe Idealize.SL.Sem
open Cert.InRow Cert.HgRow Cert.HgCall
open Cert.Kernel4Ideal.Hand (Given pointState_at pointRows_result at4 rowAt)

variable (m : (ℓ : Loc nD τ sig) → Buf (Elt Ideal) ℓ) (c : Dev nD)

/-- The arguments as functions of two numbers. -/
abbrev fx : Fin 16384 → Fin 2048 → EReal := fun i j => ax m c (ix2 i j)
abbrev fg : Fin 128 → EReal := fun d => ag m c (ix1 d)

variable {m c}
variable (hx : ∀ i, Real' (ax m c i))

/-- No decay is held up. -/
abbrev zeroBound : Fin 4 → Fin 128 → ℝ := fun _ _ => 0

theorem zeroLow_at (j : Fin 512) : zeroLow (ix2 0 j) = ((0 : ℝ) : EReal) := by
  unfold zeroLow
  pointwise [k0_pay4]
  rfl

theorem k0_pay3_zero (h : Fin 4) (j k : Fin 128) : k0_pay3 (F := Ideal) (ix3 h j k) = (0 : EReal) := by
  pointwise [k0_pay3]

/-- What each point is given. -/
theorem given (t : Fin cfg0.N) : Given (fx m c) zeroBound (fg m c) t (iblk m c 0 t) (iblk m c 1 t) (iblk m c 2 t) (iblk m c 3 t)
    zeroLow (iblk m c 5 t) (iblk m c 6 t) (iblk m c 7 t) where
  query := read0 m c t
  gate := read1 m c t
  value := read2 m c t
  last := read3 m c t
  low h k := zeroLow_at _
  gain := read5 m c t
  stack i r := read6 m c t r i
  level i r := read7 m c t r i

include hx

/-- The state after each point is the recurrence's. -/
theorem carried_at : ∀ (n : ℕ) (hn : n < cfg0.N) (h : Fin 4) (d k : Fin 128),
    (outsAt0 m c n hn).2 (ix3 h d k) = (held (fx m c) zeroBound h (128 * (n + 1)) k d : EReal)
  | 0, hn, h, d, k => by
    rw [state_A m c ⟨0, hn⟩ rfl]
    exact pointState_at (given ⟨0, hn⟩) (fun i j => hx _) (fun _ _ => le_rfl) (fun _ _ => zero_lt_one) (fun h d k => k0_pay3_zero h d k) h d k
  | n + 1, hn, h, d, k => by
    have hN : cfg0.N = 128 := rfl
    rw [state_B m c ⟨n + 1, hn⟩ (by show ¬(n + 1) % 128 = 0; omega)]
    exact pointState_at (given ⟨n + 1, hn⟩) (fun i j => hx _) (fun _ _ => le_rfl) (fun _ _ => zero_lt_one) (fun h d k => carried_at n (by omega) h d k) h d k

/-- The rows each point writes are the row definitions'. -/
theorem rows_at (t : Fin cfg0.N) (r : Fin 128) (h : Fin 4) (d : Fin 128) :
    (outsAt0 m c t.val t.isLt).1 (ix2 r (at4 h d)) = result (fx m c) zeroBound (fg m c) (rowAt t r) h d := by
  have hN : cfg0.N = 128 := rfl
  by_cases ht : t.val % 128 = 0
  · rw [rows_A m c t ht]
    have h0 : t.val = 0 := by have := t.isLt; omega
    exact pointRows_result (given t) (fun i j => hx _) (fun _ _ => le_rfl) (fun _ _ => zero_lt_one) (fun h d k => by rw [k0_pay3_zero, h0]; rfl) r h d
  · rw [rows_B m c t ht]
    refine pointRows_result (given t) (fun i j => hx _) (fun _ _ => le_rfl) (fun _ _ => zero_lt_one) (fun h d k => ?_) r h d
    rw [carried_at hx]
    rw [show t.val - 1 + 1 = t.val by omega]

/-- The result array after the run. -/
theorem final : (dats m 0 c).arrAt 8 (cfgs 0).N = Cert.Reference4Ideal.Hand.whole (ax m c) zeroBound (ag m c) := by
  refine (dats m 0 c).arrAt_eq_of_covers 8 _ (by decide +kernel) fun t _ y => ?_
  blk_simp
  rw [after0_8]
  obtain ⟨r, j, rfl⟩ : ∃ (r : Fin 128) (j : Fin 512), y = ix2 r j := ⟨y 0, y 1, eq_ix2 y⟩
  have h := rows_at hx t r ⟨j.val / 128, by omega⟩ ⟨j.val % 128, by omega⟩
  rw [show at4 ⟨j.val / 128, by omega⟩ ⟨j.val % 128, by omega⟩ = j from Cert.Reference4Ideal.Hand.column_of j] at h
  refine h.trans (Eq.trans ?_ (congrArg (Cert.Reference4Ideal.Hand.whole (ax m c) zeroBound (ag m c)) (?_ : ix2 (rowAt t r) j = _)))
  · rfl
  · blk_ext [idx t]

end Cert.Kernel6Ideal.Hand

end
-- ==== Proof.HzPre.lean ====
/-
  The precondition of the recurrence with a lower bound of zero read: the projected rows are real numbers.
-/
module

public import proofs.«01_k».proof.Pre_finite6
public import proofs.«01_k».proof.Proof.InPre

@[expose] public section

noncomputable section

namespace Cert.Pre_finite6.Hand

open Cert.Pre_finite6 Idealize.ShloMosaic
open Cert.InRow

/-- The shapes of the precondition's operations fit. -/
instance facts : Facts where
  bcast_S_S16384x2048 := by decide
  reducesTo_S16384x2048_S_d0_1 := by decide
  h_S_ := by decide

theorem read (x : FVec Ideal S16384x2048 .f32) (l : FVec Ideal S2x512 .f32) (g : FVec Ideal S128 .f32)
    (h : fn x l g = fun _ => 1#1) : ∀ i, Real' (x i) := by
  have : Subsingleton S_.Idx := ⟨fun a b => funext fun i => i.elim0⟩
  exact fun i => Cert.Pre_finite.Hand.real_of_all x _ i (Host.reduce_andi_all _ _ _ _ _ (congrFun h ix0) i)

end Cert.Pre_finite6.Hand

end
-- ==== Proof.MemKernel.lean ====
/-
  The values the memory call's body computes, read at an index and set beside the row definitions.
-/
module

public import proofs.«01_k».proof.Proof.Gen.Kernel5Ideal.Frame
public import proofs.«01_k».proof.Proof.Gen.Kernel5Ideal.Value
public import proofs.«01_k».proof.Proof.InRow
public import Idealize.ShloMosaic.Lib.Pipeline.ValueKit

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Cert.InRow

variable (x : Vec Ideal S256x1024 .f32) (g : Vec Ideal S1x1024 .f32) (w : Vec Ideal S1024x512 .bf16)
  (gk : Vec Ideal S1x256 .f32) (e : Vec Ideal S256x256 .bf16)

/-- Column `c` of the projected row `r` of the memory. -/
abbrev col (r : Fin 256) (c : Fin 512) : EReal :=
  ∑ k : Fin 1024, OutRow.normed (fun k => x (ix2 r k)) (fun k => g (ix2 0 k)) k * w (ix2 k c)

/-- The projected memory. -/
theorem pay3_apply (r : Fin 256) (c : Fin 512) : k0_pay3 x g w (ix2 r c) = col x g w r c := by
  pointwise [k0_pay3]
  rfl

/-- The mean square that the call divides by, of the columns `t`, from the three parts of their squares. -/
abbrev denom (t : Fin 256 → EReal) (c : Fin 256) : EReal :=
  ((∑ k : Fin 256, t k * t k * e (ix2 k c)) + (∑ k : Fin 256, (t k * t k - t k * t k) * e (ix2 k c))
    + (∑ k : Fin 256, (t k * t k - t k * t k - (t k * t k - t k * t k)) * e (ix2 k c))) * Ideal.ofBits .f32 0x3C800000#32

/-- The keys. -/
theorem out5_apply (r : Fin 256) (c : Fin 256) :
    out0_5 x g w gk e (ix2 r c)
      = col x g w r ⟨c, by omega⟩ * Ideal.rsqrt (denom e (fun k => col x g w r ⟨k, by omega⟩) c
        + Ideal.ofBits .f32 0x358637BD#32) * gk (ix2 0 c) := by
  frame_out
  pointwise [k0_pay1, k0_pay4, k0_pay5, k0_pay6, k0_pay7]
  simp only [pay3_apply]

/-- The values. -/
theorem out6_apply (c : Fin 256) (r : Fin 256) :
    out0_6 x g w gk e (ix2 c r) = col x g w r ⟨256 + c, by omega⟩ := by
  frame_out
  pointwise [k0_pay2]
  exact pay3_apply ..

end Cert.Kernel5Ideal.Hand

end
-- ==== Proof.MemReference.lean ====
/-
  The memory reference's results read at an index, set beside the row definitions.
-/
module

public import proofs.«01_k».proof.Proof.Gen.Reference5Ideal.Run
public import proofs.«01_k».proof.Proof.InRow
public import Idealize.ShloMosaic.Lib.Pipeline.ValueKit

@[expose] public section

set_option maxRecDepth 16384

noncomputable section

namespace Cert.Reference5Ideal.Hand

open Cert.Reference5Ideal Cert.Reference5Ideal.Gen Idealize.ShloMosaic Idealize.ShloMosaic.TcCoe Idealize.SL.Sem
open Cert.InRow

variable (x : FVec Ideal S1x256x1024 .f32) (w : FVec Ideal S1024x512 .f32) (g : FVec Ideal S1024 .f32) (gk : FVec Ideal S64 .f32)

/-- The projected memory. -/
def projected : FVec Ideal S1x256x512 .f32 :=
  Host.dotGeneral dot_S1x256x1024_S1024x512_S1x256x512_2_0_01_1_n_n none
    (mulf (mulf x (broadcastInDim S1x256x1024 ![0, 1, 2] bcast_S1x256x1_S1x256x1024_0_1_2
    (Host.rsqrt (addf (Host.divf (broadcastInDim S1x256x1 ![0, 1] bcast_S1x256_S1x256x1_0_1
      (Host.reduceAdd (mulf x x) (constant S_ .f32 0x00000000#32) reducesTo_S1x256x1024_S1x256_d2 h_S_))
      (broadcastInDim S1x256x1 ![] bcast_S_S1x256x1 (constant S_ .f32 0x44800000#32)))
      (broadcastInDim S1x256x1 ![] bcast_S_S1x256x1 (constant S_ .f32 0x358637BD#32))))))
    (broadcastInDim S1x256x1024 ![0, 1, 2] bcast_S1x1x1024_S1x256x1024_0_1_2
      (broadcastInDim S1x1x1024 ![2] bcast_S1024_S1x1x1024_2 g))) w

/-- The heads of `t` divided by their root mean squares, times the gains. -/
def heads (t : FVec Ideal S1x256x256 .f32) : FVec Ideal S1x256x4x64 .f32 :=
  let y : FVec Ideal S1x256x4x64 .f32 := shapeCast _ t shapeCasts_S1x256x256_S1x256x4x64
  mulf (mulf y (broadcastInDim S1x256x4x64 ![0, 1, 2, 3] bcast_S1x256x4x1_S1x256x4x64_0_1_2_3
    (Host.rsqrt (addf (Host.divf (broadcastInDim S1x256x4x1 ![0, 1, 2] bcast_S1x256x4_S1x256x4x1_0_1_2
      (Host.reduceAdd (mulf y y) (constant S_ .f32 0x00000000#32) reducesTo_S1x256x4x64_S1x256x4_d3 h_S_))
      (broadcastInDim S1x256x4x1 ![] bcast_S_S1x256x4x1 (constant S_ .f32 0x42800000#32)))
      (broadcastInDim S1x256x4x1 ![] bcast_S_S1x256x4x1 (constant S_ .f32 0x358637BD#32))))))
    (broadcastInDim S1x256x4x64 ![0, 1, 2, 3] bcast_S1x1x1x64_S1x256x4x64_0_1_2_3
      (broadcastInDim S1x1x1x64 ![3] bcast_S64_S1x1x1x64_3 gk))

/-- The keys and the values. -/
def keys : FVec Ideal S256x256 .bf16 := truncf .bf16 (shapeCast _ (heads gk
  (extractStridedSlice S1x256x256 ![0, 0, 0] (projected x w g) slices_S1x256x512_S1x256x256_0_0_0))
  shapeCasts_S1x256x4x64_S256x256) bitsLt_bf16_f32
def values : FVec Ideal S256x256 .bf16 := truncf .bf16 (transpose S256x256 [1, 0] (shapeCast _
  (extractStridedSlice S1x256x256 ![0, 0, 256] (projected x w g) slices_S1x256x512_S1x256x256_0_0_256)
  shapeCasts_S1x256x256_S256x256) transposes_S256x256_S256x256_1_0) bitsLt_bf16_f32

/-- Column `c` of the projected row `r`. -/
abbrev col (r : Fin 256) (c : Fin 512) : EReal :=
  ∑ k : Fin 1024, OutRow.normed (fun k => x (ix3 0 r k)) (fun k => g (ix1 k)) k * w (ix2 k c)

theorem projected_apply (r : Fin 256) (c : Fin 512) : projected x w g (ix3 0 r c) = col x w g r c := by
  pointwise [projected]
  rfl

theorem heads_apply (t : FVec Ideal S1x256x256 .f32) (r : Fin 256) (h : Fin 4) (j : Fin 64) :
    heads gk t (ix4 0 r h j) = headed (fun k => t (ix3 0 r ⟨64 * h + k, by omega⟩)) (fun k => gk (ix1 k)) j := by
  pointwise [heads]
  simp only [headed, Nat.mul_comm _ 64]

theorem keys_apply (r c : Fin 256) : keys x w g gk (ix2 r c)
    = headed (fun k => col x w g r ⟨64 * (c / 64) + k, by omega⟩) (fun k => gk (ix1 k)) ⟨c % 64, by omega⟩ := by
  pointwise [keys]
  rw [heads_apply]
  congr 1
  funext k
  pointwise
  exact projected_apply ..

theorem values_apply (r c : Fin 256) : values x w g (ix2 c r) = col x w g r ⟨256 + c, by omega⟩ := by
  pointwise [values]
  exact projected_apply ..

end Cert.Reference5Ideal.Hand

end
-- ==== Proof.MemWhole.lean ====
/-
  The memory call's two result arrays after the run: every entry is the row definitions' at the argument arrays.
-/
module

public import proofs.«01_k».proof.Proof.MemKernel
public import proofs.«01_k».proof.Proof.MemReference
public import proofs.«01_k».proof.Proof.InWhole

@[expose] public section

set_option maxRecDepth 16384

noncomputable section

namespace Cert.Kernel5Ideal.Hand

open Cert.Kernel5Ideal Cert.Kernel5Ideal.Gen Idealize.ShloMosaic Idealize.ShloMosaic.TcCoe Idealize.SL.Sem
open Cert.InRow

variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

variable (t : Fin cfg0.N) (r : Fin 256)

/-- The argument arrays. -/
abbrev ax : FVec Ideal S1x256x1024 .f32 := m ((c : Thread nD τ).loc main_arg0)
abbrev aw : FVec Ideal S1024x512 .f32 := m ((c : Thread nD τ).loc main_arg1)
abbrev ag : FVec Ideal S1024 .f32 := m ((c : Thread nD τ).loc main_arg2)
abbrev ak : FVec Ideal S64 .f32 := m ((c : Thread nD τ).loc main_arg3)

/-- The host's lines one after another. -/
theorem staged (b : Ref sig .tc) : V m c b = StableHlo.after (hostOps0 ++ (hostOps0_1 ++ hostOps0_2))
    (fun b => m (c, b)) (Proc.tc.devRef b) := by
  simp only [V, List.flatten_cons, List.flatten_nil, List.append_nil]

theorem stage_x : (V m c main_v9 : FVec Ideal S256x1024 .f32) = shapeCast S256x1024 (ax m c) shapeCasts_S1x256x1024_S256x1024 := by
  rw [staged]
  simp only [hostOps0, hostOps0_1, hostOps0_2, List.cons_append, List.nil_append]
  after_reads_simp
  rfl

theorem stage_g : (V m c main_v10 : FVec Ideal S1x1024 .f32) = broadcastInDim S1x1024 ![1] bcast_S1024_S1x1024_1 (ag m c) := by
  rw [staged]
  simp only [hostOps0, hostOps0_1, hostOps0_2, List.cons_append, List.nil_append]
  after_reads_simp

theorem stage_w : (V m c main_v11 : FVec Ideal S1024x512 .bf16) = truncf .bf16 (aw m c) bitsLt_bf16_f32 := by
  rw [staged]
  simp only [hostOps0, hostOps0_1, hostOps0_2, List.cons_append, List.nil_append]
  after_reads_simp

theorem stage_k : (V m c main_v15 : FVec Ideal S1x256 .f32) = broadcastInDim S1x256 ![1] bcast_S256_S1x256_1
    (shapeCast S256 (broadcastInDim S4x64 ![0, 1] bcast_S1x64_S4x64_0_1 (shapeCast S1x64 (ak m c) shapeCasts_S64_S1x64))
      shapeCasts_S4x64_S256) := by
  rw [staged]
  simp only [hostOps0, hostOps0_1, hostOps0_2, List.cons_append, List.nil_append]
  after_reads_simp
  rfl

theorem stage_e : (V m c main_v8 : FVec Ideal S256x256 .bf16) = truncf .bf16 (select (cmpi .eq
      (Host.divsi (iotaInDim S256x256 32 0) (broadcastInDim S256x256 ![] bcast_S_S256x256 (constantI S_ 32 64#32)))
      (Host.divsi (iotaInDim S256x256 32 1) (broadcastInDim S256x256 ![] bcast_S_S256x256 (constantI S_ 32 64#32))))
    (broadcastInDim S256x256 ![] bcast_S_S256x256 (constant S_ .f32 0x3F800000#32))
    (broadcastInDim S256x256 ![] bcast_S_S256x256 (constant S_ .f32 0x00000000#32)) : FVec Ideal S256x256 .f32) bitsLt_bf16_f32 := by
  rw [staged]
  simp only [hostOps0, hostOps0_1, hostOps0_2, List.cons_append, List.nil_append]
  after_reads_simp
  rfl

theorem read_x (k : Fin 1024) : (iblk m c 0 t : Vec Ideal S256x1024 .f32) (ix2 r k) = ax m c (ix3 0 r k) := by
  have h : (iblk m c 0 t : Vec Ideal S256x1024 .f32) (ix2 r k) = (V m c main_v9 : FVec Ideal S256x1024 .f32) (ix2 r k) := by
    unfold iblk
    blk_ext [idx t]
  rw [h, stage_x]
  pointwise

theorem read_g (k : Fin 1024) : (iblk m c 1 t : Vec Ideal S1x1024 .f32) (ix2 0 k) = ag m c (ix1 k) := by
  have h : (iblk m c 1 t : Vec Ideal S1x1024 .f32) (ix2 0 k) = (V m c main_v10 : FVec Ideal S1x1024 .f32) (ix2 0 k) := by
    unfold iblk
    blk_ext [idx t]
  rw [h, stage_g]
  pointwise

theorem read_w (i : Fin 1024) (j : Fin 512) : (iblk m c 2 t : Vec Ideal S1024x512 .bf16) (ix2 i j) = aw m c (ix2 i j) := by
  have h : (iblk m c 2 t : Vec Ideal S1024x512 .bf16) (ix2 i j) = (V m c main_v11 : FVec Ideal S1024x512 .bf16) (ix2 i j) := by
    unfold iblk
    blk_ext [idx t]
  rw [h, stage_w]
  pointwise

theorem read_k (j : Fin 256) : (iblk m c 3 t : Vec Ideal S1x256 .f32) (ix2 0 j) = ak m c (ix1 ⟨j % 64, by omega⟩) := by
  have h : (iblk m c 3 t : Vec Ideal S1x256 .f32) (ix2 0 j) = (V m c main_v15 : FVec Ideal S1x256 .f32) (ix2 0 j) := by
    unfold iblk
    blk_ext [idx t]
  rw [h, stage_k]
  pointwise

theorem read_e (i j : Fin 256) : (iblk m c 4 t : Vec Ideal S256x256 .bf16) (ix2 i j)
    = (if i.val / 64 = j.val / 64 then 1 else 0 : EReal) := by
  have h : (iblk m c 4 t : Vec Ideal S256x256 .bf16) (ix2 i j) = (V m c main_v8 : FVec Ideal S256x256 .bf16) (ix2 i j) := by
    unfold iblk
    blk_ext [idx t]
  rw [h, stage_e]
  pointwise
  rw [Cert.Kernel3Ideal.Hand.quot ⟨i, by omega⟩, Cert.Kernel3Ideal.Hand.quot ⟨j, by omega⟩,
    Cert.Kernel3Ideal.Hand.same ⟨i / 64, by omega⟩ ⟨j / 64, by omega⟩]
  simp only [Fin.mk.injEq]
  split_ifs <;> rfl

/-- Column `j` of the reference's projected row. -/
abbrev rcol (j : Fin 512) : EReal := Cert.Reference5Ideal.Hand.col (ax m c) (aw m c) (ag m c) r j

theorem col_eq (j : Fin 512) : col (iblk m c 0 t) (iblk m c 1 t) (iblk m c 2 t) r j = rcol m c r j := by
  simp only [col, read_x, read_g, read_w]

/-- The memory, its projection and the norm's gains are real numbers. -/
def Finite : Prop := (∀ i, Real' (ax m c i)) ∧ (∀ i, Real' (aw m c i)) ∧ ∀ i, Real' (ag m c i)

variable {m c} in
theorem rcol_real (hf : Finite m c) (j : Fin 512) : Real' (rcol m c r j) :=
  Real'.sum fun k => (normed_real (fun _ => hf.1 _) (fun _ => hf.2.2 _) k).mul (hf.2.1 _)

/-- The call's norm of a head is the plain one: the squares are real, so their second and third parts are zero. -/
theorem head_eq (f : Fin 256 → EReal) (hf : ∀ k, Real' (f k)) (g : Fin 64 → EReal) (j : Fin 256) :
    f j * Ideal.rsqrt (denom (iblk m c 4 t) f j + Ideal.ofBits .f32 0x358637BD#32) * g ⟨j % 64, by omega⟩
      = headed (fun k => f ⟨64 * (j / 64) + k, by omega⟩) g ⟨j % 64, by omega⟩ := by
  simp only [denom, read_e, headed]
  rw [three_parts (fun k => f k * f k) _ fun k => (hf k).mul (hf k), sum_head (fun k => f k * f k), mul_head]
  simp only [Nat.div_add_mod]

open Cert.Reference5Ideal.Hand

/-- The keys. -/
theorem rows5 (hf : Finite m c) (j : Fin 256) : out0_5 (iblk m c 0 t) (iblk m c 1 t) (iblk m c 2 t) (iblk m c 3 t) (iblk m c 4 t) (ix2 r j)
      = keys (ax m c) (aw m c) (ag m c) (ak m c) (ix2 r j) := by
  rw [out5_apply, keys_apply]
  simp only [col_eq, read_k]
  exact head_eq m c t (fun k => rcol m c r ⟨k, by omega⟩) (fun k => rcol_real r hf _) (fun k => ak m c (ix1 k)) j

/-- The values. -/
theorem rows6 (j : Fin 256) : out0_6 (iblk m c 0 t) (iblk m c 1 t) (iblk m c 2 t) (iblk m c 3 t) (iblk m c 4 t) (ix2 j r)
      = values (ax m c) (aw m c) (ag m c) (ix2 j r) := by
  rw [out6_apply, values_apply, col_eq]

/-! The result arrays after the run are the reference's results at the argument arrays. -/

theorem final5 (hf : Finite m c) : (dats m 0 c).arrAt 5 (cfgs 0).N = keys (ax m c) (aw m c) (ag m c) (ak m c) := by
  refine (dats m 0 c).arrAt_eq_of_covers 5 _ (by decide +kernel) fun t _ y => ?_
  blk_simp
  rw [after0_5]
  obtain ⟨r, j, rfl⟩ : ∃ (r : Fin 256) (j : Fin 256), y = ix2 r j := ⟨y 0, y 1, eq_ix2 y⟩
  refine (rows5 m c t r hf j).trans (congrArg _ ?_)
  blk_ext [idx t]

theorem final6 : (dats m 0 c).arrAt 6 (cfgs 0).N = values (ax m c) (aw m c) (ag m c) := by
  refine (dats m 0 c).arrAt_eq_of_covers 6 _ (by decide +kernel) fun t _ y => ?_
  blk_simp
  rw [after0_6]
  obtain ⟨j, r, rfl⟩ : ∃ (j : Fin 256) (r : Fin 256), y = ix2 j r := ⟨y 0, y 1, eq_ix2 y⟩
  refine (rows6 m c t r j).trans (congrArg _ ?_)
  blk_ext [idx t]

end Cert.Kernel5Ideal.Hand

end
-- ==== Proof.MemPre.lean ====
/-
  The memory call's precondition read: the memory, its projection and the norm's gains are real numbers.
-/
module

public import proofs.«01_k».proof.Pre_finite5
public import proofs.«01_k».proof.Proof.InPre

@[expose] public section

noncomputable section

namespace Cert.Pre_finite5.Hand

open Cert.Pre_finite5 Idealize.ShloMosaic
open Cert.InRow

/-- The shapes of the precondition's operations fit. -/
instance facts : Facts where
  bcast_S_S1x256x1024 := by decide
  reducesTo_S1x256x1024_S_d0_1_2 := by decide
  h_S_ := by decide
  bcast_S_S1024x512 := by decide
  reducesTo_S1024x512_S_d0_1 := by decide
  bcast_S_S1024 := by decide
  reducesTo_S1024_S_d0 := by decide

theorem read (x : FVec Ideal S1x256x1024 .f32) (w : FVec Ideal S1024x512 .f32) (g : FVec Ideal S1024 .f32)
    (k : FVec Ideal S64 .f32) (h : fn x w g k = fun _ => 1#1) :
    (∀ i, Real' (x i)) ∧ (∀ i, Real' (w i)) ∧ ∀ i, Real' (g i) := by
  obtain ⟨h1, h2⟩ := IntOp.andi_eq_one.1 (congrFun h ix0)
  obtain ⟨h3, h4⟩ := IntOp.andi_eq_one.1 h1
  have : Subsingleton S_.Idx := ⟨fun a b => funext fun i => i.elim0⟩
  exact ⟨fun i => Cert.Pre_finite.Hand.real_of_all x _ i (Host.reduce_andi_all _ _ _ _ _ h3 i),
    fun i => Cert.Pre_finite.Hand.real_of_all w _ i (Host.reduce_andi_all _ _ _ _ _ h4 i),
    fun i => Cert.Pre_finite.Hand.real_of_all g _ i (Host.reduce_andi_all _ _ _ _ _ h2 i)⟩

end Cert.Pre_finite5.Hand

end
-- ==== Proof.lean ====
module

public import proofs.«01_k».proof.Defs
public import proofs.«01_k».proof.Proof.Gen.Kernel
public import proofs.«01_k».proof.Proof.Frame
public import proofs.«01_k».proof.Proof.Gen.Kernel2Ideal.Value
public import proofs.«01_k».proof.Proof.Gen.Reference2Ideal.Run
public import proofs.«01_k».proof.Proof.OutWhole
public import proofs.«01_k».proof.Proof.InWhole
public import proofs.«01_k».proof.Proof.InPre
public import proofs.«01_k».proof.Proof.HgWhole
public import proofs.«01_k».proof.Proof.HgPre
public import proofs.«01_k».proof.Proof.HzWhole
public import proofs.«01_k».proof.Proof.HzPre
public import proofs.«01_k».proof.Proof.MemWhole
public import proofs.«01_k».proof.Proof.MemPre
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3Ideal.Value
public import proofs.«01_k».proof.Proof.Gen.Reference3Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4Ideal.Value
public import proofs.«01_k».proof.Proof.Gen.Reference4Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel6Ideal.Value
public import proofs.«01_k».proof.Proof.Gen.Reference6Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel5Ideal.Value
public import proofs.«01_k».proof.Proof.Gen.Reference5Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import Idealize.ShloMosaic.Adequacy
public import Idealize.ShloMosaic.Init
public import Idealize.ShloMosaic.Lib.Claim

@[expose] public section

noncomputable section

namespace Cert.Proof

open Idealize.ShloMosaic Idealize.SL.Sem

/-- The sparse attention call runs to its end, its arguments and counters as it found them. -/
theorem frame_kernel : Cert.quiescent_Kernel := fun m ρ _ => Cert.Kernel.Hand.run (F := Bits) m ρ

/-- The reference runs and leaves its arguments as they were. -/
theorem frame_reference2 : Cert.quiescent_Reference2Ideal := fun m g _ =>
  (θ_run Cert.Reference2Ideal.defs _ _).mono (fun _ h => ⟨fun c => (h c).2, funext fun x => by
    rcases x with ⟨_, x⟩
    exact nomatch x⟩) (Cert.Reference2Ideal.Value.run m g)

/-- Over the extended reals the call computes the reference's result. -/
theorem equal2 : Cert.algebraic_Kernel2Ideal_Reference2Ideal := by
  pair_intro
  · run_from Cert.Kernel2Ideal.Gen.run_main m g
  · run_from Cert.Reference2Ideal.Value.run m' g'
    refine Eq.trans ?_ (Cert.Kernel2Ideal.Hand.final m c).symm
    obtain ⟨h0, h1, h2, h3, h4, h5, h6, h7⟩ := hagree c
    show Cert.Reference2Ideal.Value.res_main_v23 m' c = _
    unfold Cert.Reference2Ideal.Value.res_main_v23
    rw [h0, h1, h2, h3, h4, h5, h6, h7]
    rfl

/-- The projection's reference runs and leaves its arguments as they were. -/
theorem frame_reference3 : Cert.quiescent_Reference3Ideal := fun m g _ =>
  (θ_run Cert.Reference3Ideal.defs _ _).mono (fun _ h => ⟨fun c => (h c).2.2.2.2.2.2.2.2, funext fun x => by
    rcases x with ⟨_, x⟩
    exact nomatch x⟩) (Cert.Reference3Ideal.Value.run m g)

set_option maxHeartbeats 4000000 in
/-- Over the extended reals the projection call computes the reference's eight results. -/
theorem equal3 : Cert.algebraic_Kernel3Ideal_Reference3Ideal_pre_finite := by
  intro m g m' g' hpre hagree
  have hf (c) : Cert.Kernel3Ideal.Hand.Finite m c := Cert.Pre_finite.Hand.read _ _ _ _ _ _ (hpre c)
  refine ⟨_, _, _, _, _, _, _, _, Cert.Kernel3Ideal.Value.run_blocks m g, ?_⟩
  refine (θ_run Cert.Reference3Ideal.defs _ _).mono (fun r h c => ?_) (Cert.Reference3Ideal.Value.run m' g')
  obtain ⟨r0, r1, r2, r3, r4, r5, r6, r7, rest⟩ := h c
  obtain ⟨h0, h1, h2, h3, h4, h5⟩ := hagree c
  unfold Cert.Reference3Ideal.Value.res_main_v79 at r0
  rw [h0, h1, h2] at r0 r3 r4 r5 r6
  rw [h0, h1, h2, h3] at r1
  rw [h0, h1, h2, h4] at r2
  rw [h0, h1, h2, h5] at r7
  exact ⟨r0.trans (Cert.Kernel3Ideal.Hand.final8 m c).symm, r1.trans (Cert.Kernel3Ideal.Hand.final9 m c (hf c)).symm,
    r2.trans (Cert.Kernel3Ideal.Hand.final10 m c (hf c)).symm, r3.trans (Cert.Kernel3Ideal.Hand.final11 m c).symm,
    r4.trans (Cert.Kernel3Ideal.Hand.final12 m c (hf c)).symm, r5.trans (Cert.Kernel3Ideal.Hand.final13 m c).symm,
    r6.trans (Cert.Kernel3Ideal.Hand.final14 m c (hf c)).symm, r7.trans (Cert.Kernel3Ideal.Hand.final15 m c (hf c)).symm, rest⟩

/-- The recurrence's reference runs and leaves its arguments as they were. -/
theorem frame_reference4 : Cert.quiescent_Reference4Ideal := fun m g _ =>
  (θ_run Cert.Reference4Ideal.defs _ _).mono (fun _ h => ⟨fun c => (h c).2, funext fun x => by
    rcases x with ⟨_, x⟩
    exact nomatch x⟩) (Cert.Reference4Ideal.Value.run m g)

/-- Over the extended reals the recurrence's call computes the reference's result. -/
theorem equal4 : Cert.algebraic_Kernel4Ideal_Reference4Ideal_pre_finite4 := by
  intro m g m' g' hpre hagree
  have hf (c) := Cert.Pre_finite4.Hand.read _ _ _ (hpre c)
  refine ⟨_, Cert.Kernel4Ideal.Value.run_blocks m g, ?_⟩
  refine (θ_run Cert.Reference4Ideal.defs _ _).mono (fun r h c => ?_) (Cert.Reference4Ideal.Value.run m' g')
  obtain ⟨r0, rest⟩ := h c
  obtain ⟨h0, h1, h2⟩ := hagree c
  have e0 : Cert.Reference4Ideal.Hand.ax m' c = Cert.Kernel4Ideal.Hand.ax m c := h0
  have e1 : Cert.Reference4Ideal.Hand.al m' c = Cert.Kernel4Ideal.Hand.al m c := h1
  have e2 : Cert.Reference4Ideal.Hand.ag m' c = Cert.Kernel4Ideal.Hand.ag m c := h2
  have w := Cert.Reference4Ideal.Hand.result_whole (m := m') (c := c) (fun i => by rw [e0]; exact (hf c).1 i)
    (fun i => by rw [e1]; exact (hf c).2 i)
  rw [e0, e1, e2] at w
  exact ⟨r0.trans (w.trans (Cert.Kernel4Ideal.Hand.final (hf c).1 (hf c).2).symm), rest⟩

/-- The memory call's reference runs and leaves its arguments as they were. -/
theorem frame_reference5 : Cert.quiescent_Reference5Ideal := fun m g _ =>
  (θ_run Cert.Reference5Ideal.defs _ _).mono (fun _ h => ⟨fun c => (h c).2.2, funext fun x => by
    rcases x with ⟨_, x⟩
    exact nomatch x⟩) (Cert.Reference5Ideal.Value.run m g)

/-- Over the extended reals the memory call computes the reference's two results. -/
theorem equal5 : Cert.algebraic_Kernel5Ideal_Reference5Ideal_pre_finite5 := by
  intro m g m' g' hpre hagree
  have hf (c) : Cert.Kernel5Ideal.Hand.Finite m c := Cert.Pre_finite5.Hand.read _ _ _ _ (hpre c)
  refine ⟨_, _, Cert.Kernel5Ideal.Value.run_blocks m g, ?_⟩
  refine (θ_run Cert.Reference5Ideal.defs _ _).mono (fun r h c => ?_) (Cert.Reference5Ideal.Value.run m' g')
  obtain ⟨r0, r1, rest⟩ := h c
  obtain ⟨h0, h1, h2, h3⟩ := hagree c
  rw [h0, h1, h2, h3] at r0
  rw [h0, h1, h2] at r1
  exact ⟨r0.trans (Cert.Kernel5Ideal.Hand.final5 m c (hf c)).symm, r1.trans (Cert.Kernel5Ideal.Hand.final6 m c).symm, rest⟩

/-- The first layer's recurrence runs and leaves its arguments as they were. -/
theorem frame_reference6 : Cert.quiescent_Reference6Ideal := fun m g _ =>
  (θ_run Cert.Reference6Ideal.defs _ _).mono (fun _ h => ⟨fun c => (h c).2, funext fun x => by
    rcases x with ⟨_, x⟩
    exact nomatch x⟩) (Cert.Reference6Ideal.Value.run m g)

/-- Over the extended reals the first layer's recurrent call computes the reference's result. -/
theorem equal6 : Cert.algebraic_Kernel6Ideal_Reference6Ideal_pre_finite6 := by
  intro m g m' g' hpre hagree
  have hf (c) := Cert.Pre_finite6.Hand.read _ _ _ (hpre c)
  refine ⟨_, Cert.Kernel6Ideal.Value.run_blocks m g, ?_⟩
  refine (θ_run Cert.Reference6Ideal.defs _ _).mono (fun r h c => ?_) (Cert.Reference6Ideal.Value.run m' g')
  obtain ⟨r0, rest⟩ := h c
  obtain ⟨h0, _, h2⟩ := hagree c
  have e0 : Cert.Reference6Ideal.Hand.ax m' c = Cert.Kernel6Ideal.Hand.ax m c := h0
  have e2 : Cert.Reference6Ideal.Hand.ag m' c = Cert.Kernel6Ideal.Hand.ag m c := h2
  have w := Cert.Reference6Ideal.Hand.result_whole (m := m') (c := c) (fun i => by rw [e0]; exact hf c i)
  rw [e0, e2] at w
  exact ⟨r0.trans (w.trans (Cert.Kernel6Ideal.Hand.final (hf c)).symm), rest⟩

theorem claim : Cert.Claim := ⟨Cert.Kernel.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Hand.facts, Cert.Pre_finite4.Hand.facts, Cert.Pre_finite5.Hand.facts,
  Cert.Pre_finite6.Hand.facts, frame_kernel, fun m ρ _ => Cert.Kernel2.Gen.frame m ρ,
  fun m ρ _ => Cert.Kernel2Ideal.Gen.frame m ρ, frame_reference2, fun m ρ _ => Cert.Kernel3.Gen.frame m ρ,
  fun m ρ _ => Cert.Kernel3Ideal.Gen.frame m ρ, fun m ρ _ => Cert.Kernel3Ideal.Gen.frame m ρ, frame_reference3,
  fun m ρ _ => frame_reference3 m ρ trivial, fun m ρ _ => Cert.Kernel4.Gen.frame m ρ,
  fun m ρ _ => Cert.Kernel4Ideal.Gen.frame m ρ, fun m ρ _ => Cert.Kernel4Ideal.Gen.frame m ρ, frame_reference4,
  fun m ρ _ => frame_reference4 m ρ trivial, fun m ρ _ => Cert.Kernel5.Gen.frame m ρ,
  fun m ρ _ => Cert.Kernel5Ideal.Gen.frame m ρ, fun m ρ _ => Cert.Kernel5Ideal.Gen.frame m ρ, frame_reference5,
  fun m ρ _ => frame_reference5 m ρ trivial, fun m ρ _ => Cert.Kernel6.Gen.frame m ρ,
  fun m ρ _ => Cert.Kernel6Ideal.Gen.frame m ρ, fun m ρ _ => Cert.Kernel6Ideal.Gen.frame m ρ, frame_reference6,
  fun m ρ _ => frame_reference6 m ρ trivial, trivial, equal2, trivial, equal3, trivial, equal4, trivial, equal5, trivial, equal6⟩

end Cert.Proof

end
